-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S2048x20x128 : Shape := ⟨3, ![2048, 20, 128]⟩
abbrev S2048x16 : Shape := ⟨2, ![2048, 16]⟩
abbrev S2048 : Shape := ⟨1, ![2048]⟩
abbrev S384x128 : Shape := ⟨2, ![384, 128]⟩
abbrev S384 : Shape := ⟨1, ![384]⟩
abbrev S128 : Shape := ⟨1, ![128]⟩
abbrev S144x144 : Shape := ⟨2, ![144, 144]⟩
abbrev S144 : Shape := ⟨1, ![144]⟩
abbrev S1x4 : Shape := ⟨2, ![1, 4]⟩
abbrev S1 : Shape := ⟨1, ![1]⟩
abbrev S_ : Shape := ⟨0, ![]⟩
abbrev S128x144 : Shape := ⟨2, ![128, 144]⟩
abbrev S2x128 : Shape := ⟨2, ![2, 128]⟩
abbrev S2 : Shape := ⟨1, ![2]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S128 : S_.BroadcastsInDim S128 (![] : Fin 0 → Fin S128.rank)
  reducesTo_S128_S_d0 : S128.ReducesTo [0] S_
  bcast_S_S144x144 : S_.BroadcastsInDim S144x144 (![] : Fin 0 → Fin S144x144.rank)
  reducesTo_S144x144_S_d0_1 : S144x144.ReducesTo [0, 1] S_
  bcast_S_S144 : S_.BroadcastsInDim S144 (![] : Fin 0 → Fin S144.rank)
  reducesTo_S144_S_d0 : S144.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_
  bcast_S_S128x144 : S_.BroadcastsInDim S128x144 (![] : Fin 0 → Fin S128x144.rank)
  reducesTo_S128x144_S_d0_1 : S128x144.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg13 : FVec F S1 .f32) (main_arg15 : FVec F S128x144 .f32) (main_arg17 : FVec F S2x128 .f32) (main_v33 : IVec S_ 1) : IVec S_ 1 :=
  let main_v34 : FVec F S1 .f32 := Host.absf main_arg13
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x144 .f32 := Host.absf main_arg15
  let main_cst_14 : FVec F S_ .f32 := constant S_ .f32 0x7F800000#32
  let main_v40 : FVec F S128x144 .f32 := broadcastInDim S128x144 ![] bcast_S_S128x144 main_cst_14
  let main_v41 : IVec S128x144 1 := cmpf .olt main_v39 main_v40
  let main_c_15 : IVec S_ 1 := constantI S_ 1 1#1
  let main_v42 : IVec S_ 1 := (fun x v => Host.reduce IntOp.andi x v reducesTo_S128x144_S_d0_1 h_S_) main_v41 main_c_15
  let main_v43 : IVec S_ 1 := andi main_v38 main_v42
  let main_v44 : FVec F S2x128 .f32 := Host.absf main_arg17
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg10 : FVec F S144x144 .f32) (main_arg11 : FVec F S144 .f32) (main_arg12 : FVec F S1x4 .f32) (main_arg13 : FVec F S1 .f32) (main_arg15 : FVec F S128x144 .f32) (main_arg17 : FVec F S2x128 .f32) (main_v13 : IVec S_ 1) (main_v16 : IVec S144 1) : IVec S_ 1 :=
  let main_c_5 : IVec S_ 1 := constantI S_ 1 1#1
  let main_v17 : IVec S_ 1 := (fun x v => Host.reduce IntOp.andi x v reducesTo_S144_S_d0 h_S_) main_v16 main_c_5
  let main_v18 : IVec S_ 1 := andi main_v13 main_v17
  let main_v19 : FVec F S144x144 .f32 := Host.absf main_arg10
  let main_cst_6 : FVec F S_ .f32 := constant S_ .f32 0x7F800000#32
  let main_v20 : FVec F S144x144 .f32 := broadcastInDim S144x144 ![] bcast_S_S144x144 main_cst_6
  let main_v21 : IVec S144x144 1 := cmpf .olt main_v19 main_v20
  let main_c_7 : IVec S_ 1 := constantI S_ 1 1#1
  let main_v22 : IVec S_ 1 := (fun x v => Host.reduce IntOp.andi x v reducesTo_S144x144_S_d0_1 h_S_) main_v21 main_c_7
  let main_v23 : IVec S_ 1 := andi main_v18 main_v22
  let main_v24 : FVec F S144 .f32 := Host.absf main_arg11
  let main_cst_8 : FVec F S_ .f32 := constant S_ .f32 0x7F800000#32
  let main_v25 : FVec F S144 .f32 := broadcastInDim S144 ![] bcast_S_S144 main_cst_8
  let main_v26 : IVec S144 1 := cmpf .olt main_v24 main_v25
  let main_c_9 : IVec S_ 1 := constantI S_ 1 1#1
  let main_v27 : IVec S_ 1 := (fun x v => Host.reduce IntOp.andi x v reducesTo_S144_S_d0 h_S_) main_v26 main_c_9
  let main_v28 : IVec S_ 1 := andi main_v23 main_v27
  let main_v29 : FVec F S1x4 .f32 := Host.absf main_arg12
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  fn_part2 (F := F) main_arg13 main_arg15 main_arg17 main_v33

def fn {F : FTy → Type} [FloatOps F] (main_arg0 : FVec F S2048x20x128 .f32) (main_arg1 : FVec F S2048x16 .f32) (main_arg2 : IVec S2048 32) (main_arg3 : FVec F S384x128 .f32) (main_arg4 : FVec F S384x128 .f32) (main_arg5 : FVec F S384 .f32) (main_arg6 : FVec F S384 .f32) (main_arg7 : FVec F S128 .f32) (main_arg8 : FVec F S144x144 .f32) (main_arg9 : FVec F S144 .f32) (main_arg10 : FVec F S144x144 .f32) (main_arg11 : FVec F S144 .f32) (main_arg12 : FVec F S1x4 .f32) (main_arg13 : FVec F S1 .f32) (main_arg14 : FVec F S_ .f32) (main_arg15 : FVec F S128x144 .f32) (main_arg16 : FVec F S128 .f32) (main_arg17 : FVec F S2x128 .f32) (main_arg18 : FVec F S2 .f32) : IVec S_ 1 :=
  let main_v0 : FVec F S2048x16 .f32 := Host.absf main_arg1
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S144x144 .f32 := Host.absf main_arg8
  let main_cst_2 : FVec F S_ .f32 := constant S_ .f32 0x7F800000#32
  let main_v10 : FVec F S144x144 .f32 := broadcastInDim S144x144 ![] bcast_S_S144x144 main_cst_2
  let main_v11 : IVec S144x144 1 := cmpf .olt main_v9 main_v10
  let main_c_3 : IVec S_ 1 := constantI S_ 1 1#1
  let main_v12 : IVec S_ 1 := (fun x v => Host.reduce IntOp.andi x v reducesTo_S144x144_S_d0_1 h_S_) main_v11 main_c_3
  let main_v13 : IVec S_ 1 := andi main_v8 main_v12
  let main_v14 : FVec F S144 .f32 := Host.absf main_arg9
  let main_cst_4 : FVec F S_ .f32 := constant S_ .f32 0x7F800000#32
  let main_v15 : FVec F S144 .f32 := broadcastInDim S144 ![] bcast_S_S144 main_cst_4
  let main_v16 : IVec S144 1 := cmpf .olt main_v14 main_v15
  fn_part1 (F := F) main_arg10 main_arg11 main_arg12 main_arg13 main_arg15 main_arg17 main_v13 main_v16
-- ==== Kernel.lean ====
abbrev S2048x20x128 : Shape := ⟨3, ![2048, 20, 128]⟩
abbrev S2048x16 : Shape := ⟨2, ![2048, 16]⟩
abbrev S2048 : Shape := ⟨1, ![2048]⟩
abbrev S384x128 : Shape := ⟨2, ![384, 128]⟩
abbrev S384 : Shape := ⟨1, ![384]⟩
abbrev S128 : Shape := ⟨1, ![128]⟩
abbrev S144x144 : Shape := ⟨2, ![144, 144]⟩
abbrev S144 : Shape := ⟨1, ![144]⟩
abbrev S1x4 : Shape := ⟨2, ![1, 4]⟩
abbrev S1 : Shape := ⟨1, ![1]⟩
abbrev S_ : Shape := ⟨0, ![]⟩
abbrev S128x144 : Shape := ⟨2, ![128, 144]⟩
abbrev S2x128 : Shape := ⟨2, ![2, 128]⟩
abbrev S2 : Shape := ⟨1, ![2]⟩
abbrev S2048x2560 : Shape := ⟨2, ![2048, 2560]⟩
abbrev S2048x1 : Shape := ⟨2, ![2048, 1]⟩
abbrev S4 : Shape := ⟨1, ![4]⟩
abbrev S4x36 : Shape := ⟨2, ![4, 36]⟩
abbrev S144x1 : Shape := ⟨2, ![144, 1]⟩
abbrev S1x144 : Shape := ⟨2, ![1, 144]⟩
abbrev S2x144 : Shape := ⟨2, ![2, 144]⟩
abbrev S144x8 : Shape := ⟨2, ![144, 8]⟩
abbrev S144x2 : Shape := ⟨2, ![144, 2]⟩
abbrev S1x8 : Shape := ⟨2, ![1, 8]⟩
abbrev S1x1 : Shape := ⟨2, ![1, 1]⟩
abbrev S128x384 : Shape := ⟨2, ![128, 384]⟩
abbrev S1x384 : Shape := ⟨2, ![1, 384]⟩
abbrev S1x128 : Shape := ⟨2, ![1, 128]⟩
abbrev S2048x144 : Shape := ⟨2, ![2048, 144]⟩
abbrev S2048x128 : Shape := ⟨2, ![2048, 128]⟩
abbrev S2048x384 : Shape := ⟨2, ![2048, 384]⟩
abbrev S2048x8 : Shape := ⟨2, ![2048, 8]⟩
abbrev S256x144 : Shape := ⟨2, ![256, 144]⟩
abbrev S256x8 : Shape := ⟨2, ![256, 8]⟩
abbrev S256x2048 : Shape := ⟨2, ![256, 2048]⟩
abbrev S256 : Shape := ⟨1, ![256]⟩
abbrev S256x1 : Shape := ⟨2, ![256, 1]⟩
abbrev S2048x2 : Shape := ⟨2, ![2048, 2]⟩

abbrev nBuf : Space → Nat
  | .hbm => 78
  | .vmem => 38
  | .smem => 0
  | _ => 0

abbrev bufTy : (tb : Table) → Fin (tcTables nBuf tb) → BufTy
  | .hbm, ⟨0, _⟩ => ⟨S2048x20x128, .f32⟩
  | .hbm, ⟨1, _⟩ => ⟨S2048x16, .f32⟩
  | .hbm, ⟨2, _⟩ => ⟨S2048, .i32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S128, .f32⟩
  | .hbm, ⟨8, _⟩ => ⟨S144x144, .f32⟩
  | .hbm, ⟨9, _⟩ => ⟨S144, .f32⟩
  | .hbm, ⟨10, _⟩ => ⟨S144x144, .f32⟩
  | .hbm, ⟨11, _⟩ => ⟨S144, .f32⟩
  | .hbm, ⟨12, _⟩ => ⟨S1x4, .f32⟩
  | .hbm, ⟨13, _⟩ => ⟨S1, .f32⟩
  | .hbm, ⟨14, _⟩ => ⟨S_, .f32⟩
  | .hbm, ⟨15, _⟩ => ⟨S128x144, .f32⟩
  | .hbm, ⟨16, _⟩ => ⟨S128, .f32⟩
  | .hbm, ⟨17, _⟩ => ⟨S2x128, .f32⟩
  | .hbm, ⟨18, _⟩ => ⟨S2, .f32⟩
  | .hbm, ⟨19, _⟩ => ⟨S2048x2560, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4x36, .f32⟩
  | .hbm, ⟨38, _⟩ => ⟨S144, .f32⟩
  | .hbm, ⟨39, _⟩ => ⟨S144x1, .f32⟩
  | .hbm, ⟨40, _⟩ => ⟨S144x144, .f32⟩
  | .hbm, ⟨41, _⟩ => ⟨S144x144, .f32⟩
  | .hbm, ⟨42, _⟩ => ⟨S144x144, .f32⟩
  | .hbm, ⟨43, _⟩ => ⟨S144, .f32⟩
  | .hbm, ⟨44, _⟩ => ⟨S1x144, .f32⟩
  | .hbm, ⟨45, _⟩ => ⟨S144x144, .f32⟩
  | .hbm, ⟨46, _⟩ => ⟨S1x144, .f32⟩
  | .hbm, ⟨47, _⟩ => ⟨S2x144, .f32⟩
  | .hbm, ⟨48, _⟩ => ⟨S_, .f32⟩
  | .hbm, ⟨49, _⟩ => ⟨S144x8, .f32⟩
  | .hbm, ⟨50, _⟩ => ⟨S144x2, .f32⟩
  | .hbm, ⟨51, _⟩ => ⟨S_, .i32⟩
  | .hbm, ⟨52, _⟩ => ⟨S1, .i32⟩
  | .hbm, ⟨53, _⟩ => ⟨S144x8, .f32⟩
  | .hbm, ⟨54, _⟩ => ⟨S_, .f32⟩
  | .hbm, ⟨55, _⟩ => ⟨S1x8, .f32⟩
  | .hbm, ⟨56, _⟩ => ⟨S2, .f32⟩
  | .hbm, ⟨57, _⟩ => ⟨S2, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1x8, .f32⟩
  | .hbm, ⟨64, _⟩ => ⟨S1x1, .f32⟩
  | .hbm, ⟨65, _⟩ => ⟨S1x1, .f32⟩
  | .hbm, ⟨66, _⟩ => ⟨S128x384, .f32⟩
  | .hbm, ⟨67, _⟩ => ⟨S128x384, .f32⟩
  | .hbm, ⟨68, _⟩ => ⟨S1x384, .f32⟩
  | .hbm, ⟨69, _⟩ => ⟨S1x384, .f32⟩
  | .hbm, ⟨70, _⟩ => ⟨S1x128, .f32⟩
  | .hbm, ⟨71, _⟩ => ⟨S2048x144, .f32⟩
  | .hbm, ⟨72, _⟩ => ⟨S2048x144, .f32⟩
  | .hbm, ⟨73, _⟩ => ⟨S2048x144, .f32⟩
  | .hbm, ⟨74, _⟩ => ⟨S2048x8, .f32⟩
  | .hbm, ⟨75, _⟩ => ⟨S2048x8, .f32⟩
  | .hbm, ⟨76, _⟩ => ⟨S2048x8, .f32⟩
  | .hbm, ⟨77, _⟩ => ⟨S2048x2, .f32⟩
  | .local _ .vmem, ⟨0, _⟩ => ⟨S2048x128, .f32⟩
  | .local _ .vmem, ⟨1, _⟩ => ⟨S2048x128, .f32⟩
  | .local _ .vmem, ⟨2, _⟩ => ⟨S2048x16, .f32⟩
  | .local _ .vmem, ⟨3, _⟩ => ⟨S2048x1, .i32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1x128, .f32⟩
  | .local _ .vmem, ⟨9, _⟩ => ⟨S2048x144, .f32⟩
  | .local _ .vmem, ⟨10, _⟩ => ⟨S2048x128, .f32⟩
  | .local _ .vmem, ⟨11, _⟩ => ⟨S2048x128, .f32⟩
  | .local _ .vmem, ⟨12, _⟩ => ⟨S2048x144, .f32⟩
  | .local _ .vmem, ⟨13, _⟩ => ⟨S144x144, .f32⟩
  | .local _ .vmem, ⟨14, _⟩ => ⟨S1x144, .f32⟩
  | .local _ .vmem, ⟨15, _⟩ => ⟨S144x144, .f32⟩
  | .local _ .vmem, ⟨16, _⟩ => ⟨S1x144, .f32⟩
  | .local _ .vmem, ⟨17, _⟩ => ⟨S144x8, .f32⟩
  | .local _ .vmem, ⟨18, _⟩ => ⟨S2048x144, .f32⟩
  | .local _ .vmem, ⟨19, _⟩ => ⟨S2048x144, .f32⟩
  | .local _ .vmem, ⟨20, _⟩ => ⟨S2048x8, .f32⟩
  | .local _ .vmem, ⟨21, _⟩ => ⟨S256x144, .f32⟩
  | .local _ .vmem, ⟨22, _⟩ => ⟨S256x144, .f32⟩
  | .local _ .vmem, ⟨23, _⟩ => ⟨S2048x144, .f32⟩
  | .local _ .vmem, ⟨24, _⟩ => ⟨S1x1, .f32⟩
  | .local _ .vmem, ⟨25, _⟩ => ⟨S1x1, .f32⟩
  | .local _ .vmem, ⟨26, _⟩ => ⟨S256x8, .f32⟩
  | .local _ .vmem, ⟨27, _⟩ => ⟨S256x8, .f32⟩
  | .local _ .vmem, ⟨28, _⟩ => ⟨S256x144, .f32⟩
  | .local _ .vmem, ⟨29, _⟩ => ⟨S256x144, .f32⟩
  | .local _ .vmem, ⟨30, _⟩ => ⟨S2048x144, .f32⟩
  | .local _ .vmem, ⟨31, _⟩ => ⟨S2048x8, .f32⟩
  | .local _ .vmem, ⟨32, _⟩ => ⟨S2048x8, .f32⟩
  | .local _ .vmem, ⟨33, _⟩ => ⟨S1x1, .f32⟩
  | .local _ .vmem, ⟨34, _⟩ => ⟨S1x1, .f32⟩
  | .local _ .vmem, ⟨35, _⟩ => ⟨S1x8, .f32⟩
  | .local _ .vmem, ⟨36, _⟩ => ⟨S256x8, .f32⟩
  | .local _ .vmem, ⟨37, _⟩ => ⟨S256x8, .f32⟩
  | _, _ => ⟨S2048x20x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev main_v39_2 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v52 : BitVec 1 := Scalar.cmpi .eq arg0 c19_i32
  let v53 : BitVec 32 := Scalar.extui v52
  let c0_i32_22 : BitVec 32 := 0#32
  let v54 : BitVec 1 := Scalar.cmpi .ne v53 c0_i32_22
  v54

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S2048x144 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S144x144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S144x144 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S144x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x144 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2048x144 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S2048x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def k3_off1 (i : grid3.Coords) : Fin 2 → Nat :=
  let arg0 : BitVec 32 := BitVec.ofNat 32 (i 0).val
  let c256_i32 : BitVec 32 := 256#32
  let v9 : BitVec 32 := Scalar.muli arg0 c256_i32
  let v10 : Index := Scalar.indexCast v9
  let c0_5 : Index := 0#32
  ![v10.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x144 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x8 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== ReferenceIdeal.lean ====
abbrev S2048x20x128 : Shape := ⟨3, ![2048, 20, 128]⟩
abbrev S2048x16 : Shape := ⟨2, ![2048, 16]⟩
abbrev S2048 : Shape := ⟨1, ![2048]⟩
abbrev S384x128 : Shape := ⟨2, ![384, 128]⟩
abbrev S384 : Shape := ⟨1, ![384]⟩
abbrev S128 : Shape := ⟨1, ![128]⟩
abbrev S144x144 : Shape := ⟨2, ![144, 144]⟩
abbrev S144 : Shape := ⟨1, ![144]⟩
abbrev S1x4 : Shape := ⟨2, ![1, 4]⟩
abbrev S1 : Shape := ⟨1, ![1]⟩
abbrev S_ : Shape := ⟨0, ![]⟩
abbrev S128x144 : Shape := ⟨2, ![128, 144]⟩
abbrev S2x128 : Shape := ⟨2, ![2, 128]⟩
abbrev S2 : Shape := ⟨1, ![2]⟩
abbrev S1x128 : Shape := ⟨2, ![1, 128]⟩
abbrev S2048x128 : Shape := ⟨2, ![2048, 128]⟩
abbrev S20x2048x128 : Shape := ⟨3, ![20, 2048, 128]⟩
abbrev S1x2048x128 : Shape := ⟨3, ![1, 2048, 128]⟩
abbrev S128x384 : Shape := ⟨2, ![128, 384]⟩
abbrev S2048x384 : Shape := ⟨2, ![2048, 384]⟩
abbrev S1x384 : Shape := ⟨2, ![1, 384]⟩
abbrev S2048x1 : Shape := ⟨2, ![2048, 1]⟩
abbrev S2048x2 : Shape := ⟨2, ![2048, 2]⟩
abbrev S2048x144 : Shape := ⟨2, ![2048, 144]⟩
abbrev S1x144 : Shape := ⟨2, ![1, 144]⟩
abbrev S2048x4x36 : Shape := ⟨3, ![2048, 4, 36]⟩
abbrev S4x2048x2048 : Shape := ⟨3, ![4, 2048, 2048]⟩
abbrev S2048x2048x4 : Shape := ⟨3, ![2048, 2048, 4]⟩
abbrev S4 : Shape := ⟨1, ![4]⟩
abbrev S2048x2048 : Shape := ⟨2, ![2048, 2048]⟩
abbrev S1x2048 : Shape := ⟨2, ![1, 2048]⟩
abbrev S144x128 : Shape := ⟨2, ![144, 128]⟩
abbrev S128x2 : Shape := ⟨2, ![128, 2]⟩
abbrev S1x2 : Shape := ⟨2, ![1, 2]⟩

abbrev nBuf : Space → Nat
  | .hbm => 199
  | .vmem => 0
  | .smem => 0
  | _ => 0

abbrev hbmTy0_0 (i : Nat) : BufTy := match i % 128 with
  | 0 => ⟨S2048x20x128, .f32⟩
  | 1 => ⟨S2048x16, .f32⟩
  | 2 => ⟨S2048, .i32⟩
  | 3 => ⟨S384x128, .f32⟩
  | 4 => ⟨S384x128, .f32⟩
  | 5 => ⟨S384, .f32⟩
  | 6 => ⟨S384, .f32⟩
  | 7 => ⟨S128, .f32⟩
  | 8 => ⟨S144x144, .f32⟩
  | 9 => ⟨S144, .f32⟩
  | 10 => ⟨S144x144, .f32⟩
  | 11 => ⟨S144, .f32⟩
  | 12 => ⟨S1x4, .f32⟩
  | 13 => ⟨S1, .f32⟩
  | 14 => ⟨S_, .f32⟩
  | 15 => ⟨S128x144, .f32⟩
  | 16 => ⟨S128, .f32⟩
  | 17 => ⟨S2x128, .f32⟩
  | 18 => ⟨S2, .f32⟩
  | 19 => ⟨S1x128, .f32⟩
  | 20 => ⟨S2048x128, .f32⟩
  | 21 => ⟨S20x2048x128, .f32⟩
  | 22 => ⟨S_, .f32⟩
  | 23 => ⟨S20x2048x128, .f32⟩
  | 24 => ⟨S_, .i32⟩
  | 25 => ⟨S20x2048x128, .f32⟩
  | 26 => ⟨S384x128, .f32⟩
  | 27 => ⟨S384, .f32⟩
  | 28 => ⟨S384x128, .f32⟩
  | 29 => ⟨S384, .f32⟩
  | 30 => ⟨S_, .i32⟩
  | 31 => ⟨S2048x128, .f32⟩
  | 32 => ⟨S20x2048x128, .f32⟩
  | 33 => ⟨S_, .i32⟩
  | 34 => ⟨S_, .i1⟩
  | 35 => ⟨S_, .i32⟩
  | 36 => ⟨S_, .i32⟩
  | 37 => ⟨S1x2048x128, .f32⟩
  | 38 => ⟨S2048x128, .f32⟩
  | 39 => ⟨S128x384, .f32⟩
  | 40 => ⟨S2048x384, .f32⟩
  | 41 => ⟨S1x384, .f32⟩
  | 42 => ⟨S2048x384, .f32⟩
  | 43 => ⟨S2048x384, .f32⟩
  | 44 => ⟨S128x384, .f32⟩
  | 45 => ⟨S2048x384, .f32⟩
  | 46 => ⟨S1x384, .f32⟩
  | 47 => ⟨S2048x384, .f32⟩
  | 48 => ⟨S2048x384, .f32⟩
  | 49 => ⟨S2048x128, .f32⟩
  | 50 => ⟨S2048x128, .f32⟩
  | 51 => ⟨S2048x128, .f32⟩
  | 52 => ⟨S2048x128, .f32⟩
  | 53 => ⟨S2048x128, .f32⟩
  | 54 => ⟨S2048x128, .f32⟩
  | 55 => ⟨S2048x128, .f32⟩
  | 56 => ⟨S2048x128, .f32⟩
  | 57 => ⟨S2048x128, .f32⟩
  | 58 => ⟨S_, .f32⟩
  | 59 => ⟨S2048x128, .f32⟩
  | 60 => ⟨S2048x128, .f32⟩
  | 61 => ⟨S_, .f32⟩
  | 62 => ⟨S2048x128, .f32⟩
  | 63 => ⟨S2048x128, .f32⟩
  | 64 => ⟨S2048x128, .f32⟩
  | 65 => ⟨S2048x128, .f32⟩
  | 66 => ⟨S2048x128, .f32⟩
  | 67 => ⟨S_, .f32⟩
  | 68 => ⟨S2048x128, .f32⟩
  | 69 => ⟨S2048x128, .f32⟩
  | 70 => ⟨S_, .f32⟩
  | 71 => ⟨S2048x128, .f32⟩
  | 72 => ⟨S2048x128, .f32⟩
  | 73 => ⟨S2048x128, .f32⟩
  | 74 => ⟨S2048x128, .f32⟩
  | 75 => ⟨S2048x128, .f32⟩
  | 76 => ⟨S_, .f32⟩
  | 77 => ⟨S2048x128, .f32⟩
  | 78 => ⟨S2048x128, .f32⟩
  | 79 => ⟨S2048x128, .f32⟩
  | 80 => ⟨S2048x128, .f32⟩
  | 81 => ⟨S2048x128, .f32⟩
  | 82 => ⟨S1x2048x128, .f32⟩
  | 83 => ⟨S_, .i32⟩
  | 84 => ⟨S_, .i32⟩
  | 85 => ⟨S20x2048x128, .f32⟩
  | 86 => ⟨S_, .i32⟩
  | 87 => ⟨S_, .i32⟩
  | 88 => ⟨S_, .i32⟩
  | 89 => ⟨S2048, .i32⟩
  | 90 => ⟨S2048, .i32⟩
  | 91 => ⟨S_, .i32⟩
  | 92 => ⟨S_, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S2048, .i32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S_, .i32⟩
  | 108 => ⟨S2048, .i32⟩
  | 109 => ⟨S2048, .i1⟩
  | 110 => ⟨S_, .i32⟩
  | 111 => ⟨S2048, .i32⟩
  | 112 => ⟨S2048, .i32⟩
  | 113 => ⟨S2048, .i32⟩
  | 114 => ⟨S2048x1, .i32⟩
  | 115 => ⟨S2048x1, .i32⟩
  | 116 => ⟨S2048x2, .i32⟩
  | 117 => ⟨S2048x128, .f32⟩
  | 118 => ⟨S2048x144, .f32⟩
  | 119 => ⟨S144x144, .f32⟩
  | 120 => ⟨S2048x144, .f32⟩
  | 121 => ⟨S1x144, .f32⟩
  | 122 => ⟨S2048x144, .f32⟩
  | 123 => ⟨S2048x144, .f32⟩
  | 124 => ⟨S2048x4x36, .f32⟩
  | 125 => ⟨S144x144, .f32⟩
  | 126 => ⟨S2048x144, .f32⟩
  | 127 => ⟨S1x144, .f32⟩
  | _ => ⟨S2048x20x128, .f32⟩

abbrev hbmTy0_1 (i : Nat) : BufTy := match i % 128 with
  | 0 => ⟨S2048x144, .f32⟩
  | 1 => ⟨S2048x144, .f32⟩
  | 2 => ⟨S2048x4x36, .f32⟩
  | 3 => ⟨S4x2048x2048, .f32⟩
  | 4 => ⟨S2048x2048x4, .f32⟩
  | 5 => ⟨S_, .f32⟩
  | 6 => ⟨S_, .f32⟩
  | 7 => ⟨S2048x2048x4, .f32⟩
  | 8 => ⟨S2048x2048x4, .f32⟩
  | 9 => ⟨S4, .f32⟩
  | 10 => ⟨S2048x2048, .f32⟩
  | 11 => ⟨S_, .f32⟩
  | 12 => ⟨S2048x2048, .f32⟩
  | 13 => ⟨S2048x2048, .f32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x2048, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S2048x2048, .f32⟩
  | 27 => ⟨S2048x2048, .f32⟩
  | 28 => ⟨S2048x2048, .f32⟩
  | 29 => ⟨S2048x2048, .i1⟩
  | 30 => ⟨S_, .f32⟩
  | 31 => ⟨S_, .f32⟩
  | 32 => ⟨S2048x2048, .f32⟩
  | 33 => ⟨S2048x2048, .f32⟩
  | 34 => ⟨S2048x2048, .f32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S2048x2048, .i1⟩
  | 41 => ⟨S2048x2048, .f32⟩
  | 42 => ⟨S2048x2048, .f32⟩
  | 43 => ⟨S2048x2048, .f32⟩
  | 44 => ⟨S_, .f32⟩
  | 45 => ⟨S2048, .f32⟩
  | 46 => ⟨S_, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048x1, .f32⟩
  | 55 => ⟨S2048x2048, .f32⟩
  | 56 => ⟨S2048x2048, .f32⟩
  | 57 => ⟨S1x2048, .f32⟩
  | 58 => ⟨S2048x2048, .f32⟩
  | 59 => ⟨S2048x2048, .f32⟩
  | 60 => ⟨S144x128, .f32⟩
  | 61 => ⟨S2048x128, .f32⟩
  | 62 => ⟨S2048x128, .f32⟩
  | 63 => ⟨S1x128, .f32⟩
  | 64 => ⟨S2048x128, .f32⟩
  | 65 => ⟨S2048x128, .f32⟩
  | 66 => ⟨S128x2, .f32⟩
  | 67 => ⟨S2048x2, .f32⟩
  | 68 => ⟨S1x2, .f32⟩
  | 69 => ⟨S2048x2, .f32⟩
  | 70 => ⟨S2048x2, .f32⟩
  | _ => ⟨S2048x20x128, .f32⟩

abbrev hbmTy (i : Nat) : BufTy := match i / 128 with
  | 0 => hbmTy0_0 i
  | 1 => hbmTy0_1 i
  | _ => ⟨S2048x20x128, .f32⟩

abbrev bufTy : (tb : Table) → Fin (tcTables nBuf tb) → BufTy
  | .hbm, ⟨i, _⟩ => hbmTy i
  | _, _ => ⟨S2048x20x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_c : Ref sig .tc := ⟨.hbm, 24, rfl⟩
abbrev main_v4_0 : Ref sig .tc := ⟨.hbm, 25, rfl⟩
abbrev main_v4_1 : Ref sig .tc := ⟨.hbm, 26, rfl⟩
abbrev main_v4_2 : Ref sig .tc := ⟨.hbm, 27, rfl⟩
abbrev main_v4_3 : Ref sig .tc := ⟨.hbm, 28, rfl⟩
abbrev main_v4_4 : Ref sig .tc := ⟨.hbm, 29, rfl⟩
abbrev main_v4_5 : Ref sig .tc := ⟨.hbm, 30, rfl⟩
abbrev main_v4_6 : Ref sig .tc := ⟨.hbm, 31, rfl⟩
abbrev main_v4_7 : Ref sig .tc := ⟨.hbm, 32, rfl⟩
abbrev main_while0c_c_24 : Ref sig .tc := ⟨.hbm, 33, rfl⟩
abbrev main_while0c_v90 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v90 : Ref sig .tc := ⟨.hbm, 38, rfl⟩
abbrev main_while0b_v91 : Ref sig .tc := ⟨.hbm, 39, rfl⟩
abbrev main_while0b_v92 : Ref sig .tc := ⟨.hbm, 40, rfl⟩
abbrev main_while0b_v93 : Ref sig .tc := ⟨.hbm, 41, rfl⟩
abbrev main_while0b_v94 : Ref sig .tc := ⟨.hbm, 42, rfl⟩
abbrev main_while0b_v95 : Ref sig .tc := ⟨.hbm, 43, rfl⟩
abbrev main_while0b_v96 : Ref sig .tc := ⟨.hbm, 44, rfl⟩
abbrev main_while0b_v97 : Ref sig .tc := ⟨.hbm, 45, rfl⟩
abbrev main_while0b_v98 : Ref sig .tc := ⟨.hbm, 46, rfl⟩
abbrev main_while0b_v99 : Ref sig .tc := ⟨.hbm, 47, rfl⟩
abbrev main_while0b_v100 : Ref sig .tc := ⟨.hbm, 48, rfl⟩
abbrev main_while0b_v101 : Ref sig .tc := ⟨.hbm, 49, rfl⟩
abbrev main_while0b_v102 : Ref sig .tc := ⟨.hbm, 50, rfl⟩
abbrev main_while0b_v103 : Ref sig .tc := ⟨.hbm, 51, rfl⟩
abbrev main_while0b_v104 : Ref sig .tc := ⟨.hbm, 52, rfl⟩
abbrev main_while0b_v105 : Ref sig .tc := ⟨.hbm, 53, rfl⟩
abbrev main_while0b_v106 : Ref sig .tc := ⟨.hbm, 54, rfl⟩
abbrev main_while0b_v107 : Ref sig .tc := ⟨.hbm, 55, rfl⟩
abbrev main_while0b_v108 : Ref sig .tc := ⟨.hbm, 56, rfl⟩
abbrev main_while0b_v109 : Ref sig .tc := ⟨.hbm, 57, rfl⟩
abbrev main_while0b_cst_24 : Ref sig .tc := ⟨.hbm, 58, rfl⟩
abbrev main_while0b_v110 : Ref sig .tc := ⟨.hbm, 59, rfl⟩
abbrev main_while0b_v111 : Ref sig .tc := ⟨.hbm, 60, rfl⟩
abbrev main_while0b_cst_25 : Ref sig .tc := ⟨.hbm, 61, rfl⟩
abbrev main_while0b_v112 : Ref sig .tc := ⟨.hbm, 62, rfl⟩
abbrev main_while0b_v113 : Ref sig .tc := ⟨.hbm, 63, rfl⟩
abbrev main_while0b_v114 : Ref sig .tc := ⟨.hbm, 64, rfl⟩
abbrev main_while0b_v115 : Ref sig .tc := ⟨.hbm, 65, rfl⟩
abbrev main_while0b_v116 : Ref sig .tc := ⟨.hbm, 66, rfl⟩
abbrev main_while0b_cst_26 : Ref sig .tc := ⟨.hbm, 67, rfl⟩
abbrev main_while0b_v117 : Ref sig .tc := ⟨.hbm, 68, rfl⟩
abbrev main_while0b_v118 : Ref sig .tc := ⟨.hbm, 69, rfl⟩
abbrev main_while0b_cst_27 : Ref sig .tc := ⟨.hbm, 70, rfl⟩
abbrev main_while0b_v119 : Ref sig .tc := ⟨.hbm, 71, rfl⟩
abbrev main_while0b_v120 : Ref sig .tc := ⟨.hbm, 72, rfl⟩
abbrev main_while0b_v121 : Ref sig .tc := ⟨.hbm, 73, rfl⟩
abbrev main_while0b_v122 : Ref sig .tc := ⟨.hbm, 74, rfl⟩
abbrev main_while0b_v123 : Ref sig .tc := ⟨.hbm, 75, rfl⟩
abbrev main_while0b_cst_28 : Ref sig .tc := ⟨.hbm, 76, rfl⟩
abbrev main_while0b_v124 : Ref sig .tc := ⟨.hbm, 77, rfl⟩
abbrev main_while0b_v125 : Ref sig .tc := ⟨.hbm, 78, rfl⟩
abbrev main_while0b_v126 : Ref sig .tc := ⟨.hbm, 79, rfl⟩
abbrev main_while0b_v127 : Ref sig .tc := ⟨.hbm, 80, rfl⟩
abbrev main_while0b_v128 : Ref sig .tc := ⟨.hbm, 81, rfl⟩
abbrev main_while0b_call1_v0 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_v129 : Ref sig .tc := ⟨.hbm, 85, rfl⟩
abbrev main_while0b_c_29 : Ref sig .tc := ⟨.hbm, 86, rfl⟩
abbrev main_while0b_v130 : Ref sig .tc := ⟨.hbm, 87, rfl⟩
abbrev main_c_0 : Ref sig .tc := ⟨.hbm, 88, rfl⟩
abbrev main_v5 : Ref sig .tc := ⟨.hbm, 89, rfl⟩
abbrev main_v6 : Ref sig .tc := ⟨.hbm, 90, rfl⟩
abbrev main_c_1 : Ref sig .tc := ⟨.hbm, 91, rfl⟩
abbrev main_c_2 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v7 : Ref sig .tc := ⟨.hbm, 98, rfl⟩
abbrev main_v8 : Ref sig .tc := ⟨.hbm, 99, rfl⟩
abbrev main_c_3 : Ref sig .tc := ⟨.hbm, 100, rfl⟩
abbrev main_v9 : Ref sig .tc := ⟨.hbm, 101, rfl⟩
abbrev main_v10 : Ref sig .tc := ⟨.hbm, 102, rfl⟩
abbrev main_c_4 : Ref sig .tc := ⟨.hbm, 103, rfl⟩
abbrev main_v11 : Ref sig .tc := ⟨.hbm, 104, rfl⟩
abbrev main_v12 : Ref sig .tc := ⟨.hbm, 105, rfl⟩
abbrev main_v13 : Ref sig .tc := ⟨.hbm, 106, rfl⟩
abbrev main_c_5 : Ref sig .tc := ⟨.hbm, 107, rfl⟩
abbrev main_v14 : Ref sig .tc := ⟨.hbm, 108, rfl⟩
abbrev main_v15 : Ref sig .tc := ⟨.hbm, 109, rfl⟩
abbrev main_c_6 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_cst_7 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_cst_8 : Ref sig .tc := ⟨.hbm, 142, rfl⟩
abbrev main_v46 : Ref sig .tc := ⟨.hbm, 143, rfl⟩
abbrev main_cst_9 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_cst_10 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_cst_11 : Ref sig .tc := ⟨.hbm, 158, rfl⟩
abbrev main_cst_12 : Ref sig .tc := ⟨.hbm, 159, rfl⟩
abbrev main_call3_v0 : Ref sig .tc := ⟨.hbm, 160, rfl⟩
abbrev main_call3_v1 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_c_13 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_cst_14 : Ref sig .tc := ⟨.hbm, 172, rfl⟩
abbrev main_v68 : Ref sig .tc := ⟨.hbm, 173, rfl⟩
abbrev main_cst_15 : Ref sig .tc := ⟨.hbm, 174, rfl⟩
abbrev main_call4_v0 : Ref sig .tc := ⟨.hbm, 175, rfl⟩
abbrev main_call4_v1 : Ref sig .tc := ⟨.hbm, 176, rfl⟩
abbrev main_v69 : Ref sig .tc := ⟨.hbm, 177, rfl⟩
abbrev main_v70 : Ref sig .tc := ⟨.hbm, 178, rfl⟩
abbrev main_cst_16 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩

abbrev nD : Nat := 1
abbrev τ : Topo := Topo.v7x

variable {F : FTy → Type} [FloatOps F]

abbrev main_while0_count : Scf.Loop 32 := ⟨0#32, 20#32, 1#32⟩
-- ==== Proof.HostRead.lean ====
/- Reading one buffer after a line of host operations in which every buffer is written once: its value is its own
   operation of the values its operands have after the whole line. -/
module

public import Idealize.ShloMosaic.Lib.StableHlo.RunRead
public import Idealize.ShloMosaic.Lib.Pipeline.Frame

@[expose] public section

noncomputable section

namespace Cert.HostRead

open Idealize.ShloMosaic Idealize.ShloMosaic.TcCoe Idealize.ShloMosaic.StableHlo

variable {τ : Topo} {sig : RefSig} {Val : EltTy → Type}

/-- The part of a line after a position writes the references listed after it. -/
theorem writes_drop {ops : List (HloOp τ sig Val)} {W : List (Ref sig .tc)}
    (hW : ops.map HloOp.writes = W.map fun w => {Proc.devRef (τ := τ) .tc w}) (i : ℕ) :
    (ops.drop i).map HloOp.writes = (W.drop i).map fun w => {Proc.devRef (τ := τ) .tc w} := by
  rw [List.map_drop, hW, List.map_drop]

/-- A buffer no operation from position `i` on writes holds at that position what it holds at the end. -/
theorem before_eq {ops : List (HloOp τ sig Val)} {W : List (Ref sig .tc)}
    (hW : ops.map HloOp.writes = W.map fun w => {Proc.devRef (τ := τ) .tc w}) (i : ℕ) {r : Ref sig .tc}
    (hr : r ∉ W.drop i) (V : Valuation τ sig Val) :
    after (ops.take i) V (Proc.devRef .tc r) = after ops V (Proc.devRef .tc r) := by
  have h := after_append (ops.take i) (ops.drop i) V
  rw [List.take_append_drop] at h
  rw [h]
  exact (after_unwritten (W.drop i) (writes_drop hW i) hr _).symm

/-- A buffer written last at position `i` holds at the end what that operation leaves. -/
theorem at_eq {ops : List (HloOp τ sig Val)} {W : List (Ref sig .tc)}
    (hW : ops.map HloOp.writes = W.map fun w => {Proc.devRef (τ := τ) .tc w}) (i : ℕ) {op : HloOp τ sig Val}
    {rest : List (HloOp τ sig Val)} (hseg : ops.drop i = op :: rest) {r : Ref sig .tc}
    (hr : r ∉ W.drop (i + 1)) (V : Valuation τ sig Val) :
    after ops V (Proc.devRef .tc r) = op.result (after (ops.take i) V) (Proc.devRef .tc r) := by
  have hd : rest = ops.drop (i + 1) := by
    rw [← List.drop_drop, hseg]; rfl
  refine after_last_write (W.drop (i + 1)) hseg ?_ hr V
  rw [hd]; exact writes_drop hW (i + 1)

variable {ops : List (HloOp τ sig Val)} {W : List (Ref sig .tc)}
  (hW : ops.map HloOp.writes = W.map fun w => {Proc.devRef (τ := τ) .tc w}) (i : ℕ) {rest : List (HloOp τ sig Val)}
  {a b c y : Ref sig .tc} (V : Valuation τ sig Val)

include hW

/-- A constant. -/
theorem read0 (v : y.ty.Contents Val) {hy} (hseg : ops.drop i = nullary y v hy :: rest) (hr : y ∉ W.drop (i + 1)) :
    after ops V (Proc.devRef .tc y) = v := by
  rw [at_eq hW i hseg hr V, nullary_result]

/-- An operation of one operand. -/
theorem read1 (f : a.ty.Contents Val → y.ty.Contents Val) {ha hy} (hseg : ops.drop i = unary a y f ha hy :: rest)
    (hr : y ∉ W.drop (i + 1)) (h1 : a ∉ W.drop i) :
    after ops V (Proc.devRef .tc y) = f (after ops V (Proc.devRef .tc a)) := by
  rw [at_eq hW i hseg hr V, unary_result, before_eq hW i h1]

/-- An operation of two operands. -/
theorem read2 (f : a.ty.Contents Val → b.ty.Contents Val → y.ty.Contents Val) {ha hb hy}
    (hseg : ops.drop i = binary a b y f ha hb hy :: rest) (hr : y ∉ W.drop (i + 1)) (h1 : a ∉ W.drop i) (h2 : b ∉ W.drop i) :
    after ops V (Proc.devRef .tc y) = f (after ops V (Proc.devRef .tc a)) (after ops V (Proc.devRef .tc b)) := by
  rw [at_eq hW i hseg hr V, binary_result, before_eq hW i h1, before_eq hW i h2]

/-- An operation of three operands. -/
theorem read3 (f : c.ty.Contents Val → a.ty.Contents Val → b.ty.Contents Val → y.ty.Contents Val) {hc ha hb hy}
    (hseg : ops.drop i = ternary c a b y f hc ha hb hy :: rest) (hr : y ∉ W.drop (i + 1)) (h0 : c ∉ W.drop i)
    (h1 : a ∉ W.drop i) (h2 : b ∉ W.drop i) :
    after ops V (Proc.devRef .tc y)
      = f (after ops V (Proc.devRef .tc c)) (after ops V (Proc.devRef .tc a)) (after ops V (Proc.devRef .tc b)) := by
  rw [at_eq hW i hseg hr V, ternary_result, before_eq hW i h0, before_eq hW i h1, before_eq hW i h2]

/-- A change of shape. -/
theorem readR {he hn ha hy} (hseg : ops.drop i = reshape (Val := Val) a y he hn ha hy :: rest) (hr : y ∉ W.drop (i + 1)) (h1 : a ∉ W.drop i) :
    after ops V (Proc.devRef .tc y) = fun j => he ▸ shapeCast y.ty.shape (after ops V (Proc.devRef .tc a)) hn j := by
  rw [at_eq hW i hseg hr V, reshape_result, before_eq hW i h1]

end Cert.HostRead

end
-- ==== Proof.Kernel.Pre.lean ====
/- What the host prepares before the first call, buffer by buffer. -/
module

public import proofs.«01_k».proof.Proof.HostRead
public import proofs.«01_k».proof.Proof.Gen.Kernel.Regions

@[expose] public section

set_option maxRecDepth 16384

noncomputable section

namespace Cert.Kernel.Regions

open Cert.Kernel Cert.Kernel.Gen
open Idealize.ShloMosaic Idealize.ShloMosaic.TcCoe Idealize.ShloMosaic.StableHlo
open Cert.HostRead

variable {F : FTy → Type} [FloatOps F]

/-- The operations before the first call. -/
abbrev pre : List (HloOp τ sig (Elt F)) := hostOps0 ++ (hostOps0_1 ++ hostOps0_2)
/-- The references they write, in order. -/
abbrev preW : List (Ref sig .tc) := [main_v0, main_c, main_v1, main_v2, main_c_0, main_c_1, main_call0_v0, main_call0_v1, main_call0_v2, main_call0_v3, main_call0_v4, main_v3, main_v4, main_v5, main_cst, main_v6, main_v7, main_v8, main_v9, main_v10, main_v11, main_v12, main_v13, main_v14, main_v15, main_v16, main_v17, main_v18, main_v19, main_cst_2, main_v20, main_v21, main_c_3, main_v22, main_v23, main_cst_4, main_v24, main_v25, main_v26, main_c_5, main_v27, main_c_6, main_v28, main_v29, main_v30, main_v31, main_v32, main_v33, main_v34, main_v35, main_v36, main_v37]
/-- Each writes its own. -/
theorem preW_eq : (pre (F := F)).map HloOp.writes = preW.map fun w => {Proc.devRef (τ := τ) .tc w} := rfl
/-- They are the three stretches one after another. -/
theorem pre_after (V : Valuation τ sig (Elt F)) : after hostOps0_2 (after hostOps0_1 (after hostOps0 V)) = after pre V := by
  rw [after_append, after_append]
/-- A buffer they do not write. -/
theorem pre_keep (r : Ref sig .tc) (h : r ∉ preW) (V : Valuation τ sig (Elt F)) : after pre V (Proc.devRef .tc r) = V (Proc.devRef .tc r) :=
  after_unwritten preW preW_eq h V

/-! Each buffer as its operation of its operands. -/

/-- `main_v0` from its operands. -/
theorem pre_v0 (V : Valuation τ sig (Elt F)) : after pre V (Proc.devRef .tc main_v0) = shapeCast S2048x2560 (after pre V (Proc.devRef .tc main_arg0)) shapeCasts_S2048x20x128_S2048x2560 :=
  readR preW_eq 0 (a := main_arg0) (y := main_v0) V rfl (by decide) (by decide)
/-- `main_c` from its operands. -/
theorem pre_c (V : Valuation τ sig (Elt F)) : after pre V (Proc.devRef .tc main_c) = constantI S_ 32 1#32  :=
  read0 preW_eq 1 (y := main_c) V (constantI S_ 32 1#32) rfl (by decide)
/-- `main_v1` from its operands. -/
theorem pre_v1 (V : Valuation τ sig (Elt F)) : after pre V (Proc.devRef .tc main_v1) = broadcastInDim S2048 ![] bcast_S_S2048 (after pre V (Proc.devRef .tc main_c)) :=
  read1 preW_eq 2 (a := main_c) (y := main_v1) V (broadcastInDim S2048 ![] bcast_S_S2048 : (⟨S_, .i32⟩ : BufTy).Contents (Elt F) → (⟨S2048, .i32⟩ : BufTy).Contents (Elt F)) rfl (by decide) (by decide)
/-- `main_v2` from its operands. -/
theorem pre_v2 (V : Valuation τ sig (Elt F)) : after pre V (Proc.devRef .tc main_v2) = subi (after pre V (Proc.devRef .tc main_arg2)) (after pre V (Proc.devRef .tc main_v1)) :=
  read2 preW_eq 3 (a := main_arg2) (b := main_v1) (y := main_v2) V (subi : (⟨S2048, .i32⟩ : BufTy).Contents (Elt F) → (⟨S2048, .i32⟩ : BufTy).Contents (Elt F) → (⟨S2048, .i32⟩ : BufTy).Contents (Elt F)) rfl (by decide) (by decide) (by decide)
/-- `main_c_0` from its operands. -/
theorem pre_c_0 (V : Valuation τ sig (Elt F)) : after pre V (Proc.devRef .tc main_c_0) = constantI S_ 32 0#32  :=
  read0 preW_eq 4 (y := main_c_0) V (constantI S_ 32 0#32) rfl (by decide)
/-- `main_c_1` from its operands. -/
theorem pre_c_1 (V : Valuation τ sig (Elt F)) : after pre V (Proc.devRef .tc main_c_1) = constantI S_ 32 19#32  :=
  read0 preW_eq 5 (y := main_c_1) V (constantI S_ 32 19#32) rfl (by decide)
/-- `main_call0_v0` from its operands. -/
theorem pre_call0_v0 (V : Valuation τ sig (Elt F)) : after pre V (Proc.devRef .tc main_call0_v0) = (after pre V (Proc.devRef .tc main_c_0)) :=
  read1 preW_eq 6 (a := main_c_0) (y := main_call0_v0) V id rfl (by decide) (by decide)
/-- `main_call0_v1` from its operands. -/
theorem pre_call0_v1 (V : Valuation τ sig (Elt F)) : after pre V (Proc.devRef .tc main_call0_v1) = broadcastInDim S2048 ![] bcast_S_S2048 (after pre V (Proc.devRef .tc main_call0_v0)) :=
  read1 preW_eq 7 (a := main_call0_v0) (y := main_call0_v1) V (broadcastInDim S2048 ![] bcast_S_S2048) rfl (by decide) (by decide)
/-- `main_call0_v2` from its operands. -/
theorem pre_call0_v2 (V : Valuation τ sig (Elt F)) : after pre V (Proc.devRef .tc main_call0_v2) = maxsi (after pre V (Proc.devRef .tc main_call0_v1)) (after pre V (Proc.devRef .tc main_v2)) :=
  read2 preW_eq 8 (a := main_call0_v1) (b := main_v2) (y := main_call0_v2) V maxsi rfl (by decide) (by decide) (by decide)
/-- `main_call0_v3` from its operands. -/
theorem pre_call0_v3 (V : Valuation τ sig (Elt F)) : after pre V (Proc.devRef .tc main_call0_v3) = (after pre V (Proc.devRef .tc main_c_1)) :=
  read1 preW_eq 9 (a := main_c_1) (y := main_call0_v3) V id rfl (by decide) (by decide)
/-- `main_call0_v4` from its operands. -/
theorem pre_call0_v4 (V : Valuation τ sig (Elt F)) : after pre V (Proc.devRef .tc main_call0_v4) = broadcastInDim S2048 ![] bcast_S_S2048 (after pre V (Proc.devRef .tc main_call0_v3)) :=
  read1 preW_eq 10 (a := main_call0_v3) (y := main_call0_v4) V (broadcastInDim S2048 ![] bcast_S_S2048) rfl (by decide) (by decide)
/-- `main_v3` from its operands. -/
theorem pre_v3 (V : Valuation τ sig (Elt F)) : after pre V (Proc.devRef .tc main_v3) = minsi (after pre V (Proc.devRef .tc main_call0_v4)) (after pre V (Proc.devRef .tc main_call0_v2)) :=
  read2 preW_eq 11 (a := main_call0_v4) (b := main_call0_v2) (y := main_v3) V minsi rfl (by decide) (by decide) (by decide)
/-- `main_v4` from its operands. -/
theorem pre_v4 (V : Valuation τ sig (Elt F)) : after pre V (Proc.devRef .tc main_v4) = shapeCast S2048x1 (after pre V (Proc.devRef .tc main_v3)) shapeCasts_S2048_S2048x1 :=
  readR preW_eq 12 (a := main_v3) (y := main_v4) V rfl (by decide) (by decide)

end Cert.Kernel.Regions

end
-- ==== Proof.KernelIdeal.Gru.lean ====
/- The first call of the kernel: the recurrent cell over the time steps, carried in two scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The hidden state after a step, from the step's input block, the hidden state before it and the weights. -/
def hNext (x h : Vec F S2048x128 .f32) (wih : Vec F S128x384 .f32) (whh : Vec F S128x384 .f32) (bih bhh : Vec F S1x384 .f32) : Vec F S2048x128 .f32 :=
  k0_pay4 x h wih bih whh bhh

/-- The selected state after step `n`: the rows whose index is `n` take the new hidden state. -/
def lNext (n : ℕ) (idx : Vec F S2048x1 .i32) (hnew l : Vec F S2048x128 .f32) : Vec F S2048x128 .f32 :=
  k0_pay2 (BitVec.ofNat 32 n) hnew idx l

/-- The output block: the selected state beside the demographic columns. -/
def zOut (l : Vec F S2048x128 .f32) (xd : Vec F S2048x16 .f32) : Vec F S2048x144 .f32 :=
  View.canon [⟨Rect.unit (s := S2048x144) ![0, 128] S2048x16.size inb_S2048x144_S2048x16_0_128, xd⟩,
    ⟨Rect.unit (s := S2048x144) ![0, 0] S2048x128.size inb_S2048x144_S2048x128_0_0, l⟩]

/-- The two stores into the output cover its block. -/
theorem cover0_8 (l : Vec F S2048x128 .f32) (xd : Vec F S2048x16 .f32) (y : S2048x144.Idx) :
    ∃ pc ∈ ([⟨Rect.unit (s := S2048x144) ![0, 128] S2048x16.size inb_S2048x144_S2048x16_0_128, xd⟩,
      ⟨Rect.unit (s := S2048x144) ![0, 0] S2048x128.size inb_S2048x144_S2048x128_0_0, l⟩] : List (View.Piece (Elt F) S2048x144 .f32)), y ∈ pc.1.set :=
  View.cover_of_tiledBy [⟨Rect.unit (s := S2048x144) ![0, 128] S2048x16.size inb_S2048x144_S2048x16_0_128, xd⟩,
    ⟨Rect.unit (s := S2048x144) ![0, 0] S2048x128.size inb_S2048x144_S2048x128_0_0, l⟩] ![2048, 16] (by sl_kernel_rfl) y

/-- A store through a whole scratch buffer covers it. -/
theorem cover0_s (L : List (View.Piece (Elt F) S2048x128 .f32)) (l : Vec F S2048x128 .f32) (y : S2048x128.Idx) :
    ∃ pc ∈ ((⟨Rect.unit (s := S2048x128) ![0, 0] S2048x128.size inb_S2048x128_S2048x128_0_0, l⟩ : View.Piece (Elt F) S2048x128 .f32) :: L), y ∈ pc.1.set :=
  (View.cover_of_tiled [⟨Rect.unit (s := S2048x128) ![0, 0] S2048x128.size inb_S2048x128_S2048x128_0_0, l⟩] S2048x128.size (by rfl) y).imp
    fun pc h => ⟨List.mem_cons.mpr (.inl (List.mem_singleton.mp h.1)), h.2⟩

/-- What a whole scratch buffer reads after its last whole store: the stored payload. -/
theorem read_scratch (v : View sig .tc .vmem S2048x128 .f32) (L : List (View.Piece (Elt F) S2048x128 .f32)) (l : Vec F S2048x128 .f32) (f : v.ty.Contents (Elt F)) :
    v.read (Elt F) (v.writes (Elt F) f ((⟨Rect.unit (s := S2048x128) ![0, 0] S2048x128.size inb_S2048x128_S2048x128_0_0, l⟩ : View.Piece (Elt F) S2048x128 .f32) :: L)) = l :=
  (View.read_writes_eq_canon _ _ _ (cover0_s L l)).trans (View.canon_cons_unit_lit _ _ _ (by decide))

/-- A whole load of a scratch buffer after one whole store into it reads the stored payload. -/
theorem readCov_scratch (v : View sig .tc .vmem S2048x128 .f32) (l : Vec F S2048x128 .f32) :
    v.readCov [(⟨Rect.unit (s := S2048x128) ![0, 0] S2048x128.size inb_S2048x128_S2048x128_0_0, l⟩ : View.Piece (Elt F) S2048x128 .f32)]
      (Rect.unit (s := S2048x128) ![0, 0] S2048x128.size inb_S2048x128_S2048x128_0_0).toLoadRect = l :=
  View.readCov_unit_lit v _ l (by decide)

/-- A shape cast to the same shape changes nothing. -/
theorem pay1_eq (v : FVec F S2048x128 .f32) : k0_pay1 v = v := by
  unfold k0_pay1; exact shapeCast_self v _

/-- The condition of the first branch. -/
abbrev first0 (i : grid0.Coords) : Prop := (Scalar.cmpi .ne (Scalar.extui (Scalar.cmpi .eq (BitVec.ofNat 32 (i 0).val) 0#32)) 0#32) = 1#1
/-- The grid coordinate of a point is the point. -/
theorem coord0 (t : Fin cfg0.N) : (grid0.coords t 0).val = t.val := by
  have ht : t.val < 20 := Nat.lt_of_lt_of_eq t.isLt N_0
  have e0 : (grid0.coords t 0).val = t.val / 1 % 20 := Pipeline.Grid.coords_val t 0 (by decide) rfl
  omega
/-- The first branch is taken at the first point only. -/
theorem first0_iff (t : Fin cfg0.N) : first0 (grid0.coords t) ↔ t.val = 0 := by
  have ht : t.val < 20 := Nat.lt_of_lt_of_eq t.isLt N_0
  simp only [first0, coord0]
  word_cmp
/-- The second branch is taken at the last point only. -/
theorem last0_iff (t : Fin cfg0.N) : k0_cond2 (grid0.coords t) = 1#1 ↔ t.val = 19 := by
  have ht : t.val < 20 := Nat.lt_of_lt_of_eq t.isLt N_0
  simp only [k0_cond2, coord0]
  word_cmp

set_option maxHeartbeats 2000000 in
/-- The body at the first point. -/
theorem sound0_A (c : Dev nD) (E : Set ℕ) (i : grid0.Coords) (arg1 : Memref sig .tc .vmem S2048x128 .f32) (harg1 : arg1.IsWhole) (arg2 : Memref sig .tc .vmem S2048x16 .f32) (harg2 : arg2.IsWhole) (arg3 : Memref sig .tc .vmem S2048x1 .i32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S2048x144 .f32) (harg9 : arg9.IsWhole) (arg10 : Memref sig .tc .vmem S2048x128 .f32) (harg10 : arg10.IsWhole) (arg11 : Memref sig .tc .vmem S2048x128 .f32) (harg11 : arg11.IsWhole) (hc0 : first0 i) (hc1 : ¬ k0_cond2 i = 1#1)
    (x0 : Vec F S2048x128 .f32) (x1 : Vec F S2048x16 .f32) (x2 : Vec F S2048x1 .i32) (x3 : Vec F S128x384 .f32) (x4 : Vec F S128x384 .f32) (x5 : Vec F S1x384 .f32) (x6 : Vec F S1x384 .f32) (x7 : Vec F S1x128 .f32) (z : Vec F S2048x144 .f32) (s0 s1 : Vec F S2048x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare z ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare z ∗ owns (c : Thread nD τ) arg10 fullShare (hNext x0 (k0_pay3 x7) x3 x4 x5 x6) ∗ owns (c : Thread nD τ) arg11 fullShare (lNext (i 0).val x2 (hNext x0 (k0_pay3 x7) x3 x4 x5 x6) s1)) -∗ Q ⟨⟩))
      ⊢ wp frame (wpE (defs₀ (F := F)) Variants.none c none) E (cc0__gru_body i arg1 harg1 arg2 harg2 arg3 harg3 arg4 harg4 arg5 harg5 arg6 harg6 arg7 harg7 arg8 harg8 arg9 harg9 arg10 harg10 arg11 harg11) Q := by
  simp only [cc0__gru_body_eq_skeleton]; unfold cc0__gru_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, Hk⟩
  subst hf0 hf1 hf2 hf3 hf4 hf5 hf6 hf7 hf8 hg0 hg1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [G0]
  · iexists _; isplitr
    swap; · iexact G0
    ipureintro
    refine (read_scratch _ _ _ _).trans ?_
    refine Eq.trans (b := hNext (View.ld (arg1.view.read (Elt F) f0) (Rect.unit (s := S2048x128) ![0, 0] S2048x128.size inb_S2048x128_S2048x128_0_0)) (k0_pay3 (View.ld (arg8.view.read (Elt F) f7) (Rect.unit (s := S1x128) ![0, 0] S1x128.size inb_S1x128_S1x128_0_0))) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) ?_ (by simp (disch := decide) only [View.ld_unit_lit])
    refine (pay1_eq _).trans ?_
    unfold hNext; unfold sound0_A.sl.r sound0_A.sl.v5 sound0_A.sl.G0_1; rw [readCov_scratch]; rfl
  iexists _; isplitr
  swap; · iexact G1
  ipureintro
  refine (read_scratch _ _ _ _).trans ?_
  refine Eq.trans (b := lNext (i 0).val (View.ld (arg3.view.read (Elt F) f2) (Rect.unit (s := S2048x1) ![0, 0] S2048x1.size inb_S2048x1_S2048x1_0_0)) (hNext (View.ld (arg1.view.read (Elt F) f0) (Rect.unit (s := S2048x128) ![0, 0] S2048x128.size inb_S2048x128_S2048x128_0_0)) (k0_pay3 (View.ld (arg8.view.read (Elt F) f7) (Rect.unit (s := S1x128) ![0, 0] S1x128.size inb_S1x128_S1x128_0_0))) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) (View.ld (arg11.view.read (Elt F) g1) (Rect.unit (s := S2048x128) ![0, 0] S2048x128.size inb_S2048x128_S2048x128_0_0))) ?_ (by simp (disch := decide) only [View.ld_unit_lit])
  unfold lNext hNext; unfold sound0_A.sl.r sound0_A.sl.v5 sound0_A.sl.G0_1; rw [readCov_scratch]; rfl

set_option maxHeartbeats 2000000 in
/-- The body at a middle point. -/
theorem sound0_B (c : Dev nD) (E : Set ℕ) (i : grid0.Coords) (arg1 : Memref sig .tc .vmem S2048x128 .f32) (harg1 : arg1.IsWhole) (arg2 : Memref sig .tc .vmem S2048x16 .f32) (harg2 : arg2.IsWhole) (arg3 : Memref sig .tc .vmem S2048x1 .i32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S2048x144 .f32) (harg9 : arg9.IsWhole) (arg10 : Memref sig .tc .vmem S2048x128 .f32) (harg10 : arg10.IsWhole) (arg11 : Memref sig .tc .vmem S2048x128 .f32) (harg11 : arg11.IsWhole) (hc0 : ¬ first0 i) (hc1 : ¬ k0_cond2 i = 1#1)
    (x0 : Vec F S2048x128 .f32) (x1 : Vec F S2048x16 .f32) (x2 : Vec F S2048x1 .i32) (x3 : Vec F S128x384 .f32) (x4 : Vec F S128x384 .f32) (x5 : Vec F S1x384 .f32) (x6 : Vec F S1x384 .f32) (x7 : Vec F S1x128 .f32) (z : Vec F S2048x144 .f32) (s0 s1 : Vec F S2048x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare z ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare z ∗ owns (c : Thread nD τ) arg10 fullShare (hNext x0 s0 x3 x4 x5 x6) ∗ owns (c : Thread nD τ) arg11 fullShare (lNext (i 0).val x2 (hNext x0 s0 x3 x4 x5 x6) s1)) -∗ Q ⟨⟩))
      ⊢ wp frame (wpE (defs₀ (F := F)) Variants.none c none) E (cc0__gru_body i arg1 harg1 arg2 harg2 arg3 harg3 arg4 harg4 arg5 harg5 arg6 harg6 arg7 harg7 arg8 harg8 arg9 harg9 arg10 harg10 arg11 harg11) Q := by
  simp only [cc0__gru_body_eq_skeleton]; unfold cc0__gru_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, Hk⟩
  subst hf0 hf1 hf2 hf3 hf4 hf5 hf6 hf7 hf8 hg0 hg1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [G0]
  · iexists _; isplitr
    swap; · iexact G0
    ipureintro
    refine (read_scratch _ _ _ _).trans ?_
    refine Eq.trans (b := hNext (View.ld (arg1.view.read (Elt F) f0) (Rect.unit (s := S2048x128) ![0, 0] S2048x128.size inb_S2048x128_S2048x128_0_0)) (View.ld (arg10.view.read (Elt F) g0) (Rect.unit (s := S2048x128) ![0, 0] S2048x128.size inb_S2048x128_S2048x128_0_0)) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) ?_ (by simp (disch := decide) only [View.ld_unit_lit])
    refine (pay1_eq _).trans ?_
    rfl
  iexists _; isplitr
  swap; · iexact G1
  ipureintro
  refine (read_scratch _ _ _ _).trans ?_
  refine Eq.trans (b := lNext (i 0).val (View.ld (arg3.view.read (Elt F) f2) (Rect.unit (s := S2048x1) ![0, 0] S2048x1.size inb_S2048x1_S2048x1_0_0)) (hNext (View.ld (arg1.view.read (Elt F) f0) (Rect.unit (s := S2048x128) ![0, 0] S2048x128.size inb_S2048x128_S2048x128_0_0)) (View.ld (arg10.view.read (Elt F) g0) (Rect.unit (s := S2048x128) ![0, 0] S2048x128.size inb_S2048x128_S2048x128_0_0)) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) (View.ld (arg11.view.read (Elt F) g1) (Rect.unit (s := S2048x128) ![0, 0] S2048x128.size inb_S2048x128_S2048x128_0_0))) ?_ (by simp (disch := decide) only [View.ld_unit_lit])
  rfl

set_option maxHeartbeats 2000000 in
/-- The body at the last point. -/
theorem sound0_C (c : Dev nD) (E : Set ℕ) (i : grid0.Coords) (arg1 : Memref sig .tc .vmem S2048x128 .f32) (harg1 : arg1.IsWhole) (arg2 : Memref sig .tc .vmem S2048x16 .f32) (harg2 : arg2.IsWhole) (arg3 : Memref sig .tc .vmem S2048x1 .i32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S2048x144 .f32) (harg9 : arg9.IsWhole) (arg10 : Memref sig .tc .vmem S2048x128 .f32) (harg10 : arg10.IsWhole) (arg11 : Memref sig .tc .vmem S2048x128 .f32) (harg11 : arg11.IsWhole) (hc0 : ¬ first0 i) (hc1 : k0_cond2 i = 1#1)
    (x0 : Vec F S2048x128 .f32) (x1 : Vec F S2048x16 .f32) (x2 : Vec F S2048x1 .i32) (x3 : Vec F S128x384 .f32) (x4 : Vec F S128x384 .f32) (x5 : Vec F S1x384 .f32) (x6 : Vec F S1x384 .f32) (x7 : Vec F S1x128 .f32) (s0 s1 : Vec F S2048x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (zOut (lNext (i 0).val x2 (hNext x0 s0 x3 x4 x5 x6) s1) x1) ∗ owns (c : Thread nD τ) arg10 fullShare (hNext x0 s0 x3 x4 x5 x6) ∗ owns (c : Thread nD τ) arg11 fullShare (lNext (i 0).val x2 (hNext x0 s0 x3 x4 x5 x6) s1)) -∗ Q ⟨⟩))
      ⊢ wp frame (wpE (defs₀ (F := F)) Variants.none c none) E (cc0__gru_body i arg1 harg1 arg2 harg2 arg3 harg3 arg4 harg4 arg5 harg5 arg6 harg6 arg7 harg7 arg8 harg8 arg9 harg9 arg10 harg10 arg11 harg11) Q := by
  simp only [cc0__gru_body_eq_skeleton]; unfold cc0__gru_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g0, %hg0, G0⟩, ⟨%g1, %hg1, G1⟩, Hk⟩
  subst hf0 hf1 hf2 hf3 hf4 hf5 hf6 hf7 hg0 hg1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _ _)).trans ?_
    unfold zOut
    refine Eq.trans (b := View.canon [⟨Rect.unit (s := S2048x144) ![0, 128] S2048x16.size inb_S2048x144_S2048x16_0_128, (View.ld (arg2.view.read (Elt F) f1) (Rect.unit (s := S2048x16) ![0, 0] S2048x16.size inb_S2048x16_S2048x16_0_0))⟩, ⟨Rect.unit (s := S2048x144) ![0, 0] S2048x128.size inb_S2048x144_S2048x128_0_0, lNext (i 0).val (View.ld (arg3.view.read (Elt F) f2) (Rect.unit (s := S2048x1) ![0, 0] S2048x1.size inb_S2048x1_S2048x1_0_0)) (hNext (View.ld (arg1.view.read (Elt F) f0) (Rect.unit (s := S2048x128) ![0, 0] S2048x128.size inb_S2048x128_S2048x128_0_0)) (View.ld (arg10.view.read (Elt F) g0) (Rect.unit (s := S2048x128) ![0, 0] S2048x128.size inb_S2048x128_S2048x128_0_0)) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) (View.ld (arg11.view.read (Elt F) g1) (Rect.unit (s := S2048x128) ![0, 0] S2048x128.size inb_S2048x128_S2048x128_0_0))⟩]) ?_ (by simp (disch := decide) only [View.ld_unit_lit])
    unfold sound0_C.sl.v55 sound0_C.sl.G1_1; rw [readCov_scratch]; rfl
  isplitl [G0]
  · iexists _; isplitr
    swap; · iexact G0
    ipureintro
    refine (read_scratch _ _ _ _).trans ?_
    refine Eq.trans (b := hNext (View.ld (arg1.view.read (Elt F) f0) (Rect.unit (s := S2048x128) ![0, 0] S2048x128.size inb_S2048x128_S2048x128_0_0)) (View.ld (arg10.view.read (Elt F) g0) (Rect.unit (s := S2048x128) ![0, 0] S2048x128.size inb_S2048x128_S2048x128_0_0)) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) ?_ (by simp (disch := decide) only [View.ld_unit_lit])
    refine (pay1_eq _).trans ?_
    rfl
  iexists _; isplitr
  swap; · iexact G1
  ipureintro
  refine (read_scratch _ _ _ _).trans ?_
  refine Eq.trans (b := lNext (i 0).val (View.ld (arg3.view.read (Elt F) f2) (Rect.unit (s := S2048x1) ![0, 0] S2048x1.size inb_S2048x1_S2048x1_0_0)) (hNext (View.ld (arg1.view.read (Elt F) f0) (Rect.unit (s := S2048x128) ![0, 0] S2048x128.size inb_S2048x128_S2048x128_0_0)) (View.ld (arg10.view.read (Elt F) g0) (Rect.unit (s := S2048x128) ![0, 0] S2048x128.size inb_S2048x128_S2048x128_0_0)) (View.ld (arg4.view.read (Elt F) f3) (Rect.unit (s := S128x384) ![0, 0] S128x384.size inb_S128x384_S128x384_0_0)) (View.ld (arg5.view.read (Elt F) f4) (Rect.unit (s := S128x384) ![0, 0] S128x384.size inb_S128x384_S128x384_0_0)) (View.ld (arg6.view.read (Elt F) f5) (Rect.unit (s := S1x384) ![0, 0] S1x384.size inb_S1x384_S1x384_0_0)) (View.ld (arg7.view.read (Elt F) f6) (Rect.unit (s := S1x384) ![0, 0] S1x384.size inb_S1x384_S1x384_0_0))) (View.ld (arg11.view.read (Elt F) g1) (Rect.unit (s := S2048x128) ![0, 0] S2048x128.size inb_S2048x128_S2048x128_0_0))) ?_ (by simp (disch := decide) only [View.ld_unit_lit])
  rfl

variable (V : (c : Dev nD) → (b : Ref sig .tc) → Buf (Elt F) ((c : Thread nD τ).loc b))

/-- The block of window `w` at grid point `t`, read off the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden state before step `n`. -/
def hAt (c : Dev nD) : ℕ → Vec F S2048x128 .f32
  | 0 => k0_pay3 (blk0 V c 7 ⟨0, by rw [show cfg0.N = 20 from N_0]; decide⟩)
  | n + 1 => if h : n < cfg0.N then hNext (blk0 V c 0 ⟨n, h⟩) (hAt c n) (blk0 V c 3 ⟨n, h⟩) (blk0 V c 4 ⟨n, h⟩) (blk0 V c 5 ⟨n, h⟩) (blk0 V c 6 ⟨n, h⟩) else hAt c n

/-- The selected state before step `n`, from what the scratch held at the start. -/
def lAt (c : Dev nD) (L : Vec F S2048x128 .f32) : ℕ → Vec F S2048x128 .f32
  | 0 => L
  | n + 1 => if h : n < cfg0.N then lNext n (blk0 V c 2 ⟨n, h⟩) (hAt V c (n + 1)) (lAt c L n) else lAt c L n

/-- One step of the hidden state. -/
theorem hAt_succ (c : Dev nD) (t : Fin cfg0.N) : hAt V c (t.val + 1) = hNext (blk0 V c 0 t) (hAt V c t.val) (blk0 V c 3 t) (blk0 V c 4 t) (blk0 V c 5 t) (blk0 V c 6 t) := by
  conv_lhs => unfold hAt
  rw [dif_pos t.isLt]
/-- One step of the selected state. -/
theorem lAt_succ (c : Dev nD) (L : Vec F S2048x128 .f32) (t : Fin cfg0.N) :
    lAt V c L (t.val + 1) = lNext t.val (blk0 V c 2 t) (hAt V c (t.val + 1)) (lAt V c L t.val) := by
  conv_lhs => unfold lAt
  rw [dif_pos t.isLt]

/-- The carried scratch buffer of the hidden state, -/
abbrev scM0 : Memref sig .tc .vmem S2048x128 .f32 := Memref.whole cc0_scratch0
/-- and of the selected state. -/
abbrev scM1 : Memref sig .tc .vmem S2048x128 .f32 := Memref.whole cc0_scratch1

/-- What is held before step `n`: the hidden state (anything before the first step), the selected state as it follows from
    whatever the scratch held at the start, the other scoped buffers and the generator's register. -/
def Phi0 (c : Dev nD) (n : ℕ) : sProp 𝕄 :=
  iprop(∃ (H L : Vec F S2048x128 .f32), owns (c : Thread nD τ) scM0 fullShare (if n = 0 then H else hAt V c n)
    ∗ owns (c : Thread nD τ) scM1 fullShare (lAt V c L n)
    ∗ Pipeline.scopedRestBut spec0 c [cc0_scratch0, cc0_scratch1] ∗ (∃ r, prngReg c r))

/-- The proof data of this call. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => zOut (lAt V c (hAt V c 0) 20) (blk0 V c 1 t)
  Φ t := Phi0 V c t.val
  q _ := fullShare
  owed _ := 0

/-- The arrays of the proof data are those the call finds. -/
theorem arr0 (c : Dev nD) (w : Fin cfg0.W) : (dat0 V c).A w = V c (Pipeline.arrRef spec0 w) := by
  dsimp only [dat0]

/-- Window 0's buffer after the body. -/
theorem after0_0 (c : Dev nD) (t : Fin cfg0.N) : (dat0 V c).after 0 t = blk0 V c 0 t := by dsimp only [dat0]
/-- Window 1's buffer after the body. -/
theorem after0_1 (c : Dev nD) (t : Fin cfg0.N) : (dat0 V c).after 1 t = blk0 V c 1 t := by dsimp only [dat0]
/-- Window 2's buffer after the body. -/
theorem after0_2 (c : Dev nD) (t : Fin cfg0.N) : (dat0 V c).after 2 t = blk0 V c 2 t := by dsimp only [dat0]
/-- Window 3's buffer after the body. -/
theorem after0_3 (c : Dev nD) (t : Fin cfg0.N) : (dat0 V c).after 3 t = blk0 V c 3 t := by dsimp only [dat0]
/-- Window 4's buffer after the body. -/
theorem after0_4 (c : Dev nD) (t : Fin cfg0.N) : (dat0 V c).after 4 t = blk0 V c 4 t := by dsimp only [dat0]
/-- Window 5's buffer after the body. -/
theorem after0_5 (c : Dev nD) (t : Fin cfg0.N) : (dat0 V c).after 5 t = blk0 V c 5 t := by dsimp only [dat0]
/-- Window 6's buffer after the body. -/
theorem after0_6 (c : Dev nD) (t : Fin cfg0.N) : (dat0 V c).after 6 t = blk0 V c 6 t := by dsimp only [dat0]
/-- Window 7's buffer after the body. -/
theorem after0_7 (c : Dev nD) (t : Fin cfg0.N) : (dat0 V c).after 7 t = blk0 V c 7 t := by dsimp only [dat0]
/-- Window 8's buffer after the body. -/
theorem after0_8 (c : Dev nD) (t : Fin cfg0.N) : (dat0 V c).after 8 t = zOut (lAt V c (hAt V c 0) 20) (blk0 V c 1 t) := by dsimp only [dat0]
/-- Input 0's staging buffer holds the window's block at every point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [arr0]; try rfl) t d).trans
    (by unfold Dat.fetched Dat.blockOf blk0; rw [arr0]; try rfl)
/-- Input 1's staging buffer holds the window's block at every point. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [arr0]; try rfl) t d).trans
    (by unfold Dat.fetched Dat.blockOf blk0; rw [arr0]; try rfl)
/-- Input 2's staging buffer holds the window's block at every point. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [arr0]; try rfl) t d).trans
    (by unfold Dat.fetched Dat.blockOf blk0; rw [arr0]; try rfl)
/-- Input 3's staging buffer holds the window's block at every point. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [arr0]; try rfl) t d).trans
    (by unfold Dat.fetched Dat.blockOf blk0; rw [arr0]; try rfl)
/-- Input 4's staging buffer holds the window's block at every point. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [arr0]; try rfl) t d).trans
    (by unfold Dat.fetched Dat.blockOf blk0; rw [arr0]; try rfl)
/-- Input 5's staging buffer holds the window's block at every point. -/
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [arr0]; try rfl) t d).trans
    (by unfold Dat.fetched Dat.blockOf blk0; rw [arr0]; try rfl)
/-- Input 6's staging buffer holds the window's block at every point. -/
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [arr0]; try rfl) t d).trans
    (by unfold Dat.fetched Dat.blockOf blk0; rw [arr0]; try rfl)
/-- Input 7's staging buffer holds the window's block at every point. -/
theorem before0_7 (c : Dev nD) (t : Fin cfg0.N) (d) : (dat0 V c).before 7 t d = blk0 V c 7 t :=
  ((dat0 V c).before_in_eq_fetched 7 rfl (fun _ => rfl) (fun _ _ _ => rfl)
    (fun t => by rw [after0_7]; unfold Dat.blockOf blk0; rw [arr0]; try rfl) t d).trans
    (by unfold Dat.fetched Dat.blockOf blk0; rw [arr0]; try rfl)

/-- The output window is idle before the last point, -/
theorem idle0_8 : ∀ t : Fin cfg0.N, t.val ≠ 19 → cfg0.idle 8 (grid0.coords t) = true ∧ (cfg0.win 8).flush t = false := by decide +kernel
/-- and live at the last. -/
theorem live0_8 : ∀ t : Fin cfg0.N, t.val = 19 → cfg0.idle 8 (grid0.coords t) = false := by decide +kernel

set_option maxHeartbeats 2000000 in
/-- The body at grid point `t`: from the staging buffers as the pipeline hands them over to what the proof data state. -/
theorem point0 (c : Dev nD) (hI : ∀ L, lAt V c L 20 = lAt V c (hAt V c 0) 20) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d))
        ∗ (∃ d, owns (c : Thread nD τ) (st0_8 t) fullShare ((dat0 V c).before 8 t d)))
      ⊢ wp frame (wpE (defs₀ (F := F)) Variants.none c none) Set.univ (bodyAt0 t) (fun _ =>
        iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t)
        ∗ owns (c : Thread nD τ) (st0_6 t) fullShare ((dat0 V c).after 6 t)
        ∗ owns (c : Thread nD τ) (st0_7 t) fullShare ((dat0 V c).after 7 t)
        ∗ (dat0 V c).leavesExact 8 t)) := by
  unfold bodyAt0
  simp only [before0_0, before0_1, before0_2, before0_3, before0_4, before0_5, before0_6, before0_7]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2, after0_3, after0_4, after0_5, after0_6, after0_7]
  have hN : t.val < 20 := lt_of_lt_of_eq t.isLt (show cfg0.N = 20 from N_0)
  have hs1 : ∀ L, lNext (grid0.coords t 0).val (blk0 V c 2 t) (hNext (blk0 V c 0 t) (hAt V c t.val) (blk0 V c 3 t) (blk0 V c 4 t) (blk0 V c 5 t) (blk0 V c 6 t)) (lAt V c L t.val) = lAt V c L (t.val + 1) := fun L => by
    rw [lAt_succ, hAt_succ, coord0]
  unfold Phi0
  simp only [if_neg (Nat.succ_ne_zero _)]
  by_cases hz : t.val = 0
  · have hl : ¬ t.val = 19 := by omega
    have hh : k0_pay3 (blk0 V c 7 t) = hAt V c t.val := by
      obtain rfl : t = ⟨0, by rw [show cfg0.N = 20 from N_0]; decide⟩ := Fin.ext hz
      rfl
    have hs0 : hNext (blk0 V c 0 t) (hAt V c t.val) (blk0 V c 3 t) (blk0 V c 4 t) (blk0 V c 5 t) (blk0 V c 6 t) = hAt V c (t.val + 1) := by rw [hAt_succ]
    rw [Dat.leavesExact_idle (dat0 V c) 8 t (idle0_8 t hl).1 (idle0_8 t hl).2]
    iintro ⟨⟨%hH, %hL, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound0_A c Set.univ (grid0.coords t) _ _ _ _ _ _ _ _ _ _ _ _ _ _ _ _ _ _ _ _ _ _ ((first0_iff t).mpr hz) (fun h => hl ((last0_iff t).mp h)) (x0 := blk0 V c 0 t) (x1 := blk0 V c 1 t) (x2 := blk0 V c 2 t) (x3 := blk0 V c 3 t) (x4 := blk0 V c 4 t) (x5 := blk0 V c 5 t) (x6 := blk0 V c 6 t) (x7 := blk0 V c 7 t) (z := (dat0 V c).before 8 t d8) (s0 := hH) (s1 := lAt V c hL t.val) (Q := _))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · rw [if_pos hz]; iexact HS0
    isplitl [HS1]; · iexact HS1
    rw [hh]
    rw [hs1 hL, hs0]
    iintro ⟨H0, H1, H2, H3, H4, H5, H6, H7, H8, HS0, HS1⟩
    isplitl [HS0 HS1 HR Hg]
    · iexists (hAt V c 0), hL
      isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  by_cases hl : ¬ t.val = 19
  · have hs0 : hNext (blk0 V c 0 t) (hAt V c t.val) (blk0 V c 3 t) (blk0 V c 4 t) (blk0 V c 5 t) (blk0 V c 6 t) = hAt V c (t.val + 1) := by rw [hAt_succ]
    rw [Dat.leavesExact_idle (dat0 V c) 8 t (idle0_8 t hl).1 (idle0_8 t hl).2]
    iintro ⟨⟨%hH, %hL, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [if_neg hz]
    iapply (sound0_B c Set.univ (grid0.coords t) _ _ _ _ _ _ _ _ _ _ _ _ _ _ _ _ _ _ _ _ _ _ (fun h => hz ((first0_iff t).mp h)) (fun h => hl ((last0_iff t).mp h)) (x0 := blk0 V c 0 t) (x1 := blk0 V c 1 t) (x2 := blk0 V c 2 t) (x3 := blk0 V c 3 t) (x4 := blk0 V c 4 t) (x5 := blk0 V c 5 t) (x6 := blk0 V c 6 t) (x7 := blk0 V c 7 t) (z := (dat0 V c).before 8 t d8) (s0 := (hAt V c t.val)) (s1 := lAt V c hL t.val) (Q := _))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    rw [hs1 hL, hs0]
    iintro ⟨H0, H1, H2, H3, H4, H5, H6, H7, H8, HS0, HS1⟩
    isplitl [HS0 HS1 HR Hg]
    · iexists (hAt V c 0), hL
      isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [not_not] at hl
    have hs0 : hNext (blk0 V c 0 t) (hAt V c t.val) (blk0 V c 3 t) (blk0 V c 4 t) (blk0 V c 5 t) (blk0 V c 6 t) = hAt V c (t.val + 1) := by rw [hAt_succ]
    rw [show (dat0 V c).leavesExact 8 t = owns (c : Thread nD τ) (st0_8 t) fullShare ((dat0 V c).after 8 t) from by
      unfold Dat.leavesExact; rw [live0_8 t hl], after0_8]
    iintro ⟨⟨%hH, %hL, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [if_neg hz]
    iapply (sound0_C c Set.univ (grid0.coords t) _ _ _ _ _ _ _ _ _ _ _ _ _ _ _ _ _ _ _ _ _ _ (fun h => hz ((first0_iff t).mp h)) ((last0_iff t).mpr hl) (x0 := blk0 V c 0 t) (x1 := blk0 V c 1 t) (x2 := blk0 V c 2 t) (x3 := blk0 V c 3 t) (x4 := blk0 V c 4 t) (x5 := blk0 V c 5 t) (x6 := blk0 V c 6 t) (x7 := blk0 V c 7 t) (s0 := (hAt V c t.val)) (s1 := lAt V c hL t.val) (Q := _))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    rw [hs1 hL, hs0]
    rw [show lAt V c hL (t.val + 1) = lAt V c hL 20 from congrArg (lAt V c hL) (by omega), hI hL]
    iintro ⟨H0, H1, H2, H3, H4, H5, H6, H7, H8, HS0, HS1⟩
    isplitl [HS0 HS1 HR Hg]
    · iexists (hAt V c 0), (hAt V c 0)
      isplitl [HS0]; · iexact HS0
      isplitl [HS1]; · rw [show lAt V c (hAt V c 0) (t.val + 1) = lAt V c (hAt V c 0) 20 from congrArg (lAt V c (hAt V c 0)) (by omega)]; iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body obligation of this call, at every grid point. -/
theorem body_obligation0 (c : Dev nD) (hI : ∀ L, lAt V c L 20 = lAt V c (hAt V c 0) 20) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point0 V c hI t) rfl .rfl fun _ => .rfl

/-- What the launch hands over is the invariant before the first point. -/
theorem hin0 (c : Dev nD) : (Pipeline.ΦA spec0 c : sProp 𝕄) ⊢ (dat0 V c).Φ 0 := by
  rw [show (dat0 V c).Φ 0 = Phi0 V c 0 from rfl]
  unfold Pipeline.ΦA Phi0; rw [scopedRest0_split]
  iintro ⟨⟨⟨⟨%H, HS0⟩, ⟨%L, HS1⟩⟩, HR⟩, Hg⟩
  iexists H, L
  rw [if_pos rfl]
  simp only [lAt, scM0, scM1, owns_whole]
  isplitl [HS0]; · iexact HS0
  isplitl [HS1]; · iexact HS1
  isplitl [HR]; · iexact HR
  iexact Hg

/-- After the last point the invariant gives everything back, the named contents forgotten. -/
theorem hout0 (c : Dev nD) : (dat0 V c).Φ (Fin.last cfg0.N) ⊢ (Pipeline.ΦA spec0 c : sProp 𝕄) := by
  rw [show (dat0 V c).Φ (Fin.last cfg0.N) = Phi0 V c cfg0.N from rfl]
  unfold Pipeline.ΦA Phi0; rw [scopedRest0_split]
  simp only [scM0, scM1, owns_whole]
  iintro ⟨%H, %L, HS0, HS1, HR, Hg⟩
  isplitl [HS0 HS1 HR]
  · isplitl [HS0 HS1]
    · isplitl [HS0]
      · iexists _; iexact HS0
      iexists _; iexact HS1
    iexact HR
  iexact Hg

end Cert.KernelIdeal.Regions

end
-- ==== Proof.KernelIdeal.Proj.lean ====
/- The second call of the kernel: the two projections of the visits and the projected classifier features. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in output window 6's buffer, from the blocks of its inputs. -/
def out1_6 (x0 : Vec F S2048x144 .f32) (x1 : Vec F S144x144 .f32) (x2 : Vec F S1x144 .f32) (x3 : Vec F S144x144 .f32) (x4 : Vec F S1x144 .f32) (x5 : Vec F S144x8 .f32) : Vec F S2048x144 .f32 :=
  k1_pay2 (View.ld x0 (Rect.unit (s := S2048x144) ![0, 0] S2048x144.size inb_S2048x144_S2048x144_0_0)) (View.ld x1 (Rect.unit (s := S144x144) ![0, 0] S144x144.size inb_S144x144_S144x144_0_0)) (View.ld x2 (Rect.unit (s := S1x144) ![0, 0] S1x144.size inb_S1x144_S1x144_0_0))

/-- What the body leaves in output window 7's buffer, from the blocks of its inputs. -/
def out1_7 (x0 : Vec F S2048x144 .f32) (x1 : Vec F S144x144 .f32) (x2 : Vec F S1x144 .f32) (x3 : Vec F S144x144 .f32) (x4 : Vec F S1x144 .f32) (x5 : Vec F S144x8 .f32) : Vec F S2048x144 .f32 :=
  k1_pay3 (View.ld x0 (Rect.unit (s := S2048x144) ![0, 0] S2048x144.size inb_S2048x144_S2048x144_0_0)) (View.ld x3 (Rect.unit (s := S144x144) ![0, 0] S144x144.size inb_S144x144_S144x144_0_0)) (View.ld x4 (Rect.unit (s := S1x144) ![0, 0] S1x144.size inb_S1x144_S1x144_0_0))

/-- What the body leaves in output window 8's buffer, from the blocks of its inputs. -/
def out1_8 (x0 : Vec F S2048x144 .f32) (x1 : Vec F S144x144 .f32) (x2 : Vec F S1x144 .f32) (x3 : Vec F S144x144 .f32) (x4 : Vec F S1x144 .f32) (x5 : Vec F S144x8 .f32) : Vec F S2048x8 .f32 :=
  k1_pay4 (View.ld x0 (Rect.unit (s := S2048x144) ![0, 0] S2048x144.size inb_S2048x144_S2048x144_0_0)) (View.ld x5 (Rect.unit (s := S144x8) ![0, 0] S144x8.size inb_S144x8_S144x8_0_0))

/-- The same, with the loads of whole blocks read as the blocks. -/
theorem out1_6_eq (x0 : Vec F S2048x144 .f32) (x1 : Vec F S144x144 .f32) (x2 : Vec F S1x144 .f32) (x3 : Vec F S144x144 .f32) (x4 : Vec F S1x144 .f32) (x5 : Vec F S144x8 .f32) : out1_6 x0 x1 x2 x3 x4 x5 =
    k1_pay2 x0 x1 x2 := by
  unfold out1_6
  simp (disch := decide) only [View.ld_unit_lit]

/-- The same, with the loads of whole blocks read as the blocks. -/
theorem out1_7_eq (x0 : Vec F S2048x144 .f32) (x1 : Vec F S144x144 .f32) (x2 : Vec F S1x144 .f32) (x3 : Vec F S144x144 .f32) (x4 : Vec F S1x144 .f32) (x5 : Vec F S144x8 .f32) : out1_7 x0 x1 x2 x3 x4 x5 =
    k1_pay3 x0 x3 x4 := by
  unfold out1_7
  simp (disch := decide) only [View.ld_unit_lit]

/-- The same, with the loads of whole blocks read as the blocks. -/
theorem out1_8_eq (x0 : Vec F S2048x144 .f32) (x1 : Vec F S144x144 .f32) (x2 : Vec F S1x144 .f32) (x3 : Vec F S144x144 .f32) (x4 : Vec F S1x144 .f32) (x5 : Vec F S144x8 .f32) : out1_8 x0 x1 x2 x3 x4 x5 =
    k1_pay4 x0 x5 := by
  unfold out1_8
  simp (disch := decide) only [View.ld_unit_lit]

/-- The one store into output window 6 covers its buffer. -/
theorem cover1_6 (p : Vec F S2048x144 .f32) (y : S2048x144.Idx) :
    ∃ pc ∈ ([⟨Rect.unit (s := S2048x144) ![0, 0] S2048x144.size inb_S2048x144_S2048x144_0_0, p⟩] : List (View.Piece (Elt F) S2048x144 .f32)), y ∈ pc.1.set :=
  View.cover_of_tiled [⟨Rect.unit (s := S2048x144) ![0, 0] S2048x144.size inb_S2048x144_S2048x144_0_0, p⟩] S2048x144.size (by rfl) y

/-- The one store into output window 7 covers its buffer. -/
theorem cover1_7 (p : Vec F S2048x144 .f32) (y : S2048x144.Idx) :
    ∃ pc ∈ ([⟨Rect.unit (s := S2048x144) ![0, 0] S2048x144.size inb_S2048x144_S2048x144_0_0, p⟩] : List (View.Piece (Elt F) S2048x144 .f32)), y ∈ pc.1.set :=
  View.cover_of_tiled [⟨Rect.unit (s := S2048x144) ![0, 0] S2048x144.size inb_S2048x144_S2048x144_0_0, p⟩] S2048x144.size (by rfl) y

/-- The one store into output window 8 covers its buffer. -/
theorem cover1_8 (p : Vec F S2048x8 .f32) (y : S2048x8.Idx) :
    ∃ pc ∈ ([⟨Rect.unit (s := S2048x8) ![0, 0] S2048x8.size inb_S2048x8_S2048x8_0_0, p⟩] : List (View.Piece (Elt F) S2048x8 .f32)), y ∈ pc.1.set :=
  View.cover_of_tiled [⟨Rect.unit (s := S2048x8) ![0, 0] S2048x8.size inb_S2048x8_S2048x8_0_0, p⟩] S2048x8.size (by rfl) y

set_option maxHeartbeats 1000000 in
/-- The body, run on whole staging buffers that hold the input blocks, leaves the inputs and writes each output. -/
theorem sound1 (c : Dev nD) (E : Set ℕ) (arg0 : Memref sig .tc .vmem S2048x144 .f32) (harg0 : arg0.IsWhole) (arg1 : Memref sig .tc .vmem S144x144 .f32) (harg1 : arg1.IsWhole) (arg2 : Memref sig .tc .vmem S1x144 .f32) (harg2 : arg2.IsWhole) (arg3 : Memref sig .tc .vmem S144x144 .f32) (harg3 : arg3.IsWhole) (arg4 : Memref sig .tc .vmem S1x144 .f32) (harg4 : arg4.IsWhole) (arg5 : Memref sig .tc .vmem S144x8 .f32) (harg5 : arg5.IsWhole) (arg6 : Memref sig .tc .vmem S2048x144 .f32) (harg6 : arg6.IsWhole) (arg7 : Memref sig .tc .vmem S2048x144 .f32) (harg7 : arg7.IsWhole) (arg8 : Memref sig .tc .vmem S2048x8 .f32) (harg8 : arg8.IsWhole)
    (x0 : Vec F S2048x144 .f32) (x1 : Vec F S144x144 .f32) (x2 : Vec F S1x144 .f32) (x3 : Vec F S144x144 .f32) (x4 : Vec F S1x144 .f32) (x5 : Vec F S144x8 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5) ∗ owns (c : Thread nD τ) arg7 fullShare (out1_7 x0 x1 x2 x3 x4 x5) ∗ owns (c : Thread nD τ) arg8 fullShare (out1_8 x0 x1 x2 x3 x4 x5)) -∗ Q ⟨⟩))
      ⊢ wp frame (wpE (defs₀ (F := F)) Variants.none c none) E (cc1__proj_body arg0 harg0 arg1 harg1 arg2 harg2 arg3 harg3 arg4 harg4 arg5 harg5 arg6 harg6 arg7 harg7 arg8 harg8) Q := by
  simp only [cc1__proj_body_eq_skeleton]; unfold cc1__proj_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    refine (View.canon_cons_unit_lit _ _ _ (by decide)).trans ?_
    rfl
  isplitl [H7]
  · iexists _; isplitr
    swap; · iexact H7
    ipureintro
    refine (View.read_writes_eq_canon _ _ _ (cover1_7 _)).trans ?_
    refine (View.canon_cons_unit_lit _ _ _ (by decide)).trans ?_
    rfl
  iexists _; isplitr
  swap; · iexact H8
  ipureintro
  refine (View.read_writes_eq_canon _ _ _ (cover1_8 _)).trans ?_
  refine (View.canon_cons_unit_lit _ _ _ (by decide)).trans ?_
  rfl

variable (V : (c : Dev nD) → (b : Ref sig .tc) → Buf (Elt F) ((c : Thread nD τ).loc b))

/-- The block of window `w` at grid point `t`, read off the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of this call: its arrays as found; after the body the inputs' buffers as they were and each output's
    buffer at what the body leaves there; nothing is owed and every share is full. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => out1_6 (blk1 V c 0 t) (blk1 V c 1 t) (blk1 V c 2 t) (blk1 V c 3 t) (blk1 V c 4 t) (blk1 V c 5 t)
    | ⟨7, _⟩ => out1_7 (blk1 V c 0 t) (blk1 V c 1 t) (blk1 V c 2 t) (blk1 V c 3 t) (blk1 V c 4 t) (blk1 V c 5 t)
    | ⟨8, _⟩ => out1_8 (blk1 V c 0 t) (blk1 V c 1 t) (blk1 V c 2 t) (blk1 V c 3 t) (blk1 V c 4 t) (blk1 V c 5 t)
  Φ _ := Pipeline.ΦA spec1 c
  q _ := fullShare
  owed _ := 0

/-- The arrays of the proof data are those the call finds. -/
theorem arr1 (c : Dev nD) (w : Fin cfg1.W) : (dat1 V c).A w = V c (Pipeline.arrRef spec1 w) := by
  dsimp only [dat1]

/-- Window 0's buffer after the body. -/
theorem after1_0 (c : Dev nD) (t : Fin cfg1.N) : (dat1 V c).after 0 t = blk1 V c 0 t := by dsimp only [dat1]
/-- Window 1's buffer after the body. -/
theorem after1_1 (c : Dev nD) (t : Fin cfg1.N) : (dat1 V c).after 1 t = blk1 V c 1 t := by dsimp only [dat1]
/-- Window 2's buffer after the body. -/
theorem after1_2 (c : Dev nD) (t : Fin cfg1.N) : (dat1 V c).after 2 t = blk1 V c 2 t := by dsimp only [dat1]
/-- Window 3's buffer after the body. -/
theorem after1_3 (c : Dev nD) (t : Fin cfg1.N) : (dat1 V c).after 3 t = blk1 V c 3 t := by dsimp only [dat1]
/-- Window 4's buffer after the body. -/
theorem after1_4 (c : Dev nD) (t : Fin cfg1.N) : (dat1 V c).after 4 t = blk1 V c 4 t := by dsimp only [dat1]
/-- Window 5's buffer after the body. -/
theorem after1_5 (c : Dev nD) (t : Fin cfg1.N) : (dat1 V c).after 5 t = blk1 V c 5 t := by dsimp only [dat1]
/-- Window 6's buffer after the body. -/
theorem after1_6 (c : Dev nD) (t : Fin cfg1.N) : (dat1 V c).after 6 t = out1_6 (blk1 V c 0 t) (blk1 V c 1 t) (blk1 V c 2 t) (blk1 V c 3 t) (blk1 V c 4 t) (blk1 V c 5 t) := by dsimp only [dat1]
/-- Window 7's buffer after the body. -/
theorem after1_7 (c : Dev nD) (t : Fin cfg1.N) : (dat1 V c).after 7 t = out1_7 (blk1 V c 0 t) (blk1 V c 1 t) (blk1 V c 2 t) (blk1 V c 3 t) (blk1 V c 4 t) (blk1 V c 5 t) := by dsimp only [dat1]
/-- Window 8's buffer after the body. -/
theorem after1_8 (c : Dev nD) (t : Fin cfg1.N) : (dat1 V c).after 8 t = out1_8 (blk1 V c 0 t) (blk1 V c 1 t) (blk1 V c 2 t) (blk1 V c 3 t) (blk1 V c 4 t) (blk1 V c 5 t) := by dsimp only [dat1]
/-- Input 0's staging buffer holds the window's block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [arr1]; try rfl) t d).trans
    (by unfold Dat.fetched Dat.blockOf blk1; rw [arr1]; try rfl)
/-- Input 1's staging buffer holds the window's block at every point. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [arr1]; try rfl) t d).trans
    (by unfold Dat.fetched Dat.blockOf blk1; rw [arr1]; try rfl)
/-- Input 2's staging buffer holds the window's block at every point. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [arr1]; try rfl) t d).trans
    (by unfold Dat.fetched Dat.blockOf blk1; rw [arr1]; try rfl)
/-- Input 3's staging buffer holds the window's block at every point. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [arr1]; try rfl) t d).trans
    (by unfold Dat.fetched Dat.blockOf blk1; rw [arr1]; try rfl)
/-- Input 4's staging buffer holds the window's block at every point. -/
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [arr1]; try rfl) t d).trans
    (by unfold Dat.fetched Dat.blockOf blk1; rw [arr1]; try rfl)
/-- Input 5's staging buffer holds the window's block at every point. -/
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [arr1]; try rfl) t d).trans
    (by unfold Dat.fetched Dat.blockOf blk1; rw [arr1]; try rfl)

/-- The body at grid point `t`: from the staging buffers as the pipeline hands them over to what the proof data state. -/
theorem point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d))
        ∗ (∃ d, owns (c : Thread nD τ) (st1_7 t) fullShare ((dat1 V c).before 7 t d))
        ∗ (∃ d, owns (c : Thread nD τ) (st1_8 t) fullShare ((dat1 V c).before 8 t d)))
      ⊢ wp frame (wpE (defs₀ (F := F)) Variants.none c none) Set.univ (bodyAt1 t) (fun _ =>
        iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)
        ∗ owns (c : Thread nD τ) (st1_6 t) fullShare ((dat1 V c).after 6 t)
        ∗ owns (c : Thread nD τ) (st1_7 t) fullShare ((dat1 V c).after 7 t)
        ∗ owns (c : Thread nD τ) (st1_8 t) fullShare ((dat1 V c).after 8 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound1 c Set.univ _ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of this call, at every grid point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (point1 V c t) rfl .rfl fun _ => .rfl

end Cert.KernelIdeal.Regions

end
-- ==== Proof.KernelIdeal.Stats.lean ====
/- The third call of the kernel: per block of rows the row maximum, the denominator and the degree factor. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in output window 4's buffer, from the blocks of its inputs. -/
def out2_4 (i : grid2.Coords) (x0 : Vec F S256x144 .f32) (x1 : Vec F S2048x144 .f32) (x2 : Vec F S1x1 .f32) (x3 : Vec F S1x1 .f32) : Vec F S256x8 .f32 :=
  View.canon [⟨Rect.unit (s := S256x8) ![0, 2] S256x1.size inb_S256x8_S256x1_0_2, k2_pay5 (View.ld x0 (Rect.unit (s := S256x144) ![0, 0] S256x144.size inb_S256x144_S256x144_0_0)) (View.ld x1 (Rect.unit (s := S2048x144) ![0, 0] S2048x144.size inb_S2048x144_S2048x144_0_0)) (View.ld x2 (Rect.unit (s := S1x1) ![0, 0] S1x1.size inb_S1x1_S1x1_0_0)) (View.ld x3 (Rect.unit (s := S1x1) ![0, 0] S1x1.size inb_S1x1_S1x1_0_0))⟩,
    ⟨Rect.unit (s := S256x8) ![0, 1] S256x1.size inb_S256x8_S256x1_0_1, k2_pay4 (View.ld x0 (Rect.unit (s := S256x144) ![0, 0] S256x144.size inb_S256x144_S256x144_0_0)) (View.ld x1 (Rect.unit (s := S2048x144) ![0, 0] S2048x144.size inb_S2048x144_S2048x144_0_0)) (View.ld x2 (Rect.unit (s := S1x1) ![0, 0] S1x1.size inb_S1x1_S1x1_0_0))⟩,
    ⟨Rect.unit (s := S256x8) ![0, 0] S256x1.size inb_S256x8_S256x1_0_0, k2_pay2 (View.ld x0 (Rect.unit (s := S256x144) ![0, 0] S256x144.size inb_S256x144_S256x144_0_0)) (View.ld x1 (Rect.unit (s := S2048x144) ![0, 0] S2048x144.size inb_S2048x144_S2048x144_0_0)) (View.ld x2 (Rect.unit (s := S1x1) ![0, 0] S1x1.size inb_S1x1_S1x1_0_0))⟩,
    ⟨Rect.unit (s := S256x8) ![0, 0] S256x8.size inb_S256x8_S256x8_0_0, k2_pay6⟩]

/-- The same, with the loads of whole blocks read as the blocks. -/
theorem out2_4_eq (i : grid2.Coords) (x0 : Vec F S256x144 .f32) (x1 : Vec F S2048x144 .f32) (x2 : Vec F S1x1 .f32) (x3 : Vec F S1x1 .f32) : out2_4 i x0 x1 x2 x3 =
    View.canon [⟨Rect.unit (s := S256x8) ![0, 2] S256x1.size inb_S256x8_S256x1_0_2, k2_pay5 x0 x1 x2 x3⟩,
    ⟨Rect.unit (s := S256x8) ![0, 1] S256x1.size inb_S256x8_S256x1_0_1, k2_pay4 x0 x1 x2⟩,
    ⟨Rect.unit (s := S256x8) ![0, 0] S256x1.size inb_S256x8_S256x1_0_0, k2_pay2 x0 x1 x2⟩,
    ⟨Rect.unit (s := S256x8) ![0, 0] S256x8.size inb_S256x8_S256x8_0_0, k2_pay6⟩] := by
  unfold out2_4
  simp (disch := decide) only [View.ld_unit_lit]

/-- The stores into the output window (a fill of the block and three columns) cover its buffer. -/
theorem cover2_4 (p0 p1 p2 : Vec F S256x1 .f32) (p3 : Vec F S256x8 .f32) (y : S256x8.Idx) :
    ∃ pc ∈ ([⟨Rect.unit (s := S256x8) ![0, 2] S256x1.size inb_S256x8_S256x1_0_2, p2⟩,
    ⟨Rect.unit (s := S256x8) ![0, 1] S256x1.size inb_S256x8_S256x1_0_1, p1⟩,
    ⟨Rect.unit (s := S256x8) ![0, 0] S256x1.size inb_S256x8_S256x1_0_0, p0⟩,
    ⟨Rect.unit (s := S256x8) ![0, 0] S256x8.size inb_S256x8_S256x8_0_0, p3⟩] : List (View.Piece (Elt F) S256x8 .f32)), y ∈ pc.1.set :=
  View.cover_of_tiledBy [⟨Rect.unit (s := S256x8) ![0, 2] S256x1.size inb_S256x8_S256x1_0_2, p2⟩,
    ⟨Rect.unit (s := S256x8) ![0, 1] S256x1.size inb_S256x8_S256x1_0_1, p1⟩,
    ⟨Rect.unit (s := S256x8) ![0, 0] S256x1.size inb_S256x8_S256x1_0_0, p0⟩,
    ⟨Rect.unit (s := S256x8) ![0, 0] S256x8.size inb_S256x8_S256x8_0_0, p3⟩] ![256, 1] (by sl_kernel_rfl) y

set_option maxHeartbeats 1000000 in
/-- The body, run on whole staging buffers that hold the input blocks, leaves the inputs and writes each output. -/
theorem sound2 (c : Dev nD) (E : Set ℕ) (i : grid2.Coords) (arg1 : Memref sig .tc .vmem S256x144 .f32) (harg1 : arg1.IsWhole) (arg2 : Memref sig .tc .vmem S2048x144 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S256x8 .f32) (harg5 : arg5.IsWhole)
    (x0 : Vec F S256x144 .f32) (x1 : Vec F S2048x144 .f32) (x2 : Vec F S1x1 .f32) (x3 : Vec F S1x1 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 i x0 x1 x2 x3)) -∗ Q ⟨⟩))
      ⊢ wp frame (wpE (defs₀ (F := F)) Variants.none c none) E (cc2__stats_body i arg1 harg1 arg2 harg2 arg3 harg3 arg4 harg4 arg5 harg5) Q := by
  simp only [cc2__stats_body_eq_skeleton]; unfold cc2__stats_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover2_4 _ _ _ _)).trans ?_
  rfl

variable (V : (c : Dev nD) → (b : Ref sig .tc) → Buf (Elt F) ((c : Thread nD τ).loc b))

/-- The block of window `w` at grid point `t`, read off the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of this call: its arrays as found; after the body the inputs' buffers as they were and each output's
    buffer at what the body leaves there; nothing is owed and every share is full. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => out2_4 (grid2.coords t) (blk2 V c 0 t) (blk2 V c 1 t) (blk2 V c 2 t) (blk2 V c 3 t)
  Φ _ := Pipeline.ΦA spec2 c
  q _ := fullShare
  owed _ := 0

/-- The arrays of the proof data are those the call finds. -/
theorem arr2 (c : Dev nD) (w : Fin cfg2.W) : (dat2 V c).A w = V c (Pipeline.arrRef spec2 w) := by
  dsimp only [dat2]

/-- Window 0's buffer after the body. -/
theorem after2_0 (c : Dev nD) (t : Fin cfg2.N) : (dat2 V c).after 0 t = blk2 V c 0 t := by dsimp only [dat2]
/-- Window 1's buffer after the body. -/
theorem after2_1 (c : Dev nD) (t : Fin cfg2.N) : (dat2 V c).after 1 t = blk2 V c 1 t := by dsimp only [dat2]
/-- Window 2's buffer after the body. -/
theorem after2_2 (c : Dev nD) (t : Fin cfg2.N) : (dat2 V c).after 2 t = blk2 V c 2 t := by dsimp only [dat2]
/-- Window 3's buffer after the body. -/
theorem after2_3 (c : Dev nD) (t : Fin cfg2.N) : (dat2 V c).after 3 t = blk2 V c 3 t := by dsimp only [dat2]
/-- Window 4's buffer after the body. -/
theorem after2_4 (c : Dev nD) (t : Fin cfg2.N) : (dat2 V c).after 4 t = out2_4 (grid2.coords t) (blk2 V c 0 t) (blk2 V c 1 t) (blk2 V c 2 t) (blk2 V c 3 t) := by dsimp only [dat2]
/-- Input 0's staging buffer holds the window's block at every point. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [arr2]; try rfl) t d).trans
    (by unfold Dat.fetched Dat.blockOf blk2; rw [arr2]; try rfl)
/-- Input 1's staging buffer holds the window's block at every point. -/
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [arr2]; try rfl) t d).trans
    (by unfold Dat.fetched Dat.blockOf blk2; rw [arr2]; try rfl)
/-- Input 2's staging buffer holds the window's block at every point. -/
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [arr2]; try rfl) t d).trans
    (by unfold Dat.fetched Dat.blockOf blk2; rw [arr2]; try rfl)
/-- Input 3's staging buffer holds the window's block at every point. -/
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [arr2]; try rfl) t d).trans
    (by unfold Dat.fetched Dat.blockOf blk2; rw [arr2]; try rfl)

/-- The body at grid point `t`: from the staging buffers as the pipeline hands them over to what the proof data state. -/
theorem point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t))) := by
  unfold bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound2 c Set.univ (grid2.coords t) _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this call, at every grid point. -/
theorem body_obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (point2 V c t) rfl .rfl fun _ => .rfl

end Cert.KernelIdeal.Regions

end
-- ==== Proof.KernelIdeal.Agg.lean ====
/- The fourth call of the kernel: per block of rows the masked aggregation and the logits. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of a whole array that the grid point works on. -/
abbrev rows3 (i : grid3.Coords) : Rect S2048x8 := Rect.unit (s := S2048x8) (k3_off1 i) S256x8.size (k3_off1_inb i)
/-- The column of the statistics that holds the degree factors. -/
abbrev col3 : Rect S2048x8 := Rect.unit (s := S2048x8) ![0, 2] S2048x1.size inb_S2048x8_S2048x1_0_2

/-- What the body leaves in output window 7's buffer, from the blocks of its inputs. -/
def out3_7 (i : grid3.Coords) (x0 : Vec F S256x144 .f32) (x1 : Vec F S2048x144 .f32) (x2 : Vec F S2048x8 .f32) (x3 : Vec F S2048x8 .f32) (x4 : Vec F S1x1 .f32) (x5 : Vec F S1x1 .f32) (x6 : Vec F S1x8 .f32) : Vec F S256x8 .f32 :=
  k3_pay1 (k3_pay4 (View.ld x3 (rows3 i))) (k3_pay5 (View.ld x0 (Rect.unit (s := S256x144) ![0, 0] S256x144.size inb_S256x144_S256x144_0_0)) (View.ld x1 (Rect.unit (s := S2048x144) ![0, 0] S2048x144.size inb_S2048x144_S2048x144_0_0)) (View.ld x4 (Rect.unit (s := S1x1) ![0, 0] S1x1.size inb_S1x1_S1x1_0_0)) (View.ld x2 (rows3 i)) (View.ld x5 (Rect.unit (s := S1x1) ![0, 0] S1x1.size inb_S1x1_S1x1_0_0)) (View.ld x2 col3) (View.ld x3 (Rect.unit (s := S2048x8) ![0, 0] S2048x8.size inb_S2048x8_S2048x8_0_0)))
    (k3_pay6 (View.ld x2 (rows3 i))) (View.ld x6 (Rect.unit (s := S1x8) ![0, 0] S1x8.size inb_S1x8_S1x8_0_0))

/-- The same, with the loads of whole blocks read as the blocks. -/
theorem out3_7_eq (i : grid3.Coords) (x0 : Vec F S256x144 .f32) (x1 : Vec F S2048x144 .f32) (x2 : Vec F S2048x8 .f32) (x3 : Vec F S2048x8 .f32) (x4 : Vec F S1x1 .f32) (x5 : Vec F S1x1 .f32) (x6 : Vec F S1x8 .f32) : out3_7 i x0 x1 x2 x3 x4 x5 x6 =
    k3_pay1 (k3_pay4 (View.ld x3 (rows3 i))) (k3_pay5 x0 x1 x4 (View.ld x2 (rows3 i)) x5 (View.ld x2 col3) x3)
    (k3_pay6 (View.ld x2 (rows3 i))) x6 := by
  unfold out3_7
  simp (disch := decide) only [View.ld_unit_lit]

/-- The one store into output window 7 covers its buffer. -/
theorem cover3_7 (p : Vec F S256x8 .f32) (y : S256x8.Idx) :
    ∃ pc ∈ ([⟨Rect.unit (s := S256x8) ![0, 0] S256x8.size inb_S256x8_S256x8_0_0, p⟩] : List (View.Piece (Elt F) S256x8 .f32)), y ∈ pc.1.set :=
  View.cover_of_tiled [⟨Rect.unit (s := S256x8) ![0, 0] S256x8.size inb_S256x8_S256x8_0_0, p⟩] S256x8.size (by rfl) y

set_option maxHeartbeats 1000000 in
/-- The body, run on whole staging buffers that hold the input blocks, leaves the inputs and writes each output. -/
theorem sound3 (c : Dev nD) (E : Set ℕ) (i : grid3.Coords) (arg1 : Memref sig .tc .vmem S256x144 .f32) (harg1 : arg1.IsWhole) (arg2 : Memref sig .tc .vmem S2048x144 .f32) (harg2 : arg2.IsWhole) (arg3 : Memref sig .tc .vmem S2048x8 .f32) (harg3 : arg3.IsWhole) (arg4 : Memref sig .tc .vmem S2048x8 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8 .f32) (harg7 : arg7.IsWhole) (arg8 : Memref sig .tc .vmem S256x8 .f32) (harg8 : arg8.IsWhole)
    (x0 : Vec F S256x144 .f32) (x1 : Vec F S2048x144 .f32) (x2 : Vec F S2048x8 .f32) (x3 : Vec F S2048x8 .f32) (x4 : Vec F S1x1 .f32) (x5 : Vec F S1x1 .f32) (x6 : Vec F S1x8 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 i x0 x1 x2 x3 x4 x5 x6)) -∗ Q ⟨⟩))
      ⊢ wp frame (wpE (defs₀ (F := F)) Variants.none c none) E (cc3__agg_body i arg1 harg1 arg2 harg2 arg3 harg3 arg4 harg4 arg5 harg5 arg6 harg6 arg7 harg7 arg8 harg8) Q := by
  simp only [cc3__agg_body_eq_skeleton]; unfold cc3__agg_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover3_7 _)).trans ?_
  refine (View.canon_cons_unit_lit _ _ _ (by decide)).trans ?_
  rfl

variable (V : (c : Dev nD) → (b : Ref sig .tc) → Buf (Elt F) ((c : Thread nD τ).loc b))

/-- The block of window `w` at grid point `t`, read off the window's array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of this call: its arrays as found; after the body the inputs' buffers as they were and each output's
    buffer at what the body leaves there; nothing is owed and every share is full. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => out3_7 (grid3.coords t) (blk3 V c 0 t) (blk3 V c 1 t) (blk3 V c 2 t) (blk3 V c 3 t) (blk3 V c 4 t) (blk3 V c 5 t) (blk3 V c 6 t)
  Φ _ := Pipeline.ΦA spec3 c
  q _ := fullShare
  owed _ := 0

/-- The arrays of the proof data are those the call finds. -/
theorem arr3 (c : Dev nD) (w : Fin cfg3.W) : (dat3 V c).A w = V c (Pipeline.arrRef spec3 w) := by
  dsimp only [dat3]

/-- Window 0's buffer after the body. -/
theorem after3_0 (c : Dev nD) (t : Fin cfg3.N) : (dat3 V c).after 0 t = blk3 V c 0 t := by dsimp only [dat3]
/-- Window 1's buffer after the body. -/
theorem after3_1 (c : Dev nD) (t : Fin cfg3.N) : (dat3 V c).after 1 t = blk3 V c 1 t := by dsimp only [dat3]
/-- Window 2's buffer after the body. -/
theorem after3_2 (c : Dev nD) (t : Fin cfg3.N) : (dat3 V c).after 2 t = blk3 V c 2 t := by dsimp only [dat3]
/-- Window 3's buffer after the body. -/
theorem after3_3 (c : Dev nD) (t : Fin cfg3.N) : (dat3 V c).after 3 t = blk3 V c 3 t := by dsimp only [dat3]
/-- Window 4's buffer after the body. -/
theorem after3_4 (c : Dev nD) (t : Fin cfg3.N) : (dat3 V c).after 4 t = blk3 V c 4 t := by dsimp only [dat3]
/-- Window 5's buffer after the body. -/
theorem after3_5 (c : Dev nD) (t : Fin cfg3.N) : (dat3 V c).after 5 t = blk3 V c 5 t := by dsimp only [dat3]
/-- Window 6's buffer after the body. -/
theorem after3_6 (c : Dev nD) (t : Fin cfg3.N) : (dat3 V c).after 6 t = blk3 V c 6 t := by dsimp only [dat3]
/-- Window 7's buffer after the body. -/
theorem after3_7 (c : Dev nD) (t : Fin cfg3.N) : (dat3 V c).after 7 t = out3_7 (grid3.coords t) (blk3 V c 0 t) (blk3 V c 1 t) (blk3 V c 2 t) (blk3 V c 3 t) (blk3 V c 4 t) (blk3 V c 5 t) (blk3 V c 6 t) := by dsimp only [dat3]
/-- Input 0's staging buffer holds the window's block at every point. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [arr3]; try rfl) t d).trans
    (by unfold Dat.fetched Dat.blockOf blk3; rw [arr3]; try rfl)
/-- Input 1's staging buffer holds the window's block at every point. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [arr3]; try rfl) t d).trans
    (by unfold Dat.fetched Dat.blockOf blk3; rw [arr3]; try rfl)
/-- Input 2's staging buffer holds the window's block at every point. -/
theorem before3_2 (c : Dev nD) (t : Fin cfg3.N) (d) : (dat3 V c).before 2 t d = blk3 V c 2 t :=
  ((dat3 V c).before_in_eq_fetched 2 rfl (fun _ => rfl) (fun _ _ _ => rfl)
    (fun t => by rw [after3_2]; unfold Dat.blockOf blk3; rw [arr3]; try rfl) t d).trans
    (by unfold Dat.fetched Dat.blockOf blk3; rw [arr3]; try rfl)
/-- Input 3's staging buffer holds the window's block at every point. -/
theorem before3_3 (c : Dev nD) (t : Fin cfg3.N) (d) : (dat3 V c).before 3 t d = blk3 V c 3 t :=
  ((dat3 V c).before_in_eq_fetched 3 rfl (fun _ => rfl) (fun _ _ _ => rfl)
    (fun t => by rw [after3_3]; unfold Dat.blockOf blk3; rw [arr3]; try rfl) t d).trans
    (by unfold Dat.fetched Dat.blockOf blk3; rw [arr3]; try rfl)
/-- Input 4's staging buffer holds the window's block at every point. -/
theorem before3_4 (c : Dev nD) (t : Fin cfg3.N) (d) : (dat3 V c).before 4 t d = blk3 V c 4 t :=
  ((dat3 V c).before_in_eq_fetched 4 rfl (fun _ => rfl) (fun _ _ _ => rfl)
    (fun t => by rw [after3_4]; unfold Dat.blockOf blk3; rw [arr3]; try rfl) t d).trans
    (by unfold Dat.fetched Dat.blockOf blk3; rw [arr3]; try rfl)
/-- Input 5's staging buffer holds the window's block at every point. -/
theorem before3_5 (c : Dev nD) (t : Fin cfg3.N) (d) : (dat3 V c).before 5 t d = blk3 V c 5 t :=
  ((dat3 V c).before_in_eq_fetched 5 rfl (fun _ => rfl) (fun _ _ _ => rfl)
    (fun t => by rw [after3_5]; unfold Dat.blockOf blk3; rw [arr3]; try rfl) t d).trans
    (by unfold Dat.fetched Dat.blockOf blk3; rw [arr3]; try rfl)
/-- Input 6's staging buffer holds the window's block at every point. -/
theorem before3_6 (c : Dev nD) (t : Fin cfg3.N) (d) : (dat3 V c).before 6 t d = blk3 V c 6 t :=
  ((dat3 V c).before_in_eq_fetched 6 rfl (fun _ => rfl) (fun _ _ _ => rfl)
    (fun t => by rw [after3_6]; unfold Dat.blockOf blk3; rw [arr3]; try rfl) t d).trans
    (by unfold Dat.fetched Dat.blockOf blk3; rw [arr3]; try rfl)

/-- The body at grid point `t`: from the staging buffers as the pipeline hands them over to what the proof data state. -/
theorem point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d))
        ∗ (∃ d, owns (c : Thread nD τ) (st3_5 t) fullShare ((dat3 V c).before 5 t d))
        ∗ (∃ d, owns (c : Thread nD τ) (st3_6 t) fullShare ((dat3 V c).before 6 t d))
        ∗ (∃ d, owns (c : Thread nD τ) (st3_7 t) fullShare ((dat3 V c).before 7 t d)))
      ⊢ wp frame (wpE (defs₀ (F := F)) Variants.none c none) Set.univ (bodyAt3 t) (fun _ =>
        iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)
        ∗ owns (c : Thread nD τ) (st3_3 t) fullShare ((dat3 V c).after 3 t)
        ∗ owns (c : Thread nD τ) (st3_4 t) fullShare ((dat3 V c).after 4 t)
        ∗ owns (c : Thread nD τ) (st3_5 t) fullShare ((dat3 V c).after 5 t)
        ∗ owns (c : Thread nD τ) (st3_6 t) fullShare ((dat3 V c).after 6 t)
        ∗ owns (c : Thread nD τ) (st3_7 t) fullShare ((dat3 V c).after 7 t))) := by
  unfold bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound3 c Set.univ (grid3.coords t) _ _ _ _ _ _ _ _ _ _ _ _ _ _ _ _ (blk3 V c 0 t) (blk3 V c 1 t) (blk3 V c 2 t) (blk3 V c 3 t) (blk3 V c 4 t) (blk3 V c 5 t) (blk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of this call, at every grid point. -/
theorem body_obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (point3 V c t) rfl .rfl fun _ => .rfl

end Cert.KernelIdeal.Regions

end
-- ==== Proof.KernelIdeal.Run.lean ====
/- The run of the whole kernel: its host stretches and its four calls, from the launch to the return. -/
module

public import proofs.«01_k».proof.Proof.KernelIdeal.Gru
public import proofs.«01_k».proof.Proof.KernelIdeal.Proj
public import proofs.«01_k».proof.Proof.KernelIdeal.Stats
public import proofs.«01_k».proof.Proof.KernelIdeal.Agg
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- The buffers when the first call is entered: the launch contents after the host's preparation. -/
def X0 (c : Dev nD) : Valuation τ sig (Elt F) := V3 m c
/-- The same, read at the references. -/
abbrev Y0 : (c : Dev nD) → (b : Ref sig .tc) → Buf (Elt F) ((c : Thread nD τ).loc b) := fun c b => X0 m c b

/-- The host's preparation changes no argument. -/
theorem X0_args (c : Dev nD) : ∀ a ∈ argRefs, X0 m c (Proc.devRef .tc a) = m ((c : Thread nD τ).loc a) := fun a ha => by
  have h : ∀ a ∈ argRefs, a ∉ hostOps0_W ∧ a ∉ hostOps0_1_W ∧ a ∉ hostOps0_2_W := ListAll.forall_mem_of_all_decide (by decide +kernel)
  exact (V3_of m c a (h a ha).2.2).trans ((V2_of m c a (h a ha).2.1).trans (V1_of m c a (h a ha).1))

/-- The buffers when call 0 is left: its output arrays at what its grid writes back, all else as entered. -/
def X1 (c : Dev nD) : Valuation τ sig (Elt F) :=
  Pipeline.withArrays spec0 c (X0 m c) fun w => (dat0 (Y0 m) c).arrAt w cfg0.N
/-- The same, read at the references. -/
abbrev Y1 : (c : Dev nD) → (b : Ref sig .tc) → Buf (Elt F) ((c : Thread nD τ).loc b) := fun c b => X1 m c b
/-- An array of call 0 when it is left. -/
theorem X1_arr (c : Dev nD) (w : Fin cfg0.W) :
    X1 m c (Proc.devRef .tc (Pipeline.arrRef spec0 w)) = (dat0 (Y0 m) c).arrAt w cfg0.N := by
  unfold X1; exact Pipeline.withArrays_arr spec0 launch0.win.arr_inj c _ _ w
/-- A buffer that is no array of call 0 is as entered. -/
theorem X1_ne (c : Dev nD) (b : Ref sig .tc) (hb : ∀ w, Pipeline.arrRef spec0 w ≠ b) :
    X1 m c (Proc.devRef .tc b) = X0 m c (Proc.devRef .tc b) := by
  unfold X1; exact Pipeline.withArrays_of_ne spec0 c _ _ b hb
/-- So is one that is an input array or none. -/
theorem X1_keep (c : Dev nD) (r : Ref sig .tc) (h : ∀ w : Fin cfg0.W, Pipeline.arrRef spec0 w = r → (cfg0.win w).isOut = false) :
    X1 m c (Proc.devRef .tc r) = X0 m c (Proc.devRef .tc r) := by
  rcases Classical.em (∃ w : Fin cfg0.W, Pipeline.arrRef spec0 w = r) with ⟨w, rfl⟩ | hw
  · exact (X1_arr m c w).trans (((dat0 (Y0 m) c).arrAt_in w (h w rfl) _).trans (arr0 (Y0 m) c w))
  · exact X1_ne m c r (not_exists.mp hw)
/-- Call 0 leaves the arguments. -/
theorem X1_args (c : Dev nD) : ∀ a ∈ argRefs, X1 m c (Proc.devRef .tc a) = m ((c : Thread nD τ).loc a) := fun a ha => by
  have h : ∀ a ∈ argRefs, ∀ w : Fin cfg0.W, Pipeline.arrRef spec0 w = a → (cfg0.win w).isOut = false :=
    ListAll.forall_mem_of_all_decide (by decide +kernel)
  exact (X1_keep m c a (h a ha)).trans (X0_args m c a ha)

/-- The buffers when call 1 is left: its output arrays at what its grid writes back, all else as entered. -/
def X2 (c : Dev nD) : Valuation τ sig (Elt F) :=
  Pipeline.withArrays spec1 c (X1 m c) fun w => (dat1 (Y1 m) c).arrAt w cfg1.N
/-- The same, read at the references. -/
abbrev Y2 : (c : Dev nD) → (b : Ref sig .tc) → Buf (Elt F) ((c : Thread nD τ).loc b) := fun c b => X2 m c b
/-- An array of call 1 when it is left. -/
theorem X2_arr (c : Dev nD) (w : Fin cfg1.W) :
    X2 m c (Proc.devRef .tc (Pipeline.arrRef spec1 w)) = (dat1 (Y1 m) c).arrAt w cfg1.N := by
  unfold X2; exact Pipeline.withArrays_arr spec1 launch1.win.arr_inj c _ _ w
/-- A buffer that is no array of call 1 is as entered. -/
theorem X2_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
/-- So is one that is an input array or none. -/
theorem X2_keep (c : Dev nD) (r : Ref sig .tc) (h : ∀ w : Fin cfg1.W, Pipeline.arrRef spec1 w = r → (cfg1.win w).isOut = false) :
    X2 m c (Proc.devRef .tc r) = X1 m c (Proc.devRef .tc r) := by
  rcases Classical.em (∃ w : Fin cfg1.W, Pipeline.arrRef spec1 w = r) with ⟨w, rfl⟩ | hw
  · exact (X2_arr m c w).trans (((dat1 (Y1 m) c).arrAt_in w (h w rfl) _).trans (arr1 (Y1 m) c w))
  · exact X2_ne m c r (not_exists.mp hw)
/-- Call 1 leaves the arguments. -/
theorem X2_args (c : Dev nD) : ∀ a ∈ argRefs, X2 m c (Proc.devRef .tc a) = m ((c : Thread nD τ).loc a) := fun a ha => by
  have h : ∀ a ∈ argRefs, ∀ w : Fin cfg1.W, Pipeline.arrRef spec1 w = a → (cfg1.win w).isOut = false :=
    ListAll.forall_mem_of_all_decide (by decide +kernel)
  exact (X2_keep m c a (h a ha)).trans (X1_args m c a ha)

/-- The buffers when call 2 is left: its output arrays at what its grid writes back, all else as entered. -/
def X3 (c : Dev nD) : Valuation τ sig (Elt F) :=
  Pipeline.withArrays spec2 c (X2 m c) fun w => (dat2 (Y2 m) c).arrAt w cfg2.N
/-- The same, read at the references. -/
abbrev Y3 : (c : Dev nD) → (b : Ref sig .tc) → Buf (Elt F) ((c : Thread nD τ).loc b) := fun c b => X3 m c b
/-- An array of call 2 when it is left. -/
theorem X3_arr (c : Dev nD) (w : Fin cfg2.W) :
    X3 m c (Proc.devRef .tc (Pipeline.arrRef spec2 w)) = (dat2 (Y2 m) c).arrAt w cfg2.N := by
  unfold X3; exact Pipeline.withArrays_arr spec2 launch2.win.arr_inj c _ _ w
/-- A buffer that is no array of call 2 is as entered. -/
theorem X3_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
/-- So is one that is an input array or none. -/
theorem X3_keep (c : Dev nD) (r : Ref sig .tc) (h : ∀ w : Fin cfg2.W, Pipeline.arrRef spec2 w = r → (cfg2.win w).isOut = false) :
    X3 m c (Proc.devRef .tc r) = X2 m c (Proc.devRef .tc r) := by
  rcases Classical.em (∃ w : Fin cfg2.W, Pipeline.arrRef spec2 w = r) with ⟨w, rfl⟩ | hw
  · exact (X3_arr m c w).trans (((dat2 (Y2 m) c).arrAt_in w (h w rfl) _).trans (arr2 (Y2 m) c w))
  · exact X3_ne m c r (not_exists.mp hw)
/-- Call 2 leaves the arguments. -/
theorem X3_args (c : Dev nD) : ∀ a ∈ argRefs, X3 m c (Proc.devRef .tc a) = m ((c : Thread nD τ).loc a) := fun a ha => by
  have h : ∀ a ∈ argRefs, ∀ w : Fin cfg2.W, Pipeline.arrRef spec2 w = a → (cfg2.win w).isOut = false :=
    ListAll.forall_mem_of_all_decide (by decide +kernel)
  exact (X3_keep m c a (h a ha)).trans (X2_args m c a ha)

/-- The buffers when call 3 is left: its output arrays at what its grid writes back, all else as entered. -/
def X4 (c : Dev nD) : Valuation τ sig (Elt F) :=
  Pipeline.withArrays spec3 c (X3 m c) fun w => (dat3 (Y3 m) c).arrAt w cfg3.N
/-- The same, read at the references. -/
abbrev Y4 : (c : Dev nD) → (b : Ref sig .tc) → Buf (Elt F) ((c : Thread nD τ).loc b) := fun c b => X4 m c b
/-- An array of call 3 when it is left. -/
theorem X4_arr (c : Dev nD) (w : Fin cfg3.W) :
    X4 m c (Proc.devRef .tc (Pipeline.arrRef spec3 w)) = (dat3 (Y3 m) c).arrAt w cfg3.N := by
  unfold X4; exact Pipeline.withArrays_arr spec3 launch3.win.arr_inj c _ _ w
/-- A buffer that is no array of call 3 is as entered. -/
theorem X4_ne (c : Dev nD) (b : Ref sig .tc) (hb : ∀ w, Pipeline.arrRef spec3 w ≠ b) :
    X4 m c (Proc.devRef .tc b) = X3 m c (Proc.devRef .tc b) := by
  unfold X4; exact Pipeline.withArrays_of_ne spec3 c _ _ b hb
/-- So is one that is an input array or none. -/
theorem X4_keep (c : Dev nD) (r : Ref sig .tc) (h : ∀ w : Fin cfg3.W, Pipeline.arrRef spec3 w = r → (cfg3.win w).isOut = false) :
    X4 m c (Proc.devRef .tc r) = X3 m c (Proc.devRef .tc r) := by
  rcases Classical.em (∃ w : Fin cfg3.W, Pipeline.arrRef spec3 w = r) with ⟨w, rfl⟩ | hw
  · exact (X4_arr m c w).trans (((dat3 (Y3 m) c).arrAt_in w (h w rfl) _).trans (arr3 (Y3 m) c w))
  · exact X4_ne m c r (not_exists.mp hw)
/-- Call 3 leaves the arguments. -/
theorem X4_args (c : Dev nD) : ∀ a ∈ argRefs, X4 m c (Proc.devRef .tc a) = m ((c : Thread nD τ).loc a) := fun a ha => by
  have h : ∀ a ∈ argRefs, ∀ w : Fin cfg3.W, Pipeline.arrRef spec3 w = a → (cfg3.win w).isOut = false :=
    ListAll.forall_mem_of_all_decide (by decide +kernel)
  exact (X4_keep m c a (h a ha)).trans (X3_args m c a ha)

/-- The buffers at the return: the result is cut out of the last call's array. -/
def X5 (c : Dev nD) : Valuation τ sig (Elt F) := StableHlo.after hostOps4 (X4 m c)
/-- The arguments at the return. -/
theorem X5_args (c : Dev nD) : ∀ a ∈ argRefs, X5 m c (Proc.devRef .tc a) = m ((c : Thread nD τ).loc a) := fun a ha => by
  have h : ∀ a ∈ argRefs, a ∉ hostOps4_W := ListAll.forall_mem_of_all_decide (by decide +kernel)
  exact (StableHlo.after_of_writes_sub hostOps4 (X4 m c) hostOps4_writes (h a ha)).trans (X4_args m c a ha)

/-- Every call's proof data, each over the buffers it is entered with. -/
def pdats : (p : Fin 4) → (c : Dev nD) → Dat τ (Elt F) Unit ℕ (UR sig nD τ) ℕ (Pipeline.pin (pcfgs (F := F)) adm p) c
  | ⟨0, _⟩ => fun c => dat0 (Y0 m) c
  | ⟨1, _⟩ => fun c => dat1 (Y1 m) c
  | ⟨2, _⟩ => fun c => dat2 (Y2 m) c
  | ⟨3, _⟩ => fun c => dat3 (Y3 m) c
/-- No variant is used, -/
abbrev 𝒱₀ : Variants := Variants.none
/-- no level assigned, -/
abbrev L : GSem nD τ sig → Finset Unit := fun _ => ∅
/-- none read. -/
abbrev lv : GSem nD τ sig → Unit → ℕ := fun _ _ => 0
/-- What stands beside the buffers all along: the generator's register, and that nothing is owed. -/
abbrev R (c : Dev nD) : sProp 𝕄 := iprop((∃ r, prngReg c r) ∗ ∃ W, owes (c : Thread nD τ) (0 : CellTallies nD τ sig Unit) W)
/-- A host stretch from the buffers `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return. -/
abbrev Tₙ (c : Dev nD) : sProp 𝕄 := iprop(StableHlo.held (c : Thread nD τ) (Pipeline.ucRefs τ sig) (X5 m c) ∗ ∃ r, prngReg c r)

/-- That the selected state at the end does not depend on what the scratch held at the start. -/
abbrev Settles : Prop := ∀ (c : Dev nD) (L : Vec F S2048x128 .f32), lAt (Y0 m) c L 20 = lAt (Y0 m) c (hAt (Y0 m) c 0) 20

set_option backward.isDefEq.respectTransparency.types false in
/-- Call 0, from the buffers it is entered with to those it is left with. -/
def reg0 (hI : Settles m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y0 m) c (hI c)).loose
  hwaits := Pipeline.hwaits_of_owed_zero _ _ _ _ L lv 0 fun _ _ => rfl
  pre c := iprop(StableHlo.held (c : Thread nD τ) (Pipeline.ucRefs τ sig) (X0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (Y0 m c)
  hentry c := by
    rw [Pipeline.ownSems0_none]
    have hs := Pipeline.arrays_of_unscopedBufs (p := 0) (pcfgs (F := F)) adm (pdats m) launch0.win launch0.arr_whole c
      ((pdats m 0 c).share_full fun _ => rfl) (Y0 m c) (arr0 (Y0 m) c)
    rw [Pipeline.unscopedBufs_held] at hs
    iintro ⟨⟨Hb, Hp, HO⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    have h := hin0 (Y0 m) c
    unfold Pipeline.ΦA at h
    rw [show (pdats m 0 c).Φ 0 = (dat0 (Y0 m) c).Φ 0 from rfl]
    iintro ⟨Hp, -, Hr⟩
    iapply h
    isplitl [Hr]; · iexact Hr
    iexact Hp
  hout c := by
    rw [Pipeline.ownSems0_none]
    have h := hout0 (Y0 m) c
    unfold Pipeline.ΦA at h
    rw [show (pdats m 0 c).Φ (Fin.last _) = (dat0 (Y0 m) c).Φ (Fin.last cfg0.N) from rfl]
    iintro H
    ihave H := h $$ H
    icases H with ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y0 m c) (Y1 m c) ((pdats m 0 c).arrAt · cfg0.N) (fun w => (X1_arr m c w).symm)
      (fun b hb => X1_ne m c b fun w e => hb (Finset.mem_image.mpr ⟨w, Finset.mem_univ _, e⟩))
    rw [Pipeline.unscopedBufs_held] at hj
    iintro ⟨Ha, HO, HY, Hr⟩
    imodintro
    isplitl [Ha Hr]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, from the buffers it is entered with to those it is left with. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec1 c (Y1 m c)
  hentry c := by
    rw [Pipeline.ownSems0_none]
    have hs := Pipeline.arrays_of_unscopedBufs (p := 1) (pcfgs (F := F)) adm (pdats m) launch1.win launch1.arr_whole c
      ((pdats m 1 c).share_full fun _ => rfl) (Y1 m c) (arr1 (Y1 m) c)
    rw [Pipeline.unscopedBufs_held] at hs
    iintro ⟨⟨Hb, Hp, HO⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y1 m c) (Y2 m c) ((pdats m 1 c).arrAt · cfg1.N) (fun w => (X2_arr m c w).symm)
      (fun b hb => X2_ne m c b fun w e => hb (Finset.mem_image.mpr ⟨w, Finset.mem_univ _, e⟩))
    rw [Pipeline.unscopedBufs_held] at hj
    iintro ⟨Ha, HO, HY, Hr⟩
    imodintro
    isplitl [Ha Hr]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2, from the buffers it is entered with to those it is left with. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y2 m) c).loose
  hwaits := Pipeline.hwaits_of_owed_zero _ _ _ _ L lv 2 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec2 c (Y2 m c)
  hentry c := by
    rw [Pipeline.ownSems0_none]
    have hs := Pipeline.arrays_of_unscopedBufs (p := 2) (pcfgs (F := F)) adm (pdats m) launch2.win launch2.arr_whole c
      ((pdats m 2 c).share_full fun _ => rfl) (Y2 m c) (arr2 (Y2 m) c)
    rw [Pipeline.unscopedBufs_held] at hs
    iintro ⟨⟨Hb, Hp, HO⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hj := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y2 m c) (Y3 m c) ((pdats m 2 c).arrAt · cfg2.N) (fun w => (X3_arr m c w).symm)
      (fun b hb => X3_ne m c b fun w e => hb (Finset.mem_image.mpr ⟨w, Finset.mem_univ _, e⟩))
    rw [Pipeline.unscopedBufs_held] at hj
    iintro ⟨Ha, HO, HY, Hr⟩
    imodintro
    isplitl [Ha Hr]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3, from the buffers it is entered with to those it is left with. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Y3 m) c).loose
  hwaits := Pipeline.hwaits_of_owed_zero _ _ _ _ L lv 3 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec3 c (Y3 m c)
  hentry c := by
    rw [Pipeline.ownSems0_none]
    have hs := Pipeline.arrays_of_unscopedBufs (p := 3) (pcfgs (F := F)) adm (pdats m) launch3.win launch3.arr_whole c
      ((pdats m 3 c).share_full fun _ => rfl) (Y3 m c) (arr3 (Y3 m) c)
    rw [Pipeline.unscopedBufs_held] at hs
    iintro ⟨⟨Hb, Hp, HO⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hj := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y3 m c) (Y4 m c) ((pdats m 3 c).arrAt · cfg3.N) (fun w => (X4_arr m c w).symm)
      (fun b hb => X4_ne m c b fun w e => hb (Finset.mem_image.mpr ⟨w, Finset.mem_univ _, e⟩))
    rw [Pipeline.unscopedBufs_held] at hj
    iintro ⟨Ha, HO, HY, Hr⟩
    imodintro
    isplitl [Ha Hr]
    · iapply hj; isplitl [Ha] <;> iassumption
    isplitl [HY]; · iexact HY
    unfold Pipeline.Dat.owesAt Pipeline.owesWithin
    icases HO with ⟨%W, -, HO⟩; iexists W; iexact HO

/-- The segments of the program, in order. -/
abbrev parts (hI : Settles m) : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m hI), .region (reg1 m), .region (reg2 m), .region (reg3 m),
    .host (hseg hostOps4 hostOps4_sub hostOps4_fresh (X4 m)) ]
/-- What the last stretch leaves is what is held at the return, and that nothing is owed. -/
theorem closing (c : Dev nD) : iprop(StableHlo.held (c : Thread nD τ) (Pipeline.ucRefs τ sig) (X5 m c) ∗ R c)
    ⊢ (iprop(Tₙ m c ∗ ∃ W, owes (c : Thread nD τ) (0 : CellTallies nD τ sig Unit) W) : sProp 𝕄) := by
  iintro ⟨Hb, Hp, HO⟩
  isplitl [Hb Hp]
  · isplitl [Hb]; · iexact Hb
    iexact Hp
  iexact HO
/-- The program runs them. -/
theorem main_run (hI : Settles m) (c : Dev nD) : main (F := F) c = Pipeline.Seg.run (parts m hI) := (main_chain c).trans (by chain_rfl)

set_option backward.isDefEq.respectTransparency.types false in
/-- The run: from any memory with zero counters every fair execution ends, nothing faults, every unscoped buffer holds what the
    segments leave there, and every counter is zero. -/
theorem run (hI : Settles m) : θ_run defs (onTc (τ := τ) (main (F := F))) ⟨m, fun _ => 0, ρ⟩ (fun r =>
      (∀ c : Dev nD, ∀ b ∈ Pipeline.ucRefs τ sig, r.2.mem (((c : Thread nD τ)).1, b) = X5 m c b) ∧ r.2.sem = fun _ => 0) :=
  Pipeline.θ_run_regions_kit_sems (pcfgs (F := F)) adm (pdats m) () cellOf_inj emb₁ defs₀ 𝒱₀ L lv m ρ main (parts m hI)
    (fun c Q => by rw [main_run m hI c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun c => closing m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m c b)
    (hfin := fun c s' => by
      iintro ⟨⟨Hh, -⟩, HSI⟩
      unfold StableHlo.held
      imodintro
      iapply (pointsTo_read_all (Pipeline.ucRefs τ sig) (fun b => (((c : Thread nD τ)).1, b)) (X5 m c) s')
      isplitl [Hh] <;> iassumption)
    (hQ := fun s h hz => ⟨fun c => h c, funext fun g => hz g (.inr (regions_no_unscoped g.2))⟩)

end Cert.KernelIdeal.Regions

end
-- ==== Proof.KernelIdeal.Pre.lean ====
/- What the host prepares before the first call, buffer by buffer. -/
module

public import proofs.«01_k».proof.Proof.HostRead
public import proofs.«01_k».proof.Proof.Gen.KernelIdeal.Regions

@[expose] public section

set_option maxRecDepth 16384

noncomputable section

namespace Cert.KernelIdeal.Regions

open Cert.KernelIdeal Cert.KernelIdeal.Gen
open Idealize.ShloMosaic Idealize.ShloMosaic.TcCoe Idealize.ShloMosaic.StableHlo
open Cert.HostRead

variable {F : FTy → Type} [FloatOps F]

/-- The operations before the first call. -/
abbrev pre : List (HloOp τ sig (Elt F)) := hostOps0 ++ (hostOps0_1 ++ hostOps0_2)
/-- The references they write, in order. -/
abbrev preW : List (Ref sig .tc) := [main_v0, main_c, main_v1, main_v2, main_c_0, main_c_1, main_call0_v0, main_call0_v1, main_call0_v2, main_call0_v3, main_call0_v4, main_v3, main_v4, main_v5, main_cst, main_v6, main_v7, main_v8, main_v9, main_v10, main_v11, main_v12, main_v13, main_v14, main_v15, main_v16, main_v17, main_v18, main_v19, main_cst_2, main_v20, main_v21, main_c_3, main_v22, main_v23, main_cst_4, main_v24, main_v25, main_v26, main_c_5, main_v27, main_c_6, main_v28, main_v29, main_v30, main_v31, main_v32, main_v33, main_v34, main_v35, main_v36, main_v37]
/-- Each writes its own. -/
theorem preW_eq : (pre (F := F)).map HloOp.writes = preW.map fun w => {Proc.devRef (τ := τ) .tc w} := rfl
/-- They are the three stretches one after another. -/
theorem pre_after (V : Valuation τ sig (Elt F)) : after hostOps0_2 (after hostOps0_1 (after hostOps0 V)) = after pre V := by
  rw [after_append, after_append]
/-- A buffer they do not write. -/
theorem pre_keep (r : Ref sig .tc) (h : r ∉ preW) (V : Valuation τ sig (Elt F)) : after pre V (Proc.devRef .tc r) = V (Proc.devRef .tc r) :=
  after_unwritten preW preW_eq h V

/-! Each buffer as its operation of its operands. -/

/-- `main_v0` from its operands. -/
theorem pre_v0 (V : Valuation τ sig (Elt F)) : after pre V (Proc.devRef .tc main_v0) = shapeCast S2048x2560 (after pre V (Proc.devRef .tc main_arg0)) shapeCasts_S2048x20x128_S2048x2560 :=
  readR preW_eq 0 (a := main_arg0) (y := main_v0) V rfl (by decide) (by decide)
/-- `main_c` from its operands. -/
theorem pre_c (V : Valuation τ sig (Elt F)) : after pre V (Proc.devRef .tc main_c) = constantI S_ 32 1#32  :=
  read0 preW_eq 1 (y := main_c) V (constantI S_ 32 1#32) rfl (by decide)
/-- `main_v1` from its operands. -/
theorem pre_v1 (V : Valuation τ sig (Elt F)) : after pre V (Proc.devRef .tc main_v1) = broadcastInDim S2048 ![] bcast_S_S2048 (after pre V (Proc.devRef .tc main_c)) :=
  read1 preW_eq 2 (a := main_c) (y := main_v1) V (broadcastInDim S2048 ![] bcast_S_S2048 : (⟨S_, .i32⟩ : BufTy).Contents (Elt F) → (⟨S2048, .i32⟩ : BufTy).Contents (Elt F)) rfl (by decide) (by decide)
/-- `main_v2` from its operands. -/
theorem pre_v2 (V : Valuation τ sig (Elt F)) : after pre V (Proc.devRef .tc main_v2) = subi (after pre V (Proc.devRef .tc main_arg2)) (after pre V (Proc.devRef .tc main_v1)) :=
  read2 preW_eq 3 (a := main_arg2) (b := main_v1) (y := main_v2) V (subi : (⟨S2048, .i32⟩ : BufTy).Contents (Elt F) → (⟨S2048, .i32⟩ : BufTy).Contents (Elt F) → (⟨S2048, .i32⟩ : BufTy).Contents (Elt F)) rfl (by decide) (by decide) (by decide)
/-- `main_c_0` from its operands. -/
theorem pre_c_0 (V : Valuation τ sig (Elt F)) : after pre V (Proc.devRef .tc main_c_0) = constantI S_ 32 0#32  :=
  read0 preW_eq 4 (y := main_c_0) V (constantI S_ 32 0#32) rfl (by decide)
/-- `main_c_1` from its operands. -/
theorem pre_c_1 (V : Valuation τ sig (Elt F)) : after pre V (Proc.devRef .tc main_c_1) = constantI S_ 32 19#32  :=
  read0 preW_eq 5 (y := main_c_1) V (constantI S_ 32 19#32) rfl (by decide)
/-- `main_call0_v0` from its operands. -/
theorem pre_call0_v0 (V : Valuation τ sig (Elt F)) : after pre V (Proc.devRef .tc main_call0_v0) = (after pre V (Proc.devRef .tc main_c_0)) :=
  read1 preW_eq 6 (a := main_c_0) (y := main_call0_v0) V id rfl (by decide) (by decide)
/-- `main_call0_v1` from its operands. -/
theorem pre_call0_v1 (V : Valuation τ sig (Elt F)) : after pre V (Proc.devRef .tc main_call0_v1) = broadcastInDim S2048 ![] bcast_S_S2048 (after pre V (Proc.devRef .tc main_call0_v0)) :=
  read1 preW_eq 7 (a := main_call0_v0) (y := main_call0_v1) V (broadcastInDim S2048 ![] bcast_S_S2048) rfl (by decide) (by decide)
/-- `main_call0_v2` from its operands. -/
theorem pre_call0_v2 (V : Valuation τ sig (Elt F)) : after pre V (Proc.devRef .tc main_call0_v2) = maxsi (after pre V (Proc.devRef .tc main_call0_v1)) (after pre V (Proc.devRef .tc main_v2)) :=
  read2 preW_eq 8 (a := main_call0_v1) (b := main_v2) (y := main_call0_v2) V maxsi rfl (by decide) (by decide) (by decide)
/-- `main_call0_v3` from its operands. -/
theorem pre_call0_v3 (V : Valuation τ sig (Elt F)) : after pre V (Proc.devRef .tc main_call0_v3) = (after pre V (Proc.devRef .tc main_c_1)) :=
  read1 preW_eq 9 (a := main_c_1) (y := main_call0_v3) V id rfl (by decide) (by decide)
/-- `main_call0_v4` from its operands. -/
theorem pre_call0_v4 (V : Valuation τ sig (Elt F)) : after pre V (Proc.devRef .tc main_call0_v4) = broadcastInDim S2048 ![] bcast_S_S2048 (after pre V (Proc.devRef .tc main_call0_v3)) :=
  read1 preW_eq 10 (a := main_call0_v3) (y := main_call0_v4) V (broadcastInDim S2048 ![] bcast_S_S2048) rfl (by decide) (by decide)
/-- `main_v3` from its operands. -/
theorem pre_v3 (V : Valuation τ sig (Elt F)) : after pre V (Proc.devRef .tc main_v3) = minsi (after pre V (Proc.devRef .tc main_call0_v4)) (after pre V (Proc.devRef .tc main_call0_v2)) :=
  read2 preW_eq 11 (a := main_call0_v4) (b := main_call0_v2) (y := main_v3) V minsi rfl (by decide) (by decide) (by decide)
/-- `main_v4` from its operands. -/
theorem pre_v4 (V : Valuation τ sig (Elt F)) : after pre V (Proc.devRef .tc main_v4) = shapeCast S2048x1 (after pre V (Proc.devRef .tc main_v3)) shapeCasts_S2048_S2048x1 :=
  readR preW_eq 12 (a := main_v3) (y := main_v4) V rfl (by decide) (by decide)
/-- `main_v5` from its operands. -/
theorem pre_v5 (V : Valuation τ sig (Elt F)) : after pre V (Proc.devRef .tc main_v5) = shapeCast S4 (after pre V (Proc.devRef .tc main_arg12)) shapeCasts_S1x4_S4 :=
  readR preW_eq 13 (a := main_arg12) (y := main_v5) V rfl (by decide) (by decide)
/-- `main_cst` from its operands. -/
theorem pre_cst (V : Valuation τ sig (Elt F)) : after pre V (Proc.devRef .tc main_cst) = constant S_ .f32 0x42100000#32  :=
  read0 preW_eq 14 (y := main_cst) V (constant S_ .f32 0x42100000#32) rfl (by decide)
/-- `main_v6` from its operands. -/
theorem pre_v6 (V : Valuation τ sig (Elt F)) : after pre V (Proc.devRef .tc main_v6) = Host.sqrt (after pre V (Proc.devRef .tc main_cst)) :=
  read1 preW_eq 15 (a := main_cst) (y := main_v6) V (Host.sqrt : (⟨S_, .f32⟩ : BufTy).Contents (Elt F) → (⟨S_, .f32⟩ : BufTy).Contents (Elt F)) rfl (by decide) (by decide)
/-- `main_v7` from its operands. -/
theorem pre_v7 (V : Valuation τ sig (Elt F)) : after pre V (Proc.devRef .tc main_v7) = broadcastInDim S4 ![] bcast_S_S4 (after pre V (Proc.devRef .tc main_v6)) :=
  read1 preW_eq 16 (a := main_v6) (y := main_v7) V (broadcastInDim S4 ![] bcast_S_S4 : (⟨S_, .f32⟩ : BufTy).Contents (Elt F) → (⟨S4, .f32⟩ : BufTy).Contents (Elt F)) rfl (by decide) (by decide)
/-- `main_v8` from its operands. -/
theorem pre_v8 (V : Valuation τ sig (Elt F)) : after pre V (Proc.devRef .tc main_v8) = Host.divf (after pre V (Proc.devRef .tc main_v5)) (after pre V (Proc.devRef .tc main_v7)) :=
  read2 preW_eq 17 (a := main_v5) (b := main_v7) (y := main_v8) V (Host.divf : (⟨S4, .f32⟩ : BufTy).Contents (Elt F) → (⟨S4, .f32⟩ : BufTy).Contents (Elt F) → (⟨S4, .f32⟩ : BufTy).Contents (Elt F)) rfl (by decide) (by decide) (by decide)
/-- `main_v9` from its operands. -/
theorem pre_v9 (V : Valuation τ sig (Elt F)) : after pre V (Proc.devRef .tc main_v9) = broadcastInDim S4x36 ![0] bcast_S4_S4x36_0 (after pre V (Proc.devRef .tc main_v8)) :=
  read1 preW_eq 18 (a := main_v8) (y := main_v9) V (broadcastInDim S4x36 ![0] bcast_S4_S4x36_0 : (⟨S4, .f32⟩ : BufTy).Contents (Elt F) → (⟨S4x36, .f32⟩ : BufTy).Contents (Elt F)) rfl (by decide) (by decide)
/-- `main_v10` from its operands. -/
theorem pre_v10 (V : Valuation τ sig (Elt F)) : after pre V (Proc.devRef .tc main_v10) = shapeCast S144 (after pre V (Proc.devRef .tc main_v9)) shapeCasts_S4x36_S144 :=
  readR preW_eq 19 (a := main_v9) (y := main_v10) V rfl (by decide) (by decide)
/-- `main_v11` from its operands. -/
theorem pre_v11 (V : Valuation τ sig (Elt F)) : after pre V (Proc.devRef .tc main_v11) = broadcastInDim S144x1 ![0] bcast_S144_S144x1_0 (after pre V (Proc.devRef .tc main_v10)) :=
  read1 preW_eq 20 (a := main_v10) (y := main_v11) V (broadcastInDim S144x1 ![0] bcast_S144_S144x1_0 : (⟨S144, .f32⟩ : BufTy).Contents (Elt F) → (⟨S144x1, .f32⟩ : BufTy).Contents (Elt F)) rfl (by decide) (by decide)
/-- `main_v12` from its operands. -/
theorem pre_v12 (V : Valuation τ sig (Elt F)) : after pre V (Proc.devRef .tc main_v12) = broadcastInDim S144x144 ![0, 1] bcast_S144x1_S144x144_0_1 (after pre V (Proc.devRef .tc main_v11)) :=
  read1 preW_eq 21 (a := main_v11) (y := main_v12) V (broadcastInDim S144x144 ![0, 1] bcast_S144x1_S144x144_0_1 : (⟨S144x1, .f32⟩ : BufTy).Contents (Elt F) → (⟨S144x144, .f32⟩ : BufTy).Contents (Elt F)) rfl (by decide) (by decide)
/-- `main_v13` from its operands. -/
theorem pre_v13 (V : Valuation τ sig (Elt F)) : after pre V (Proc.devRef .tc main_v13) = mulf (after pre V (Proc.devRef .tc main_arg8)) (after pre V (Proc.devRef .tc main_v12)) :=
  read2 preW_eq 22 (a := main_arg8) (b := main_v12) (y := main_v13) V (mulf : (⟨S144x144, .f32⟩ : BufTy).Contents (Elt F) → (⟨S144x144, .f32⟩ : BufTy).Contents (Elt F) → (⟨S144x144, .f32⟩ : BufTy).Contents (Elt F)) rfl (by decide) (by decide) (by decide)
/-- `main_v14` from its operands. -/
theorem pre_v14 (V : Valuation τ sig (Elt F)) : after pre V (Proc.devRef .tc main_v14) = transpose S144x144 [1, 0] (after pre V (Proc.devRef .tc main_v13)) transposes_S144x144_S144x144_1_0 :=
  read1 preW_eq 23 (a := main_v13) (y := main_v14) V ((transpose S144x144 [1, 0] · transposes_S144x144_S144x144_1_0) : (⟨S144x144, .f32⟩ : BufTy).Contents (Elt F) → (⟨S144x144, .f32⟩ : BufTy).Contents (Elt F)) rfl (by decide) (by decide)
/-- `main_v15` from its operands. -/
theorem pre_v15 (V : Valuation τ sig (Elt F)) : after pre V (Proc.devRef .tc main_v15) = mulf (after pre V (Proc.devRef .tc main_arg9)) (after pre V (Proc.devRef .tc main_v10)) :=
  read2 preW_eq 24 (a := main_arg9) (b := main_v10) (y := main_v15) V (mulf : (⟨S144, .f32⟩ : BufTy).Contents (Elt F) → (⟨S144, .f32⟩ : BufTy).Contents (Elt F) → (⟨S144, .f32⟩ : BufTy).Contents (Elt F)) rfl (by decide) (by decide) (by decide)
/-- `main_v16` from its operands. -/
theorem pre_v16 (V : Valuation τ sig (Elt F)) : after pre V (Proc.devRef .tc main_v16) = shapeCast S1x144 (after pre V (Proc.devRef .tc main_v15)) shapeCasts_S144_S1x144 :=
  readR preW_eq 25 (a := main_v15) (y := main_v16) V rfl (by decide) (by decide)
/-- `main_v17` from its operands. -/
theorem pre_v17 (V : Valuation τ sig (Elt F)) : after pre V (Proc.devRef .tc main_v17) = transpose S144x144 [1, 0] (after pre V (Proc.devRef .tc main_arg10)) transposes_S144x144_S144x144_1_0 :=
  read1 preW_eq 26 (a := main_arg10) (y := main_v17) V ((transpose S144x144 [1, 0] · transposes_S144x144_S144x144_1_0) : (⟨S144x144, .f32⟩ : BufTy).Contents (Elt F) → (⟨S144x144, .f32⟩ : BufTy).Contents (Elt F)) rfl (by decide) (by decide)
/-- `main_v18` from its operands. -/
theorem pre_v18 (V : Valuation τ sig (Elt F)) : after pre V (Proc.devRef .tc main_v18) = shapeCast S1x144 (after pre V (Proc.devRef .tc main_arg11)) shapeCasts_S144_S1x144 :=
  readR preW_eq 27 (a := main_arg11) (y := main_v18) V rfl (by decide) (by decide)
/-- `main_v19` from its operands. -/
theorem pre_v19 (V : Valuation τ sig (Elt F)) : after pre V (Proc.devRef .tc main_v19) = Host.dotGeneral dot_S2x128_S128x144_S2x144_1_0_0_1_n_n none (after pre V (Proc.devRef .tc main_arg17)) (after pre V (Proc.devRef .tc main_arg15)) :=
  read2 preW_eq 28 (a := main_arg17) (b := main_arg15) (y := main_v19) V ((fun l r => Host.dotGeneral dot_S2x128_S128x144_S2x144_1_0_0_1_n_n none l r) : (⟨S2x128, .f32⟩ : BufTy).Contents (Elt F) → (⟨S128x144, .f32⟩ : BufTy).Contents (Elt F) → (⟨S2x144, .f32⟩ : BufTy).Contents (Elt F)) rfl (by decide) (by decide) (by decide)
/-- `main_cst_2` from its operands. -/
theorem pre_cst_2 (V : Valuation τ sig (Elt F)) : after pre V (Proc.devRef .tc main_cst_2) = constant S_ .f32 0x00000000#32  :=
  read0 preW_eq 29 (y := main_cst_2) V (constant S_ .f32 0x00000000#32) rfl (by decide)
/-- `main_v20` from its operands. -/
theorem pre_v20 (V : Valuation τ sig (Elt F)) : after pre V (Proc.devRef .tc main_v20) = broadcastInDim S144x8 ![] bcast_S_S144x8 (after pre V (Proc.devRef .tc main_cst_2)) :=
  read1 preW_eq 30 (a := main_cst_2) (y := main_v20) V (broadcastInDim S144x8 ![] bcast_S_S144x8 : (⟨S_, .f32⟩ : BufTy).Contents (Elt F) → (⟨S144x8, .f32⟩ : BufTy).Contents (Elt F)) rfl (by decide) (by decide)
/-- `main_v21` from its operands. -/
theorem pre_v21 (V : Valuation τ sig (Elt F)) : after pre V (Proc.devRef .tc main_v21) = transpose S144x2 [1, 0] (after pre V (Proc.devRef .tc main_v19)) transposes_S2x144_S144x2_1_0 :=
  read1 preW_eq 31 (a := main_v19) (y := main_v21) V ((transpose S144x2 [1, 0] · transposes_S2x144_S144x2_1_0) : (⟨S2x144, .f32⟩ : BufTy).Contents (Elt F) → (⟨S144x2, .f32⟩ : BufTy).Contents (Elt F)) rfl (by decide) (by decide)
/-- `main_c_3` from its operands. -/
theorem pre_c_3 (V : Valuation τ sig (Elt F)) : after pre V (Proc.devRef .tc main_c_3) = constantI S_ 32 0#32  :=
  read0 preW_eq 32 (y := main_c_3) V (constantI S_ 32 0#32) rfl (by decide)
/-- `main_v22` from its operands. -/
theorem pre_v22 (V : Valuation τ sig (Elt F)) : after pre V (Proc.devRef .tc main_v22) = broadcastInDim S1 ![] bcast_S_S1 (after pre V (Proc.devRef .tc main_c_3)) :=
  read1 preW_eq 33 (a := main_c_3) (y := main_v22) V (broadcastInDim S1 ![] bcast_S_S1 : (⟨S_, .i32⟩ : BufTy).Contents (Elt F) → (⟨S1, .i32⟩ : BufTy).Contents (Elt F)) rfl (by decide) (by decide)
/-- `main_v23` from its operands. -/
theorem pre_v23 (V : Valuation τ sig (Elt F)) : after pre V (Proc.devRef .tc main_v23) = Host.scatter scatter_S144x8_S1_S144x2_01_n_1_0 (fun _ b => b) (after pre V (Proc.devRef .tc main_v20)) (after pre V (Proc.devRef .tc main_v22)) (after pre V (Proc.devRef .tc main_v21)) :=
  read3 preW_eq 34 (c := main_v20) (a := main_v22) (b := main_v21) (y := main_v23) V ((fun x i u => Host.scatter scatter_S144x8_S1_S144x2_01_n_1_0 (fun _ b => b) x i u) : (⟨S144x8, .f32⟩ : BufTy).Contents (Elt F) → (⟨S1, .i32⟩ : BufTy).Contents (Elt F) → (⟨S144x2, .f32⟩ : BufTy).Contents (Elt F) → (⟨S144x8, .f32⟩ : BufTy).Contents (Elt F)) rfl (by decide) (by decide) (by decide) (by decide)
/-- `main_cst_4` from its operands. -/
theorem pre_cst_4 (V : Valuation τ sig (Elt F)) : after pre V (Proc.devRef .tc main_cst_4) = constant S_ .f32 0x00000000#32  :=
  read0 preW_eq 35 (y := main_cst_4) V (constant S_ .f32 0x00000000#32) rfl (by decide)
/-- `main_v24` from its operands. -/
theorem pre_v24 (V : Valuation τ sig (Elt F)) : after pre V (Proc.devRef .tc main_v24) = broadcastInDim S1x8 ![] bcast_S_S1x8 (after pre V (Proc.devRef .tc main_cst_4)) :=
  read1 preW_eq 36 (a := main_cst_4) (y := main_v24) V (broadcastInDim S1x8 ![] bcast_S_S1x8 : (⟨S_, .f32⟩ : BufTy).Contents (Elt F) → (⟨S1x8, .f32⟩ : BufTy).Contents (Elt F)) rfl (by decide) (by decide)
/-- `main_v25` from its operands. -/
theorem pre_v25 (V : Valuation τ sig (Elt F)) : after pre V (Proc.devRef .tc main_v25) = Host.dotGeneral dot_S2x128_S128_S2_1_0_0_n_n_n none (after pre V (Proc.devRef .tc main_arg17)) (after pre V (Proc.devRef .tc main_arg16)) :=
  read2 preW_eq 37 (a := main_arg17) (b := main_arg16) (y := main_v25) V ((fun l r => Host.dotGeneral dot_S2x128_S128_S2_1_0_0_n_n_n none l r) : (⟨S2x128, .f32⟩ : BufTy).Contents (Elt F) → (⟨S128, .f32⟩ : BufTy).Contents (Elt F) → (⟨S2, .f32⟩ : BufTy).Contents (Elt F)) rfl (by decide) (by decide) (by decide)
/-- `main_v26` from its operands. -/
theorem pre_v26 (V : Valuation τ sig (Elt F)) : after pre V (Proc.devRef .tc main_v26) = addf (after pre V (Proc.devRef .tc main_v25)) (after pre V (Proc.devRef .tc main_arg18)) :=
  read2 preW_eq 38 (a := main_v25) (b := main_arg18) (y := main_v26) V (addf : (⟨S2, .f32⟩ : BufTy).Contents (Elt F) → (⟨S2, .f32⟩ : BufTy).Contents (Elt F) → (⟨S2, .f32⟩ : BufTy).Contents (Elt F)) rfl (by decide) (by decide) (by decide)
/-- `main_c_5` from its operands. -/
theorem pre_c_5 (V : Valuation τ sig (Elt F)) : after pre V (Proc.devRef .tc main_c_5) = constantI S_ 32 0#32  :=
  read0 preW_eq 39 (y := main_c_5) V (constantI S_ 32 0#32) rfl (by decide)
/-- `main_v27` from its operands. -/
theorem pre_v27 (V : Valuation τ sig (Elt F)) : after pre V (Proc.devRef .tc main_v27) = broadcastInDim S1 ![] bcast_S_S1 (after pre V (Proc.devRef .tc main_c_5)) :=
  read1 preW_eq 40 (a := main_c_5) (y := main_v27) V (broadcastInDim S1 ![] bcast_S_S1 : (⟨S_, .i32⟩ : BufTy).Contents (Elt F) → (⟨S1, .i32⟩ : BufTy).Contents (Elt F)) rfl (by decide) (by decide)
/-- `main_c_6` from its operands. -/
theorem pre_c_6 (V : Valuation τ sig (Elt F)) : after pre V (Proc.devRef .tc main_c_6) = constantI S_ 32 0#32  :=
  read0 preW_eq 41 (y := main_c_6) V (constantI S_ 32 0#32) rfl (by decide)
/-- `main_v28` from its operands. -/
theorem pre_v28 (V : Valuation τ sig (Elt F)) : after pre V (Proc.devRef .tc main_v28) = broadcastInDim S1 ![] bcast_S_S1 (after pre V (Proc.devRef .tc main_c_6)) :=
  read1 preW_eq 42 (a := main_c_6) (y := main_v28) V (broadcastInDim S1 ![] bcast_S_S1 : (⟨S_, .i32⟩ : BufTy).Contents (Elt F) → (⟨S1, .i32⟩ : BufTy).Contents (Elt F)) rfl (by decide) (by decide)
/-- `main_v29` from its operands. -/
theorem pre_v29 (V : Valuation τ sig (Elt F)) : after pre V (Proc.devRef .tc main_v29) = concatenate S2 0 [⟨S1, (after pre V (Proc.devRef .tc main_v27))⟩, ⟨S1, (after pre V (Proc.devRef .tc main_v28))⟩] concatenates_S1_S1_S2_d0 :=
  read2 preW_eq 43 (a := main_v27) (b := main_v28) (y := main_v29) V ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) rfl (by decide) (by decide) (by decide)
/-- `main_v30` from its operands. -/
theorem pre_v30 (V : Valuation τ sig (Elt F)) : after pre V (Proc.devRef .tc main_v30) = Host.scatter scatter_S1x8_S2_S2_0_0_01_0 (fun _ b => b) (after pre V (Proc.devRef .tc main_v24)) (after pre V (Proc.devRef .tc main_v29)) (after pre V (Proc.devRef .tc main_v26)) :=
  read3 preW_eq 44 (c := main_v24) (a := main_v29) (b := main_v26) (y := main_v30) V ((fun x i u => Host.scatter scatter_S1x8_S2_S2_0_0_01_0 (fun _ b => b) x i u) : (⟨S1x8, .f32⟩ : BufTy).Contents (Elt F) → (⟨S2, .i32⟩ : BufTy).Contents (Elt F) → (⟨S2, .f32⟩ : BufTy).Contents (Elt F) → (⟨S1x8, .f32⟩ : BufTy).Contents (Elt F)) rfl (by decide) (by decide) (by decide) (by decide)
/-- `main_v31` from its operands. -/
theorem pre_v31 (V : Valuation τ sig (Elt F)) : after pre V (Proc.devRef .tc main_v31) = shapeCast S1x1 (after pre V (Proc.devRef .tc main_arg13)) shapeCasts_S1_S1x1 :=
  readR preW_eq 45 (a := main_arg13) (y := main_v31) V rfl (by decide) (by decide)
/-- `main_v32` from its operands. -/
theorem pre_v32 (V : Valuation τ sig (Elt F)) : after pre V (Proc.devRef .tc main_v32) = shapeCast S1x1 (after pre V (Proc.devRef .tc main_arg14)) shapeCasts_S_S1x1 :=
  readR preW_eq 46 (a := main_arg14) (y := main_v32) V rfl (by decide) (by decide)
/-- `main_v33` from its operands. -/
theorem pre_v33 (V : Valuation τ sig (Elt F)) : after pre V (Proc.devRef .tc main_v33) = transpose S128x384 [1, 0] (after pre V (Proc.devRef .tc main_arg3)) transposes_S384x128_S128x384_1_0 :=
  read1 preW_eq 47 (a := main_arg3) (y := main_v33) V ((transpose S128x384 [1, 0] · transposes_S384x128_S128x384_1_0) : (⟨S384x128, .f32⟩ : BufTy).Contents (Elt F) → (⟨S128x384, .f32⟩ : BufTy).Contents (Elt F)) rfl (by decide) (by decide)
/-- `main_v34` from its operands. -/
theorem pre_v34 (V : Valuation τ sig (Elt F)) : after pre V (Proc.devRef .tc main_v34) = transpose S128x384 [1, 0] (after pre V (Proc.devRef .tc main_arg4)) transposes_S384x128_S128x384_1_0 :=
  read1 preW_eq 48 (a := main_arg4) (y := main_v34) V ((transpose S128x384 [1, 0] · transposes_S384x128_S128x384_1_0) : (⟨S384x128, .f32⟩ : BufTy).Contents (Elt F) → (⟨S128x384, .f32⟩ : BufTy).Contents (Elt F)) rfl (by decide) (by decide)
/-- `main_v35` from its operands. -/
theorem pre_v35 (V : Valuation τ sig (Elt F)) : after pre V (Proc.devRef .tc main_v35) = shapeCast S1x384 (after pre V (Proc.devRef .tc main_arg5)) shapeCasts_S384_S1x384 :=
  readR preW_eq 49 (a := main_arg5) (y := main_v35) V rfl (by decide) (by decide)
/-- `main_v36` from its operands. -/
theorem pre_v36 (V : Valuation τ sig (Elt F)) : after pre V (Proc.devRef .tc main_v36) = shapeCast S1x384 (after pre V (Proc.devRef .tc main_arg6)) shapeCasts_S384_S1x384 :=
  readR preW_eq 50 (a := main_arg6) (y := main_v36) V rfl (by decide) (by decide)
/-- `main_v37` from its operands. -/
theorem pre_v37 (V : Valuation τ sig (Elt F)) : after pre V (Proc.devRef .tc main_v37) = shapeCast S1x128 (after pre V (Proc.devRef .tc main_arg7)) shapeCasts_S128_S1x128 :=
  readR preW_eq 51 (a := main_arg7) (y := main_v37) V rfl (by decide) (by decide)

end Cert.KernelIdeal.Regions

end
-- ==== Proof.KernelIdeal.Idx.lean ====
/- The row selection of the recurrence settles: after all steps, every row holds the state after its own step. -/
module

public import proofs.«01_k».proof.Proof.KernelIdeal.Run
public import proofs.«01_k».proof.Proof.KernelIdeal.Pre
public import Idealize.ShloMosaic.Lib.Pointwise

@[expose] public section

set_option maxRecDepth 16384

noncomputable section
namespace Cert.KernelIdeal.Regions
open Cert.KernelIdeal Cert.KernelIdeal.Gen
open Idealize.ShloMosaic Idealize.ShloMosaic.TcCoe Idealize.ShloMosaic.StableHlo
variable {F : FTy → Type} [FloatOps F]
/-- The select of one step: the new state in the rows whose stored step number is this one, the old one elsewhere. -/
theorem lNext_apply (n : ℕ) (idx : Vec F S2048x1 .i32) (hn l : Vec F S2048x128 .f32) (r : Fin 2048) (j : Fin 128) :
    lNext n idx hn l (ix2 r j) = if idx (ix2 r 0) = BitVec.ofNat 32 n then hn (ix2 r j) else l (ix2 r j) := by
  unfold lNext
  pointwise [k0_pay2]
  rw [WordCmp.cmpi_eq_eq]
  unfold Scalar.select
  by_cases h : idx (ix2 r 0) = BitVec.ofNat 32 n <;> simp [h]

/-- A clipped step number is below twenty. -/
theorem clip_lt (w : BitVec 32) : (IntOp.minsi 19#32 (IntOp.maxsi 0#32 w)).toNat < 20 := by
  unfold IntOp.minsi IntOp.maxsi
  simp only [BitVec.slt_eq_decide, decide_eq_true_eq]
  have e0 : (0#32).toInt = 0 := rfl
  have e1 : (19#32).toInt = 19 := rfl
  have hw := BitVec.toInt_eq_toNat_cond w
  have hl := w.isLt
  by_cases h : w.toInt < (0#32).toInt
  · rw [if_pos h]
    have : ¬ (19#32).toInt < (0#32).toInt := by decide
    rw [if_neg this]; decide
  · rw [if_neg h]
    by_cases h2 : (19#32).toInt < w.toInt
    · rw [if_pos h2]; decide
    · rw [if_neg h2]
      rw [e0] at h; rw [e1] at h2
      split at hw <;> omega

/-- The step number of a row, as the host prepares it: its length less one, clipped to the steps there are. -/
theorem idx_apply (V : Valuation τ sig (Elt F)) (r : Fin 2048) :
    after pre V (Proc.devRef .tc main_v4) (ix2 r 0)
      = IntOp.minsi 19#32 (IntOp.maxsi 0#32 (IntOp.subi ((after pre V (Proc.devRef .tc main_arg2) : Vec F S2048 .i32) (ix1 r)) 1#32)) := by
  rw [pre_v4, pre_v3, pre_call0_v4, pre_call0_v2, pre_call0_v3, pre_call0_v1, pre_call0_v0, pre_c_1, pre_c_0, pre_v2, pre_v1, pre_c]
  pointwise

variable (V : (c : Dev nD) → (b : Ref sig .tc) → Buf (Elt F) ((c : Thread nD τ).loc b))
/-- The step numbers come in one block, the whole array. -/
theorem blk0_2_eq (c : Dev nD) (t : Fin cfg0.N) : blk0 V c 2 t = V c main_v4 :=
  funext fun y => congrArg (V c main_v4) (Shape.idx_ext₂ (win0_2.rect_emb_val_of_index_zero t 0 rfl y) (win0_2.rect_emb_val_of_index_zero t 1 rfl y))

/-- What is selected before step `n`: the state after its row's step, once that step is passed. -/
theorem lAt_apply (c : Dev nD) (L : Vec F S2048x128 .f32) (r : Fin 2048) (j : Fin 128) (k : ℕ) (hk : k < 20)
    (h : (V c main_v4 : Vec F S2048x1 .i32) (ix2 r 0) = BitVec.ofNat 32 k) :
    ∀ n ≤ 20, lAt V c L n (ix2 r j) = if k < n then hAt V c (k + 1) (ix2 r j) else L (ix2 r j)
  | 0, _ => rfl
  | n + 1, hn => by
    have hN : n < cfg0.N := by rw [show cfg0.N = 20 from N_0]; omega
    rw [show n + 1 = (⟨n, hN⟩ : Fin cfg0.N).val + 1 from rfl, lAt_succ, lNext_apply, blk0_2_eq, h, lAt_apply c L r j k hk h n (by omega)]
    show (if BitVec.ofNat 32 k = BitVec.ofNat 32 n then hAt V c (n + 1) (ix2 r j) else _) = if k < n + 1 then _ else _
    have hw : BitVec.ofNat 32 k = BitVec.ofNat 32 n ↔ k = n := WordCmp.ofNat_eq_ofNat_iff (by omega) (by omega)
    by_cases h1 : k = n
    · subst h1; simp
    · rw [if_neg fun e => h1 (hw.mp e)]
      by_cases h2 : k < n
      · rw [if_pos h2, if_pos (by omega)]
      · rw [if_neg h2, if_neg (by omega)]

/-- After all twenty steps nothing of what the scratch held at the start is left. -/
theorem settles (m : (ℓ : Loc nD τ sig) → Buf (Elt F) ℓ) : Settles m := fun c L => by
  refine funext fun y => ?_
  obtain ⟨r, j, rfl⟩ : ∃ (r : Fin 2048) (j : Fin 128), y = ix2 r j := ⟨y 0, y 1, eq_ix2 y⟩
  have e : (Y0 m c main_v4 : Vec F S2048x1 .i32) (ix2 r 0) = BitVec.ofNat 32 ((Y0 m c main_v4 : Vec F S2048x1 .i32) (ix2 r 0)).toNat := by simp
  have hlt : ((Y0 m c main_v4 : Vec F S2048x1 .i32) (ix2 r 0)).toNat < 20 := by
    have hp : (Y0 m c main_v4 : Vec F S2048x1 .i32) = after pre (V0 m c) (Proc.devRef .tc main_v4) := congrFun (pre_after (V0 m c)) _
    rw [hp, idx_apply]
    exact clip_lt _
  rw [lAt_apply (Y0 m) c L r j _ hlt e 20 (le_refl _), lAt_apply (Y0 m) c _ r j _ hlt e 20 (le_refl _), if_pos hlt, if_pos hlt]
end Cert.KernelIdeal.Regions

end
-- ==== Proof.RefLaunch.lean ====
/- The reference as stretches of host operations around one counted loop: what each stretch writes, and that every
   buffer ends at the fold of the operations over the launch contents. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1308

noncomputable section

namespace Cert.ReferenceIdeal.Host

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 14 host operations of @main, in order. -/
abbrev hostOps0 : List (HloOp τ sig (Elt F)) :=
  [ StableHlo.unary main_arg7 main_v0 (broadcastInDim S1x128 ![1] bcast_S128_S1x128_1 : (⟨S128, .f32⟩ : BufTy).Contents (Elt F) → (⟨S1x128, .f32⟩ : BufTy).Contents (Elt F)),
    StableHlo.unary main_v0 main_v1 (broadcastInDim S2048x128 ![0, 1] bcast_S1x128_S2048x128_0_1 : (⟨S1x128, .f32⟩ : BufTy).Contents (Elt F) → (⟨S2048x128, .f32⟩ : BufTy).Contents (Elt F)),
    StableHlo.unary main_arg0 main_v2 ((transpose S20x2048x128 [1, 0, 2] · transposes_S2048x20x128_S20x2048x128_1_0_2) : (⟨S2048x20x128, .f32⟩ : BufTy).Contents (Elt F) → (⟨S20x2048x128, .f32⟩ : BufTy).Contents (Elt F)),
    StableHlo.nullary main_cst (constant S_ .f32 0x00000000#32),
    StableHlo.unary main_cst main_v3 (broadcastInDim S20x2048x128 ![] bcast_S_S20x2048x128 : (⟨S_, .f32⟩ : BufTy).Contents (Elt F) → (⟨S20x2048x128, .f32⟩ : BufTy).Contents (Elt F)),
    StableHlo.nullary main_c (constantI S_ 32 0#32),
    StableHlo.unary main_v2 main_v4_0 id,
    StableHlo.unary main_arg3 main_v4_1 id,
    StableHlo.unary main_arg5 main_v4_2 id,
    StableHlo.unary main_arg4 main_v4_3 id,
    StableHlo.unary main_arg6 main_v4_4 id,
    StableHlo.unary main_c main_v4_5 id,
    StableHlo.unary main_v1 main_v4_6 id,
    StableHlo.unary main_v3 main_v4_7 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_1 : List (HloOp τ sig (Elt F)) :=
  [ StableHlo.nullary main_c_0 (constantI S_ 32 1#32),
    StableHlo.unary main_c_0 main_v5 (broadcastInDim S2048 ![] bcast_S_S2048 : (⟨S_, .i32⟩ : BufTy).Contents (Elt F) → (⟨S2048, .i32⟩ : BufTy).Contents (Elt F)),
    StableHlo.binary main_arg2 main_v5 main_v6 (subi : (⟨S2048, .i32⟩ : BufTy).Contents (Elt F) → (⟨S2048, .i32⟩ : BufTy).Contents (Elt F) → (⟨S2048, .i32⟩ : BufTy).Contents (Elt F)),
    StableHlo.nullary main_c_1 (constantI S_ 32 0#32),
    StableHlo.nullary main_c_2 (constantI S_ 32 19#32) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call2), in order. -/
abbrev hostOps0_2 : List (HloOp τ sig (Elt F)) :=
  [ StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2048, .i32⟩) (broadcastInDim S2048 ![] bcast_S_S2048),
    StableHlo.TRef.binary (.of main_call2_v1 : StableHlo.TRef sig ⟨S2048, .i32⟩) (.of main_v6 : StableHlo.TRef sig ⟨S2048, .i32⟩) (.of main_call2_v2 : StableHlo.TRef sig ⟨S2048, .i32⟩) maxsi,
    StableHlo.TRef.unary (.of main_c_2 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S2048, .i32⟩) (broadcastInDim S2048 ![] bcast_S_S2048),
    StableHlo.TRef.binary (.of main_call2_v4 : StableHlo.TRef sig ⟨S2048, .i32⟩) (.of main_call2_v2 : StableHlo.TRef sig ⟨S2048, .i32⟩) (.of main_v7 : StableHlo.TRef sig ⟨S2048, .i32⟩) minsi ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 61 host operations of @main, in order. -/
abbrev hostOps0_3 : List (HloOp τ sig (Elt F)) :=
  ( StableHlo.nullary main_v8 (iotaInDim S2048 32 0)
  :: StableHlo.nullary main_c_3 (constantI S_ 32 0#32)
  :: StableHlo.unary main_c_3 main_v9 (broadcastInDim S2048 ![] bcast_S_S2048 : (⟨S_, .i32⟩ : BufTy).Contents (Elt F) → (⟨S2048, .i32⟩ : BufTy).Contents (Elt F))
  :: StableHlo.binary main_v7 main_v9 main_v10 (cmpi .slt : (⟨S2048, .i32⟩ : BufTy).Contents (Elt F) → (⟨S2048, .i32⟩ : BufTy).Contents (Elt F) → (⟨S2048, .i1⟩ : BufTy).Contents (Elt F))
  :: StableHlo.nullary main_c_4 (constantI S_ 32 20#32)
  :: StableHlo.unary main_c_4 main_v11 (broadcastInDim S2048 ![] bcast_S_S2048 : (⟨S_, .i32⟩ : BufTy).Contents (Elt F) → (⟨S2048, .i32⟩ : BufTy).Contents (Elt F))
  :: StableHlo.binary main_v7 main_v11 main_v12 (addi : (⟨S2048, .i32⟩ : BufTy).Contents (Elt F) → (⟨S2048, .i32⟩ : BufTy).Contents (Elt F) → (⟨S2048, .i32⟩ : BufTy).Contents (Elt F))
  :: StableHlo.ternary main_v10 main_v12 main_v7 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_5 (constantI S_ 32 0#32)
  :: StableHlo.unary main_c_5 main_v14 (broadcastInDim S2048 ![] bcast_S_S2048 : (⟨S_, .i32⟩ : BufTy).Contents (Elt F) → (⟨S2048, .i32⟩ : BufTy).Contents (Elt F))
  :: StableHlo.binary main_v8 main_v14 main_v15 (cmpi .slt : (⟨S2048, .i32⟩ : BufTy).Contents (Elt F) → (⟨S2048, .i32⟩ : BufTy).Contents (Elt F) → (⟨S2048, .i1⟩ : BufTy).Contents (Elt F))
  :: StableHlo.nullary main_c_6 (constantI S_ 32 2048#32)
  :: StableHlo.unary main_c_6 main_v16 (broadcastInDim S2048 ![] bcast_S_S2048 : (⟨S_, .i32⟩ : BufTy).Contents (Elt F) → (⟨S2048, .i32⟩ : BufTy).Contents (Elt F))
  :: StableHlo.binary main_v8 main_v16 main_v17 (addi : (⟨S2048, .i32⟩ : BufTy).Contents (Elt F) → (⟨S2048, .i32⟩ : BufTy).Contents (Elt F) → (⟨S2048, .i32⟩ : BufTy).Contents (Elt F))
  :: StableHlo.ternary main_v15 main_v17 main_v8 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v13 main_v19 (broadcastInDim S2048x1 ![0] bcast_S2048_S2048x1_0 : (⟨S2048, .i32⟩ : BufTy).Contents (Elt F) → (⟨S2048x1, .i32⟩ : BufTy).Contents (Elt F))
  :: StableHlo.unary main_v18 main_v20 (broadcastInDim S2048x1 ![0] bcast_S2048_S2048x1_0 : (⟨S2048, .i32⟩ : BufTy).Contents (Elt F) → (⟨S2048x1, .i32⟩ : BufTy).Contents (Elt F))
  :: StableHlo.binary main_v19 main_v20 main_v21 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v4_7 main_v21 main_v22 ((fun x i => Host.gather gather_S20x2048x128_S2048x2_S2048x128_1_01_n_n_01_1_11128 x i) : (⟨S20x2048x128, .f32⟩ : BufTy).Contents (Elt F) → (⟨S2048x2, .i32⟩ : BufTy).Contents (Elt F) → (⟨S2048x128, .f32⟩ : BufTy).Contents (Elt F))
  :: StableHlo.binary main_v22 main_arg1 main_v23 ((fun a b => concatenate S2048x144 1 [⟨S2048x128, a⟩, ⟨S2048x16, b⟩] concatenates_S2048x128_S2048x16_S2048x144_d1) : (⟨S2048x128, .f32⟩ : BufTy).Contents (Elt F) → (⟨S2048x16, .f32⟩ : BufTy).Contents (Elt F) → (⟨S2048x144, .f32⟩ : BufTy).Contents (Elt F))
  :: StableHlo.unary main_arg8 main_v24 ((transpose S144x144 [1, 0] · transposes_S144x144_S144x144_1_0) : (⟨S144x144, .f32⟩ : BufTy).Contents (Elt F) → (⟨S144x144, .f32⟩ : BufTy).Contents (Elt F))
  :: StableHlo.binary main_v23 main_v24 main_v25 ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F))
  :: StableHlo.unary main_arg9 main_v26 (broadcastInDim S1x144 ![1] bcast_S144_S1x144_1 : (⟨S144, .f32⟩ : BufTy).Contents (Elt F) → (⟨S1x144, .f32⟩ : BufTy).Contents (Elt F))
  :: StableHlo.unary main_v26 main_v27 (broadcastInDim S2048x144 ![0, 1] bcast_S1x144_S2048x144_0_1 : (⟨S1x144, .f32⟩ : BufTy).Contents (Elt F) → (⟨S2048x144, .f32⟩ : BufTy).Contents (Elt F))
  :: StableHlo.binary main_v25 main_v27 main_v28 (addf : (⟨S2048x144, .f32⟩ : BufTy).Contents (Elt F) → (⟨S2048x144, .f32⟩ : BufTy).Contents (Elt F) → (⟨S2048x144, .f32⟩ : BufTy).Contents (Elt F))
  :: StableHlo.reshape main_v28 main_v29 (rfl : (.f32 : EltTy) = .f32) shapeCasts_S2048x144_S2048x4x36
  :: StableHlo.unary main_arg10 main_v30 ((transpose S144x144 [1, 0] · transposes_S144x144_S144x144_1_0) : (⟨S144x144, .f32⟩ : BufTy).Contents (Elt F) → (⟨S144x144, .f32⟩ : BufTy).Contents (Elt F))
  :: StableHlo.binary main_v23 main_v30 main_v31 ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F))
  :: StableHlo.unary main_arg11 main_v32 (broadcastInDim S1x144 ![1] bcast_S144_S1x144_1 : (⟨S144, .f32⟩ : BufTy).Contents (Elt F) → (⟨S1x144, .f32⟩ : BufTy).Contents (Elt F))
  :: StableHlo.unary main_v32 main_v33 (broadcastInDim S2048x144 ![0, 1] bcast_S1x144_S2048x144_0_1 : (⟨S1x144, .f32⟩ : BufTy).Contents (Elt F) → (⟨S2048x144, .f32⟩ : BufTy).Contents (Elt F))
  :: StableHlo.binary main_v31 main_v33 main_v34 (addf : (⟨S2048x144, .f32⟩ : BufTy).Contents (Elt F) → (⟨S2048x144, .f32⟩ : BufTy).Contents (Elt F) → (⟨S2048x144, .f32⟩ : BufTy).Contents (Elt F))
  :: StableHlo.reshape main_v34 main_v35 (rfl : (.f32 : EltTy) = .f32) shapeCasts_S2048x144_S2048x4x36
  :: StableHlo.binary main_v35 main_v29 main_v36 ((fun l r => Host.dotGeneral dot_S2048x4x36_S2048x4x36_S4x2048x2048_2_2_0_0_1_1 none l r) : (⟨S2048x4x36, .f32⟩ : BufTy).Contents (Elt F) → (⟨S2048x4x36, .f32⟩ : BufTy).Contents (Elt F) → (⟨S4x2048x2048, .f32⟩ : BufTy).Contents (Elt F))
  :: StableHlo.unary main_v36 main_v37 ((transpose S2048x2048x4 [2, 1, 0] · transposes_S4x2048x2048_S2048x2048x4_2_1_0) : (⟨S4x2048x2048, .f32⟩ : BufTy).Contents (Elt F) → (⟨S2048x2048x4, .f32⟩ : BufTy).Contents (Elt F))
  :: StableHlo.nullary main_cst_7 (constant S_ .f32 0x42100000#32)
  :: StableHlo.unary main_cst_7 main_v38 (Host.sqrt : (⟨S_, .f32⟩ : BufTy).Contents (Elt F) → (⟨S_, .f32⟩ : BufTy).Contents (Elt F))
  :: StableHlo.unary main_v38 main_v39 (broadcastInDim S2048x2048x4 ![] bcast_S_S2048x2048x4 : (⟨S_, .f32⟩ : BufTy).Contents (Elt F) → (⟨S2048x2048x4, .f32⟩ : BufTy).Contents (Elt F))
  :: StableHlo.binary main_v37 main_v39 main_v40 (Host.divf : (⟨S2048x2048x4, .f32⟩ : BufTy).Contents (Elt F) → (⟨S2048x2048x4, .f32⟩ : BufTy).Contents (Elt F) → (⟨S2048x2048x4, .f32⟩ : BufTy).Contents (Elt F))
  :: StableHlo.reshape main_arg12 main_v41 (rfl : (.f32 : EltTy) = .f32) shapeCasts_S1x4_S4
  :: StableHlo.binary main_v40 main_v41 main_v42 ((fun l r => Host.dotGeneral dot_S2048x2048x4_S4_S2048x2048_2_0_01_n_n_n none l r) : (⟨S2048x2048x4, .f32⟩ : BufTy).Contents (Elt F) → (⟨S4, .f32⟩ : BufTy).Contents (Elt F) → (⟨S2048x2048, .f32⟩ : BufTy).Contents (Elt F))
  :: StableHlo.reshape main_arg13 main_v43 (rfl : (.f32 : EltTy) = .f32) shapeCasts_S1_S_
  :: StableHlo.unary main_v43 main_v44 (broadcastInDim S2048x2048 ![] bcast_S_S2048x2048 : (⟨S_, .f32⟩ : BufTy).Contents (Elt F) → (⟨S2048x2048, .f32⟩ : BufTy).Contents (Elt F))
  :: StableHlo.binary main_v42 main_v44 main_v45 (addf : (⟨S2048x2048, .f32⟩ : BufTy).Contents (Elt F) → (⟨S2048x2048, .f32⟩ : BufTy).Contents (Elt F) → (⟨S2048x2048, .f32⟩ : BufTy).Contents (Elt F))
  :: StableHlo.nullary main_cst_8 (constant S_ .f32 0xFF800000#32)
  :: StableHlo.binary main_v45 main_cst_8 main_v46 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.nullary main_cst_9 (constant S_ .f32 0xFF800000#32)
  :: StableHlo.unary main_cst_9 main_v47 (broadcastInDim S2048 ![] bcast_S_S2048 : (⟨S_, .f32⟩ : BufTy).Contents (Elt F) → (⟨S2048, .f32⟩ : BufTy).Contents (Elt F))
  :: StableHlo.binary main_v47 main_v46 main_v48 (maximumf : (⟨S2048, .f32⟩ : BufTy).Contents (Elt F) → (⟨S2048, .f32⟩ : BufTy).Contents (Elt F) → (⟨S2048, .f32⟩ : BufTy).Contents (Elt F))
  :: StableHlo.unary main_v48 main_v49 (broadcastInDim S2048x1 ![0] bcast_S2048_S2048x1_0 : (⟨S2048, .f32⟩ : BufTy).Contents (Elt F) → (⟨S2048x1, .f32⟩ : BufTy).Contents (Elt F))
  :: StableHlo.unary main_v49 main_v50 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_v45 main_v50 main_v51 (subf : (⟨S2048x2048, .f32⟩ : BufTy).Contents (Elt F) → (⟨S2048x2048, .f32⟩ : BufTy).Contents (Elt F) → (⟨S2048x2048, .f32⟩ : BufTy).Contents (Elt F))
  :: StableHlo.unary main_v51 main_v52 (Host.exp : (⟨S2048x2048, .f32⟩ : BufTy).Contents (Elt F) → (⟨S2048x2048, .f32⟩ : BufTy).Contents (Elt F))
  :: StableHlo.nullary main_cst_10 (constant S_ .f32 0x00000000#32)
  :: StableHlo.binary main_v52 main_cst_10 main_v53 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.unary main_v53 main_v54 (broadcastInDim S2048x1 ![0] bcast_S2048_S2048x1_0 : (⟨S2048, .f32⟩ : BufTy).Contents (Elt F) → (⟨S2048x1, .f32⟩ : BufTy).Contents (Elt F))
  :: StableHlo.unary main_v54 main_v55 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_v52 main_v55 main_v56 (Host.divf : (⟨S2048x2048, .f32⟩ : BufTy).Contents (Elt F) → (⟨S2048x2048, .f32⟩ : BufTy).Contents (Elt F) → (⟨S2048x2048, .f32⟩ : BufTy).Contents (Elt F))
  :: StableHlo.unary main_arg14 main_v57 (broadcastInDim S2048x2048 ![] bcast_S_S2048x2048 : (⟨S_, .f32⟩ : BufTy).Contents (Elt F) → (⟨S2048x2048, .f32⟩ : BufTy).Contents (Elt F))
  :: StableHlo.binary main_v56 main_v57 main_v58 (cmpf .oge : (⟨S2048x2048, .f32⟩ : BufTy).Contents (Elt F) → (⟨S2048x2048, .f32⟩ : BufTy).Contents (Elt F) → (⟨S2048x2048, .i1⟩ : BufTy).Contents (Elt F))
  :: StableHlo.nullary main_cst_11 (constant S_ .f32 0x3F800000#32)
  :: StableHlo.nullary main_cst_12 (constant S_ .f32 0x00000000#32)
  :: [] )
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.nullary_bufs_sub .., StableHlo.unary_bufs_sub .., StableHlo.unary_bufs_sub .., StableHlo.binary_bufs_sub .., StableHlo.reshape_bufs_sub .., StableHlo.binary_bufs_sub .., StableHlo.reshape_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.nullary_bufs_sub ..⟩
/-- 3 host operations of @_where (main_call3), in order. -/
abbrev hostOps0_4 : List (HloOp τ sig (Elt F)) :=
  [ StableHlo.TRef.unary (.of main_cst_11 : StableHlo.TRef sig ⟨S_, .f32⟩) (.of main_call3_v0 : StableHlo.TRef sig ⟨S2048x2048, .f32⟩) (broadcastInDim S2048x2048 ![] bcast_S_S2048x2048),
    StableHlo.TRef.unary (.of main_cst_12 : StableHlo.TRef sig ⟨S_, .f32⟩) (.of main_call3_v1 : StableHlo.TRef sig ⟨S2048x2048, .f32⟩) (broadcastInDim S2048x2048 ![] bcast_S_S2048x2048),
    StableHlo.TRef.ternary (.of main_v58 : StableHlo.TRef sig ⟨S2048x2048, .i1⟩) (.of main_call3_v0 : StableHlo.TRef sig ⟨S2048x2048, .f32⟩) (.of main_call3_v1 : StableHlo.TRef sig ⟨S2048x2048, .f32⟩) (.of main_v59 : StableHlo.TRef sig ⟨S2048x2048, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.ternary_bufs_sub ..⟩
/-- 12 host operations of @main, in order. -/
abbrev hostOps0_5 : List (HloOp τ sig (Elt F)) :=
  [ StableHlo.nullary main_v60 (iotaInDim S2048x2048 32 0),
    StableHlo.nullary main_v61 (iotaInDim S2048x2048 32 1),
    StableHlo.nullary main_c_13 (constantI S_ 32 0#32),
    StableHlo.unary main_c_13 main_v62 (broadcastInDim S2048x2048 ![] bcast_S_S2048x2048 : (⟨S_, .i32⟩ : BufTy).Contents (Elt F) → (⟨S2048x2048, .i32⟩ : BufTy).Contents (Elt F)),
    StableHlo.binary main_v60 main_v62 main_v63 (addi : (⟨S2048x2048, .i32⟩ : BufTy).Contents (Elt F) → (⟨S2048x2048, .i32⟩ : BufTy).Contents (Elt F) → (⟨S2048x2048, .i32⟩ : BufTy).Contents (Elt F)),
    StableHlo.binary main_v63 main_v61 main_v64 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v64 main_v65 (uitofp .f32 : (⟨S2048x2048, .i1⟩ : BufTy).Contents (Elt F) → (⟨S2048x2048, .f32⟩ : BufTy).Contents (Elt F)),
    StableHlo.unary main_v59 main_v66 (id : (⟨S2048x2048, .f32⟩ : BufTy).Contents (Elt F) → (⟨S2048x2048, .f32⟩ : BufTy).Contents (Elt F)),
    StableHlo.binary main_v66 main_v65 main_v67 (addf : (⟨S2048x2048, .f32⟩ : BufTy).Contents (Elt F) → (⟨S2048x2048, .f32⟩ : BufTy).Contents (Elt F) → (⟨S2048x2048, .f32⟩ : BufTy).Contents (Elt F)),
    StableHlo.nullary main_cst_14 (constant S_ .f32 0x00000000#32),
    StableHlo.binary main_v67 main_cst_14 main_v68 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_15 (constant S_ .f32 0x3F800000#32) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub ..⟩
/-- 3 host operations of @clip_0 (main_call4), in order. -/
abbrev hostOps0_6 : List (HloOp τ sig (Elt F)) :=
  [ StableHlo.TRef.unary (.of main_cst_15 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S2048, .f32⟩) (broadcastInDim S2048 ![] bcast_S_S2048),
    StableHlo.TRef.binary (.of main_call4_v1 : StableHlo.TRef sig ⟨S2048, .f32⟩) (.of main_v68 : StableHlo.TRef sig ⟨S2048, .f32⟩) (.of main_v69 : StableHlo.TRef sig ⟨S2048, .f32⟩) maximumf ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.binary_bufs_sub ..⟩
/-- 21 host operations of @main, in order. -/
abbrev hostOps0_7 : List (HloOp τ sig (Elt F)) :=
  [ StableHlo.unary main_v69 main_v70 (Host.sqrt : (⟨S2048, .f32⟩ : BufTy).Contents (Elt F) → (⟨S2048, .f32⟩ : BufTy).Contents (Elt F)),
    StableHlo.nullary main_cst_16 (constant S_ .f32 0x3F800000#32),
    StableHlo.unary main_cst_16 main_v71 (broadcastInDim S2048 ![] bcast_S_S2048 : (⟨S_, .f32⟩ : BufTy).Contents (Elt F) → (⟨S2048, .f32⟩ : BufTy).Contents (Elt F)),
    StableHlo.binary main_v71 main_v70 main_v72 (Host.divf : (⟨S2048, .f32⟩ : BufTy).Contents (Elt F) → (⟨S2048, .f32⟩ : BufTy).Contents (Elt F) → (⟨S2048, .f32⟩ : BufTy).Contents (Elt F)),
    StableHlo.unary main_v72 main_v73 (broadcastInDim S2048x1 ![0] bcast_S2048_S2048x1_0 : (⟨S2048, .f32⟩ : BufTy).Contents (Elt F) → (⟨S2048x1, .f32⟩ : BufTy).Contents (Elt F)),
    StableHlo.unary main_v73 main_v74 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v67 main_v75 (mulf : (⟨S2048x2048, .f32⟩ : BufTy).Contents (Elt F) → (⟨S2048x2048, .f32⟩ : BufTy).Contents (Elt F) → (⟨S2048x2048, .f32⟩ : BufTy).Contents (Elt F)),
    StableHlo.unary main_v72 main_v76 (broadcastInDim S1x2048 ![1] bcast_S2048_S1x2048_1 : (⟨S2048, .f32⟩ : BufTy).Contents (Elt F) → (⟨S1x2048, .f32⟩ : BufTy).Contents (Elt F)),
    StableHlo.unary main_v76 main_v77 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v75 main_v77 main_v78 (mulf : (⟨S2048x2048, .f32⟩ : BufTy).Contents (Elt F) → (⟨S2048x2048, .f32⟩ : BufTy).Contents (Elt F) → (⟨S2048x2048, .f32⟩ : BufTy).Contents (Elt F)),
    StableHlo.unary main_arg15 main_v79 ((transpose S144x128 [1, 0] · transposes_S128x144_S144x128_1_0) : (⟨S128x144, .f32⟩ : BufTy).Contents (Elt F) → (⟨S144x128, .f32⟩ : BufTy).Contents (Elt F)),
    StableHlo.binary main_v23 main_v79 main_v80 ((fun l r => Host.dotGeneral dot_S2048x144_S144x128_S2048x128_1_0_0_1_n_n none l r) : (⟨S2048x144, .f32⟩ : BufTy).Contents (Elt F) → (⟨S144x128, .f32⟩ : BufTy).Contents (Elt F) → (⟨S2048x128, .f32⟩ : BufTy).Contents (Elt F)),
    StableHlo.binary main_v78 main_v80 main_v81 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    StableHlo.unary main_arg16 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S2048x128 ![0, 1] bcast_S1x128_S2048x128_0_1 : (⟨S1x128, .f32⟩ : BufTy).Contents (Elt F) → (⟨S2048x128, .f32⟩ : BufTy).Contents (Elt F)),
    StableHlo.binary main_v81 main_v83 main_v84 (addf : (⟨S2048x128, .f32⟩ : BufTy).Contents (Elt F) → (⟨S2048x128, .f32⟩ : BufTy).Contents (Elt F) → (⟨S2048x128, .f32⟩ : BufTy).Contents (Elt F)),
    StableHlo.unary main_arg17 main_v85 ((transpose S128x2 [1, 0] · transposes_S2x128_S128x2_1_0) : (⟨S2x128, .f32⟩ : BufTy).Contents (Elt F) → (⟨S128x2, .f32⟩ : BufTy).Contents (Elt F)),
    StableHlo.binary main_v84 main_v85 main_v86 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg18 main_v87 (broadcastInDim S1x2 ![1] bcast_S2_S1x2_1 : (⟨S2, .f32⟩ : BufTy).Contents (Elt F) → (⟨S1x2, .f32⟩ : BufTy).Contents (Elt F)),
    StableHlo.unary main_v87 main_v88 (broadcastInDim S2048x2 ![0, 1] bcast_S1x2_S2048x2_0_1 : (⟨S1x2, .f32⟩ : BufTy).Contents (Elt F) → (⟨S2048x2, .f32⟩ : BufTy).Contents (Elt F)),
    StableHlo.binary main_v86 main_v88 main_v89 (addf : (⟨S2048x2, .f32⟩ : BufTy).Contents (Elt F) → (⟨S2048x2, .f32⟩ : BufTy).Contents (Elt F) → (⟨S2048x2, .f32⟩ : BufTy).Contents (Elt F)) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- 14 host operations of @main, window 0 (statements 1 … 60), in order. -/
abbrev main_part0_ops0 : List (HloOp τ sig (Elt F)) :=
  [ StableHlo.unary main_arg7 main_v0 (broadcastInDim S1x128 ![1] bcast_S128_S1x128_1 : (⟨S128, .f32⟩ : BufTy).Contents (Elt F) → (⟨S1x128, .f32⟩ : BufTy).Contents (Elt F)),
    StableHlo.unary main_v0 main_v1 (broadcastInDim S2048x128 ![0, 1] bcast_S1x128_S2048x128_0_1 : (⟨S1x128, .f32⟩ : BufTy).Contents (Elt F) → (⟨S2048x128, .f32⟩ : BufTy).Contents (Elt F)),
    StableHlo.unary main_arg0 main_v2 ((transpose S20x2048x128 [1, 0, 2] · transposes_S2048x20x128_S20x2048x128_1_0_2) : (⟨S2048x20x128, .f32⟩ : BufTy).Contents (Elt F) → (⟨S20x2048x128, .f32⟩ : BufTy).Contents (Elt F)),
    StableHlo.nullary main_cst (constant S_ .f32 0x00000000#32),
    StableHlo.unary main_cst main_v3 (broadcastInDim S20x2048x128 ![] bcast_S_S20x2048x128 : (⟨S_, .f32⟩ : BufTy).Contents (Elt F) → (⟨S20x2048x128, .f32⟩ : BufTy).Contents (Elt F)),
    StableHlo.nullary main_c (constantI S_ 32 0#32),
    StableHlo.unary main_v2 main_v4_0 id,
    StableHlo.unary main_arg3 main_v4_1 id,
    StableHlo.unary main_arg5 main_v4_2 id,
    StableHlo.unary main_arg4 main_v4_3 id,
    StableHlo.unary main_arg6 main_v4_4 id,
    StableHlo.unary main_c main_v4_5 id,
    StableHlo.unary main_v1 main_v4_6 id,
    StableHlo.unary main_v3 main_v4_7 id ]
/-- 5 host operations of @main, window 0 (statements 1 … 60), in order. -/
abbrev main_part0_ops1 : List (HloOp τ sig (Elt F)) :=
  [ StableHlo.nullary main_c_0 (constantI S_ 32 1#32),
    StableHlo.unary main_c_0 main_v5 (broadcastInDim S2048 ![] bcast_S_S2048 : (⟨S_, .i32⟩ : BufTy).Contents (Elt F) → (⟨S2048, .i32⟩ : BufTy).Contents (Elt F)),
    StableHlo.binary main_arg2 main_v5 main_v6 (subi : (⟨S2048, .i32⟩ : BufTy).Contents (Elt F) → (⟨S2048, .i32⟩ : BufTy).Contents (Elt F) → (⟨S2048, .i32⟩ : BufTy).Contents (Elt F)),
    StableHlo.nullary main_c_1 (constantI S_ 32 0#32),
    StableHlo.nullary main_c_2 (constantI S_ 32 19#32) ]
/-- 6 host operations of @clip (main_call2), window 0 (statements 1 … 60), in order. -/
abbrev main_part0_ops2 : List (HloOp τ sig (Elt F)) :=
  [ StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2048, .i32⟩) (broadcastInDim S2048 ![] bcast_S_S2048),
    StableHlo.TRef.binary (.of main_call2_v1 : StableHlo.TRef sig ⟨S2048, .i32⟩) (.of main_v6 : StableHlo.TRef sig ⟨S2048, .i32⟩) (.of main_call2_v2 : StableHlo.TRef sig ⟨S2048, .i32⟩) maxsi,
    StableHlo.TRef.unary (.of main_c_2 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S2048, .i32⟩) (broadcastInDim S2048 ![] bcast_S_S2048),
    StableHlo.TRef.binary (.of main_call2_v4 : StableHlo.TRef sig ⟨S2048, .i32⟩) (.of main_call2_v2 : StableHlo.TRef sig ⟨S2048, .i32⟩) (.of main_v7 : StableHlo.TRef sig ⟨S2048, .i32⟩) minsi ]
/-- 39 host operations of @main, window 0 (statements 1 … 60), in order. -/
abbrev main_part0_ops3 : List (HloOp τ sig (Elt F)) :=
  ( StableHlo.nullary main_v8 (iotaInDim S2048 32 0)
  :: StableHlo.nullary main_c_3 (constantI S_ 32 0#32)
  :: StableHlo.unary main_c_3 main_v9 (broadcastInDim S2048 ![] bcast_S_S2048 : (⟨S_, .i32⟩ : BufTy).Contents (Elt F) → (⟨S2048, .i32⟩ : BufTy).Contents (Elt F))
  :: StableHlo.binary main_v7 main_v9 main_v10 (cmpi .slt : (⟨S2048, .i32⟩ : BufTy).Contents (Elt F) → (⟨S2048, .i32⟩ : BufTy).Contents (Elt F) → (⟨S2048, .i1⟩ : BufTy).Contents (Elt F))
  :: StableHlo.nullary main_c_4 (constantI S_ 32 20#32)
  :: StableHlo.unary main_c_4 main_v11 (broadcastInDim S2048 ![] bcast_S_S2048 : (⟨S_, .i32⟩ : BufTy).Contents (Elt F) → (⟨S2048, .i32⟩ : BufTy).Contents (Elt F))
  :: StableHlo.binary main_v7 main_v11 main_v12 (addi : (⟨S2048, .i32⟩ : BufTy).Contents (Elt F) → (⟨S2048, .i32⟩ : BufTy).Contents (Elt F) → (⟨S2048, .i32⟩ : BufTy).Contents (Elt F))
  :: StableHlo.ternary main_v10 main_v12 main_v7 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_5 (constantI S_ 32 0#32)
  :: StableHlo.unary main_c_5 main_v14 (broadcastInDim S2048 ![] bcast_S_S2048 : (⟨S_, .i32⟩ : BufTy).Contents (Elt F) → (⟨S2048, .i32⟩ : BufTy).Contents (Elt F))
  :: StableHlo.binary main_v8 main_v14 main_v15 (cmpi .slt : (⟨S2048, .i32⟩ : BufTy).Contents (Elt F) → (⟨S2048, .i32⟩ : BufTy).Contents (Elt F) → (⟨S2048, .i1⟩ : BufTy).Contents (Elt F))
  :: StableHlo.nullary main_c_6 (constantI S_ 32 2048#32)
  :: StableHlo.unary main_c_6 main_v16 (broadcastInDim S2048 ![] bcast_S_S2048 : (⟨S_, .i32⟩ : BufTy).Contents (Elt F) → (⟨S2048, .i32⟩ : BufTy).Contents (Elt F))
  :: StableHlo.binary main_v8 main_v16 main_v17 (addi : (⟨S2048, .i32⟩ : BufTy).Contents (Elt F) → (⟨S2048, .i32⟩ : BufTy).Contents (Elt F) → (⟨S2048, .i32⟩ : BufTy).Contents (Elt F))
  :: StableHlo.ternary main_v15 main_v17 main_v8 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v13 main_v19 (broadcastInDim S2048x1 ![0] bcast_S2048_S2048x1_0 : (⟨S2048, .i32⟩ : BufTy).Contents (Elt F) → (⟨S2048x1, .i32⟩ : BufTy).Contents (Elt F))
  :: StableHlo.unary main_v18 main_v20 (broadcastInDim S2048x1 ![0] bcast_S2048_S2048x1_0 : (⟨S2048, .i32⟩ : BufTy).Contents (Elt F) → (⟨S2048x1, .i32⟩ : BufTy).Contents (Elt F))
  :: StableHlo.binary main_v19 main_v20 main_v21 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v4_7 main_v21 main_v22 ((fun x i => Host.gather gather_S20x2048x128_S2048x2_S2048x128_1_01_n_n_01_1_11128 x i) : (⟨S20x2048x128, .f32⟩ : BufTy).Contents (Elt F) → (⟨S2048x2, .i32⟩ : BufTy).Contents (Elt F) → (⟨S2048x128, .f32⟩ : BufTy).Contents (Elt F))
  :: StableHlo.binary main_v22 main_arg1 main_v23 ((fun a b => concatenate S2048x144 1 [⟨S2048x128, a⟩, ⟨S2048x16, b⟩] concatenates_S2048x128_S2048x16_S2048x144_d1) : (⟨S2048x128, .f32⟩ : BufTy).Contents (Elt F) → (⟨S2048x16, .f32⟩ : BufTy).Contents (Elt F) → (⟨S2048x144, .f32⟩ : BufTy).Contents (Elt F))
  :: StableHlo.unary main_arg8 main_v24 ((transpose S144x144 [1, 0] · transposes_S144x144_S144x144_1_0) : (⟨S144x144, .f32⟩ : BufTy).Contents (Elt F) → (⟨S144x144, .f32⟩ : BufTy).Contents (Elt F))
  :: StableHlo.binary main_v23 main_v24 main_v25 ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F))
  :: StableHlo.unary main_arg9 main_v26 (broadcastInDim S1x144 ![1] bcast_S144_S1x144_1 : (⟨S144, .f32⟩ : BufTy).Contents (Elt F) → (⟨S1x144, .f32⟩ : BufTy).Contents (Elt F))
  :: StableHlo.unary main_v26 main_v27 (broadcastInDim S2048x144 ![0, 1] bcast_S1x144_S2048x144_0_1 : (⟨S1x144, .f32⟩ : BufTy).Contents (Elt F) → (⟨S2048x144, .f32⟩ : BufTy).Contents (Elt F))
  :: StableHlo.binary main_v25 main_v27 main_v28 (addf : (⟨S2048x144, .f32⟩ : BufTy).Contents (Elt F) → (⟨S2048x144, .f32⟩ : BufTy).Contents (Elt F) → (⟨S2048x144, .f32⟩ : BufTy).Contents (Elt F))
  :: StableHlo.reshape main_v28 main_v29 (rfl : (.f32 : EltTy) = .f32) shapeCasts_S2048x144_S2048x4x36
  :: StableHlo.unary main_arg10 main_v30 ((transpose S144x144 [1, 0] · transposes_S144x144_S144x144_1_0) : (⟨S144x144, .f32⟩ : BufTy).Contents (Elt F) → (⟨S144x144, .f32⟩ : BufTy).Contents (Elt F))
  :: StableHlo.binary main_v23 main_v30 main_v31 ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F))
  :: StableHlo.unary main_arg11 main_v32 (broadcastInDim S1x144 ![1] bcast_S144_S1x144_1 : (⟨S144, .f32⟩ : BufTy).Contents (Elt F) → (⟨S1x144, .f32⟩ : BufTy).Contents (Elt F))
  :: StableHlo.unary main_v32 main_v33 (broadcastInDim S2048x144 ![0, 1] bcast_S1x144_S2048x144_0_1 : (⟨S1x144, .f32⟩ : BufTy).Contents (Elt F) → (⟨S2048x144, .f32⟩ : BufTy).Contents (Elt F))
  :: StableHlo.binary main_v31 main_v33 main_v34 (addf : (⟨S2048x144, .f32⟩ : BufTy).Contents (Elt F) → (⟨S2048x144, .f32⟩ : BufTy).Contents (Elt F) → (⟨S2048x144, .f32⟩ : BufTy).Contents (Elt F))
  :: StableHlo.reshape main_v34 main_v35 (rfl : (.f32 : EltTy) = .f32) shapeCasts_S2048x144_S2048x4x36
  :: StableHlo.binary main_v35 main_v29 main_v36 ((fun l r => Host.dotGeneral dot_S2048x4x36_S2048x4x36_S4x2048x2048_2_2_0_0_1_1 none l r) : (⟨S2048x4x36, .f32⟩ : BufTy).Contents (Elt F) → (⟨S2048x4x36, .f32⟩ : BufTy).Contents (Elt F) → (⟨S4x2048x2048, .f32⟩ : BufTy).Contents (Elt F))
  :: StableHlo.unary main_v36 main_v37 ((transpose S2048x2048x4 [2, 1, 0] · transposes_S4x2048x2048_S2048x2048x4_2_1_0) : (⟨S4x2048x2048, .f32⟩ : BufTy).Contents (Elt F) → (⟨S2048x2048x4, .f32⟩ : BufTy).Contents (Elt F))
  :: StableHlo.nullary main_cst_7 (constant S_ .f32 0x42100000#32)
  :: StableHlo.unary main_cst_7 main_v38 (Host.sqrt : (⟨S_, .f32⟩ : BufTy).Contents (Elt F) → (⟨S_, .f32⟩ : BufTy).Contents (Elt F))
  :: StableHlo.unary main_v38 main_v39 (broadcastInDim S2048x2048x4 ![] bcast_S_S2048x2048x4 : (⟨S_, .f32⟩ : BufTy).Contents (Elt F) → (⟨S2048x2048x4, .f32⟩ : BufTy).Contents (Elt F))
  :: StableHlo.binary main_v37 main_v39 main_v40 (Host.divf : (⟨S2048x2048x4, .f32⟩ : BufTy).Contents (Elt F) → (⟨S2048x2048x4, .f32⟩ : BufTy).Contents (Elt F) → (⟨S2048x2048x4, .f32⟩ : BufTy).Contents (Elt F))
  :: StableHlo.reshape main_arg12 main_v41 (rfl : (.f32 : EltTy) = .f32) shapeCasts_S1x4_S4
  :: [] )
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2 ]
  (StableHlo.seq main_part0_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 22 host operations of @main, window 1 (statements 61 … 118), in order. -/
abbrev main_part1_ops0 : List (HloOp τ sig (Elt F)) :=
  [ StableHlo.binary main_v40 main_v41 main_v42 ((fun l r => Host.dotGeneral dot_S2048x2048x4_S4_S2048x2048_2_0_01_n_n_n none l r) : (⟨S2048x2048x4, .f32⟩ : BufTy).Contents (Elt F) → (⟨S4, .f32⟩ : BufTy).Contents (Elt F) → (⟨S2048x2048, .f32⟩ : BufTy).Contents (Elt F)),
    StableHlo.reshape main_arg13 main_v43 (rfl : (.f32 : EltTy) = .f32) shapeCasts_S1_S_,
    StableHlo.unary main_v43 main_v44 (broadcastInDim S2048x2048 ![] bcast_S_S2048x2048 : (⟨S_, .f32⟩ : BufTy).Contents (Elt F) → (⟨S2048x2048, .f32⟩ : BufTy).Contents (Elt F)),
    StableHlo.binary main_v42 main_v44 main_v45 (addf : (⟨S2048x2048, .f32⟩ : BufTy).Contents (Elt F) → (⟨S2048x2048, .f32⟩ : BufTy).Contents (Elt F) → (⟨S2048x2048, .f32⟩ : BufTy).Contents (Elt F)),
    StableHlo.nullary main_cst_8 (constant S_ .f32 0xFF800000#32),
    StableHlo.binary main_v45 main_cst_8 main_v46 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_9 (constant S_ .f32 0xFF800000#32),
    StableHlo.unary main_cst_9 main_v47 (broadcastInDim S2048 ![] bcast_S_S2048 : (⟨S_, .f32⟩ : BufTy).Contents (Elt F) → (⟨S2048, .f32⟩ : BufTy).Contents (Elt F)),
    StableHlo.binary main_v47 main_v46 main_v48 (maximumf : (⟨S2048, .f32⟩ : BufTy).Contents (Elt F) → (⟨S2048, .f32⟩ : BufTy).Contents (Elt F) → (⟨S2048, .f32⟩ : BufTy).Contents (Elt F)),
    StableHlo.unary main_v48 main_v49 (broadcastInDim S2048x1 ![0] bcast_S2048_S2048x1_0 : (⟨S2048, .f32⟩ : BufTy).Contents (Elt F) → (⟨S2048x1, .f32⟩ : BufTy).Contents (Elt F)),
    StableHlo.unary main_v49 main_v50 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v45 main_v50 main_v51 (subf : (⟨S2048x2048, .f32⟩ : BufTy).Contents (Elt F) → (⟨S2048x2048, .f32⟩ : BufTy).Contents (Elt F) → (⟨S2048x2048, .f32⟩ : BufTy).Contents (Elt F)),
    StableHlo.unary main_v51 main_v52 (Host.exp : (⟨S2048x2048, .f32⟩ : BufTy).Contents (Elt F) → (⟨S2048x2048, .f32⟩ : BufTy).Contents (Elt F)),
    StableHlo.nullary main_cst_10 (constant S_ .f32 0x00000000#32),
    StableHlo.binary main_v52 main_cst_10 main_v53 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v53 main_v54 (broadcastInDim S2048x1 ![0] bcast_S2048_S2048x1_0 : (⟨S2048, .f32⟩ : BufTy).Contents (Elt F) → (⟨S2048x1, .f32⟩ : BufTy).Contents (Elt F)),
    StableHlo.unary main_v54 main_v55 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v52 main_v55 main_v56 (Host.divf : (⟨S2048x2048, .f32⟩ : BufTy).Contents (Elt F) → (⟨S2048x2048, .f32⟩ : BufTy).Contents (Elt F) → (⟨S2048x2048, .f32⟩ : BufTy).Contents (Elt F)),
    StableHlo.unary main_arg14 main_v57 (broadcastInDim S2048x2048 ![] bcast_S_S2048x2048 : (⟨S_, .f32⟩ : BufTy).Contents (Elt F) → (⟨S2048x2048, .f32⟩ : BufTy).Contents (Elt F)),
    StableHlo.binary main_v56 main_v57 main_v58 (cmpf .oge : (⟨S2048x2048, .f32⟩ : BufTy).Contents (Elt F) → (⟨S2048x2048, .f32⟩ : BufTy).Contents (Elt F) → (⟨S2048x2048, .i1⟩ : BufTy).Contents (Elt F)),
    StableHlo.nullary main_cst_11 (constant S_ .f32 0x3F800000#32),
    StableHlo.nullary main_cst_12 (constant S_ .f32 0x00000000#32) ]
/-- 3 host operations of @_where (main_call3), window 1 (statements 61 … 118), in order. -/
abbrev main_part1_ops1 : List (HloOp τ sig (Elt F)) :=
  [ StableHlo.TRef.unary (.of main_cst_11 : StableHlo.TRef sig ⟨S_, .f32⟩) (.of main_call3_v0 : StableHlo.TRef sig ⟨S2048x2048, .f32⟩) (broadcastInDim S2048x2048 ![] bcast_S_S2048x2048),
    StableHlo.TRef.unary (.of main_cst_12 : StableHlo.TRef sig ⟨S_, .f32⟩) (.of main_call3_v1 : StableHlo.TRef sig ⟨S2048x2048, .f32⟩) (broadcastInDim S2048x2048 ![] bcast_S_S2048x2048),
    StableHlo.TRef.ternary (.of main_v58 : StableHlo.TRef sig ⟨S2048x2048, .i1⟩) (.of main_call3_v0 : StableHlo.TRef sig ⟨S2048x2048, .f32⟩) (.of main_call3_v1 : StableHlo.TRef sig ⟨S2048x2048, .f32⟩) (.of main_v59 : StableHlo.TRef sig ⟨S2048x2048, .f32⟩) select ]
/-- 12 host operations of @main, window 1 (statements 61 … 118), in order. -/
abbrev main_part1_ops2 : List (HloOp τ sig (Elt F)) :=
  [ StableHlo.nullary main_v60 (iotaInDim S2048x2048 32 0),
    StableHlo.nullary main_v61 (iotaInDim S2048x2048 32 1),
    StableHlo.nullary main_c_13 (constantI S_ 32 0#32),
    StableHlo.unary main_c_13 main_v62 (broadcastInDim S2048x2048 ![] bcast_S_S2048x2048 : (⟨S_, .i32⟩ : BufTy).Contents (Elt F) → (⟨S2048x2048, .i32⟩ : BufTy).Contents (Elt F)),
    StableHlo.binary main_v60 main_v62 main_v63 (addi : (⟨S2048x2048, .i32⟩ : BufTy).Contents (Elt F) → (⟨S2048x2048, .i32⟩ : BufTy).Contents (Elt F) → (⟨S2048x2048, .i32⟩ : BufTy).Contents (Elt F)),
    StableHlo.binary main_v63 main_v61 main_v64 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v64 main_v65 (uitofp .f32 : (⟨S2048x2048, .i1⟩ : BufTy).Contents (Elt F) → (⟨S2048x2048, .f32⟩ : BufTy).Contents (Elt F)),
    StableHlo.unary main_v59 main_v66 (id : (⟨S2048x2048, .f32⟩ : BufTy).Contents (Elt F) → (⟨S2048x2048, .f32⟩ : BufTy).Contents (Elt F)),
    StableHlo.binary main_v66 main_v65 main_v67 (addf : (⟨S2048x2048, .f32⟩ : BufTy).Contents (Elt F) → (⟨S2048x2048, .f32⟩ : BufTy).Contents (Elt F) → (⟨S2048x2048, .f32⟩ : BufTy).Contents (Elt F)),
    StableHlo.nullary main_cst_14 (constant S_ .f32 0x00000000#32),
    StableHlo.binary main_v67 main_cst_14 main_v68 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_15 (constant S_ .f32 0x3F800000#32) ]
/-- 3 host operations of @clip_0 (main_call4), window 1 (statements 61 … 118), in order. -/
abbrev main_part1_ops3 : List (HloOp τ sig (Elt F)) :=
  [ StableHlo.TRef.unary (.of main_cst_15 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S2048, .f32⟩) (broadcastInDim S2048 ![] bcast_S_S2048),
    StableHlo.TRef.binary (.of main_call4_v1 : StableHlo.TRef sig ⟨S2048, .f32⟩) (.of main_v68 : StableHlo.TRef sig ⟨S2048, .f32⟩) (.of main_v69 : StableHlo.TRef sig ⟨S2048, .f32⟩) maximumf ]
/-- 21 host operations of @main, window 1 (statements 61 … 118), in order. -/
abbrev main_part1_ops4 : List (HloOp τ sig (Elt F)) :=
  [ StableHlo.unary main_v69 main_v70 (Host.sqrt : (⟨S2048, .f32⟩ : BufTy).Contents (Elt F) → (⟨S2048, .f32⟩ : BufTy).Contents (Elt F)),
    StableHlo.nullary main_cst_16 (constant S_ .f32 0x3F800000#32),
    StableHlo.unary main_cst_16 main_v71 (broadcastInDim S2048 ![] bcast_S_S2048 : (⟨S_, .f32⟩ : BufTy).Contents (Elt F) → (⟨S2048, .f32⟩ : BufTy).Contents (Elt F)),
    StableHlo.binary main_v71 main_v70 main_v72 (Host.divf : (⟨S2048, .f32⟩ : BufTy).Contents (Elt F) → (⟨S2048, .f32⟩ : BufTy).Contents (Elt F) → (⟨S2048, .f32⟩ : BufTy).Contents (Elt F)),
    StableHlo.unary main_v72 main_v73 (broadcastInDim S2048x1 ![0] bcast_S2048_S2048x1_0 : (⟨S2048, .f32⟩ : BufTy).Contents (Elt F) → (⟨S2048x1, .f32⟩ : BufTy).Contents (Elt F)),
    StableHlo.unary main_v73 main_v74 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v67 main_v75 (mulf : (⟨S2048x2048, .f32⟩ : BufTy).Contents (Elt F) → (⟨S2048x2048, .f32⟩ : BufTy).Contents (Elt F) → (⟨S2048x2048, .f32⟩ : BufTy).Contents (Elt F)),
    StableHlo.unary main_v72 main_v76 (broadcastInDim S1x2048 ![1] bcast_S2048_S1x2048_1 : (⟨S2048, .f32⟩ : BufTy).Contents (Elt F) → (⟨S1x2048, .f32⟩ : BufTy).Contents (Elt F)),
    StableHlo.unary main_v76 main_v77 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v75 main_v77 main_v78 (mulf : (⟨S2048x2048, .f32⟩ : BufTy).Contents (Elt F) → (⟨S2048x2048, .f32⟩ : BufTy).Contents (Elt F) → (⟨S2048x2048, .f32⟩ : BufTy).Contents (Elt F)),
    StableHlo.unary main_arg15 main_v79 ((transpose S144x128 [1, 0] · transposes_S128x144_S144x128_1_0) : (⟨S128x144, .f32⟩ : BufTy).Contents (Elt F) → (⟨S144x128, .f32⟩ : BufTy).Contents (Elt F)),
    StableHlo.binary main_v23 main_v79 main_v80 ((fun l r => Host.dotGeneral dot_S2048x144_S144x128_S2048x128_1_0_0_1_n_n none l r) : (⟨S2048x144, .f32⟩ : BufTy).Contents (Elt F) → (⟨S144x128, .f32⟩ : BufTy).Contents (Elt F) → (⟨S2048x128, .f32⟩ : BufTy).Contents (Elt F)),
    StableHlo.binary main_v78 main_v80 main_v81 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    StableHlo.unary main_arg16 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S2048x128 ![0, 1] bcast_S1x128_S2048x128_0_1 : (⟨S1x128, .f32⟩ : BufTy).Contents (Elt F) → (⟨S2048x128, .f32⟩ : BufTy).Contents (Elt F)),
    StableHlo.binary main_v81 main_v83 main_v84 (addf : (⟨S2048x128, .f32⟩ : BufTy).Contents (Elt F) → (⟨S2048x128, .f32⟩ : BufTy).Contents (Elt F) → (⟨S2048x128, .f32⟩ : BufTy).Contents (Elt F)),
    StableHlo.unary main_arg17 main_v85 ((transpose S128x2 [1, 0] · transposes_S2x128_S128x2_1_0) : (⟨S2x128, .f32⟩ : BufTy).Contents (Elt F) → (⟨S128x2, .f32⟩ : BufTy).Contents (Elt F)),
    StableHlo.binary main_v84 main_v85 main_v86 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg18 main_v87 (broadcastInDim S1x2 ![1] bcast_S2_S1x2_1 : (⟨S2, .f32⟩ : BufTy).Contents (Elt F) → (⟨S1x2, .f32⟩ : BufTy).Contents (Elt F)),
    StableHlo.unary main_v87 main_v88 (broadcastInDim S2048x2 ![0, 1] bcast_S1x2_S2048x2_0_1 : (⟨S1x2, .f32⟩ : BufTy).Contents (Elt F) → (⟨S2048x2, .f32⟩ : BufTy).Contents (Elt F)),
    StableHlo.binary main_v86 main_v88 main_v89 (addf : (⟨S2048x2, .f32⟩ : BufTy).Contents (Elt F) → (⟨S2048x2, .f32⟩ : BufTy).Contents (Elt F) → (⟨S2048x2, .f32⟩ : BufTy).Contents (Elt F)) ]
/-- The last window of `main` (`main_part1`, statements 61 … 118) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3, main_part1_ops0],
    .ops [main_part1_ops1],
    .ops [main_part1_ops2],
    .ops [main_part1_ops3],
    .ops [main_part1_ops4] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v4_0 : StableHlo.TRef sig ⟨S20x2048x128, .f32⟩) ![(.of main_v4_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2048x128, .f32⟩) (fun x i => Host.dynamicSlice S1x2048x128 x (fun k => (i k (Shape.Idx.first h_S_)).toInt) sliceFits_S20x2048x128_S1x2048x128),
    StableHlo.TRef.reshape (.of main_while0b_call0_v0 : StableHlo.TRef sig ⟨S1x2048x128, .f32⟩) (.of main_while0b_v90 : StableHlo.TRef sig ⟨S2048x128, .f32⟩) (rfl : (.f32 : EltTy) = .f32) shapeCasts_S1x2048x128_S2048x128 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 43 host operations of host loop 0's body region, in order. -/
abbrev while0Ops0_1 : List (HloOp τ sig (Elt F)) :=
  ( StableHlo.unary main_v4_1 main_while0b_v91 ((transpose S128x384 [1, 0] · transposes_S384x128_S128x384_1_0) : (⟨S384x128, .f32⟩ : BufTy).Contents (Elt F) → (⟨S128x384, .f32⟩ : BufTy).Contents (Elt F))
  :: StableHlo.binary main_while0b_v90 main_while0b_v91 main_while0b_v92 ((fun l r => Host.dotGeneral dot_S2048x128_S128x384_S2048x384_1_0_0_1_n_n none l r) : (⟨S2048x128, .f32⟩ : BufTy).Contents (Elt F) → (⟨S128x384, .f32⟩ : BufTy).Contents (Elt F) → (⟨S2048x384, .f32⟩ : BufTy).Contents (Elt F))
  :: StableHlo.unary main_v4_2 main_while0b_v93 (broadcastInDim S1x384 ![1] bcast_S384_S1x384_1 : (⟨S384, .f32⟩ : BufTy).Contents (Elt F) → (⟨S1x384, .f32⟩ : BufTy).Contents (Elt F))
  :: StableHlo.unary main_while0b_v93 main_while0b_v94 (broadcastInDim S2048x384 ![0, 1] bcast_S1x384_S2048x384_0_1 : (⟨S1x384, .f32⟩ : BufTy).Contents (Elt F) → (⟨S2048x384, .f32⟩ : BufTy).Contents (Elt F))
  :: StableHlo.binary main_while0b_v92 main_while0b_v94 main_while0b_v95 (addf : (⟨S2048x384, .f32⟩ : BufTy).Contents (Elt F) → (⟨S2048x384, .f32⟩ : BufTy).Contents (Elt F) → (⟨S2048x384, .f32⟩ : BufTy).Contents (Elt F))
  :: StableHlo.unary main_v4_3 main_while0b_v96 ((transpose S128x384 [1, 0] · transposes_S384x128_S128x384_1_0) : (⟨S384x128, .f32⟩ : BufTy).Contents (Elt F) → (⟨S128x384, .f32⟩ : BufTy).Contents (Elt F))
  :: StableHlo.binary main_v4_6 main_while0b_v96 main_while0b_v97 ((fun l r => Host.dotGeneral dot_S2048x128_S128x384_S2048x384_1_0_0_1_n_n none l r) : (⟨S2048x128, .f32⟩ : BufTy).Contents (Elt F) → (⟨S128x384, .f32⟩ : BufTy).Contents (Elt F) → (⟨S2048x384, .f32⟩ : BufTy).Contents (Elt F))
  :: StableHlo.unary main_v4_4 main_while0b_v98 (broadcastInDim S1x384 ![1] bcast_S384_S1x384_1 : (⟨S384, .f32⟩ : BufTy).Contents (Elt F) → (⟨S1x384, .f32⟩ : BufTy).Contents (Elt F))
  :: StableHlo.unary main_while0b_v98 main_while0b_v99 (broadcastInDim S2048x384 ![0, 1] bcast_S1x384_S2048x384_0_1 : (⟨S1x384, .f32⟩ : BufTy).Contents (Elt F) → (⟨S2048x384, .f32⟩ : BufTy).Contents (Elt F))
  :: StableHlo.binary main_while0b_v97 main_while0b_v99 main_while0b_v100 (addf : (⟨S2048x384, .f32⟩ : BufTy).Contents (Elt F) → (⟨S2048x384, .f32⟩ : BufTy).Contents (Elt F) → (⟨S2048x384, .f32⟩ : BufTy).Contents (Elt F))
  :: StableHlo.unary main_while0b_v95 main_while0b_v101 ((extractStridedSlice S2048x128 ![0, 0] · slices_S2048x384_S2048x128_0_0) : (⟨S2048x384, .f32⟩ : BufTy).Contents (Elt F) → (⟨S2048x128, .f32⟩ : BufTy).Contents (Elt F))
  :: StableHlo.unary main_while0b_v95 main_while0b_v102 ((extractStridedSlice S2048x128 ![0, 128] · slices_S2048x384_S2048x128_0_128) : (⟨S2048x384, .f32⟩ : BufTy).Contents (Elt F) → (⟨S2048x128, .f32⟩ : BufTy).Contents (Elt F))
  :: StableHlo.unary main_while0b_v95 main_while0b_v103 ((extractStridedSlice S2048x128 ![0, 256] · slices_S2048x384_S2048x128_0_256) : (⟨S2048x384, .f32⟩ : BufTy).Contents (Elt F) → (⟨S2048x128, .f32⟩ : BufTy).Contents (Elt F))
  :: StableHlo.unary main_while0b_v100 main_while0b_v104 ((extractStridedSlice S2048x128 ![0, 0] · slices_S2048x384_S2048x128_0_0) : (⟨S2048x384, .f32⟩ : BufTy).Contents (Elt F) → (⟨S2048x128, .f32⟩ : BufTy).Contents (Elt F))
  :: StableHlo.unary main_while0b_v100 main_while0b_v105 ((extractStridedSlice S2048x128 ![0, 128] · slices_S2048x384_S2048x128_0_128) : (⟨S2048x384, .f32⟩ : BufTy).Contents (Elt F) → (⟨S2048x128, .f32⟩ : BufTy).Contents (Elt F))
  :: StableHlo.unary main_while0b_v100 main_while0b_v106 ((extractStridedSlice S2048x128 ![0, 256] · slices_S2048x384_S2048x128_0_256) : (⟨S2048x384, .f32⟩ : BufTy).Contents (Elt F) → (⟨S2048x128, .f32⟩ : BufTy).Contents (Elt F))
  :: StableHlo.binary main_while0b_v101 main_while0b_v104 main_while0b_v107 (addf : (⟨S2048x128, .f32⟩ : BufTy).Contents (Elt F) → (⟨S2048x128, .f32⟩ : BufTy).Contents (Elt F) → (⟨S2048x128, .f32⟩ : BufTy).Contents (Elt F))
  :: StableHlo.unary main_while0b_v107 main_while0b_v108 (Host.negf : (⟨S2048x128, .f32⟩ : BufTy).Contents (Elt F) → (⟨S2048x128, .f32⟩ : BufTy).Contents (Elt F))
  :: StableHlo.unary main_while0b_v108 main_while0b_v109 (Host.exp : (⟨S2048x128, .f32⟩ : BufTy).Contents (Elt F) → (⟨S2048x128, .f32⟩ : BufTy).Contents (Elt F))
  :: StableHlo.nullary main_while0b_cst_24 (constant S_ .f32 0x3F800000#32)
  :: StableHlo.unary main_while0b_cst_24 main_while0b_v110 (broadcastInDim S2048x128 ![] bcast_S_S2048x128 : (⟨S_, .f32⟩ : BufTy).Contents (Elt F) → (⟨S2048x128, .f32⟩ : BufTy).Contents (Elt F))
  :: StableHlo.binary main_while0b_v110 main_while0b_v109 main_while0b_v111 (addf : (⟨S2048x128, .f32⟩ : BufTy).Contents (Elt F) → (⟨S2048x128, .f32⟩ : BufTy).Contents (Elt F) → (⟨S2048x128, .f32⟩ : BufTy).Contents (Elt F))
  :: StableHlo.nullary main_while0b_cst_25 (constant S_ .f32 0x3F800000#32)
  :: StableHlo.unary main_while0b_cst_25 main_while0b_v112 (broadcastInDim S2048x128 ![] bcast_S_S2048x128 : (⟨S_, .f32⟩ : BufTy).Contents (Elt F) → (⟨S2048x128, .f32⟩ : BufTy).Contents (Elt F))
  :: StableHlo.binary main_while0b_v112 main_while0b_v111 main_while0b_v113 (Host.divf : (⟨S2048x128, .f32⟩ : BufTy).Contents (Elt F) → (⟨S2048x128, .f32⟩ : BufTy).Contents (Elt F) → (⟨S2048x128, .f32⟩ : BufTy).Contents (Elt F))
  :: StableHlo.binary main_while0b_v102 main_while0b_v105 main_while0b_v114 (addf : (⟨S2048x128, .f32⟩ : BufTy).Contents (Elt F) → (⟨S2048x128, .f32⟩ : BufTy).Contents (Elt F) → (⟨S2048x128, .f32⟩ : BufTy).Contents (Elt F))
  :: StableHlo.unary main_while0b_v114 main_while0b_v115 (Host.negf : (⟨S2048x128, .f32⟩ : BufTy).Contents (Elt F) → (⟨S2048x128, .f32⟩ : BufTy).Contents (Elt F))
  :: StableHlo.unary main_while0b_v115 main_while0b_v116 (Host.exp : (⟨S2048x128, .f32⟩ : BufTy).Contents (Elt F) → (⟨S2048x128, .f32⟩ : BufTy).Contents (Elt F))
  :: StableHlo.nullary main_while0b_cst_26 (constant S_ .f32 0x3F800000#32)
  :: StableHlo.unary main_while0b_cst_26 main_while0b_v117 (broadcastInDim S2048x128 ![] bcast_S_S2048x128 : (⟨S_, .f32⟩ : BufTy).Contents (Elt F) → (⟨S2048x128, .f32⟩ : BufTy).Contents (Elt F))
  :: StableHlo.binary main_while0b_v117 main_while0b_v116 main_while0b_v118 (addf : (⟨S2048x128, .f32⟩ : BufTy).Contents (Elt F) → (⟨S2048x128, .f32⟩ : BufTy).Contents (Elt F) → (⟨S2048x128, .f32⟩ : BufTy).Contents (Elt F))
  :: StableHlo.nullary main_while0b_cst_27 (constant S_ .f32 0x3F800000#32)
  :: StableHlo.unary main_while0b_cst_27 main_while0b_v119 (broadcastInDim S2048x128 ![] bcast_S_S2048x128 : (⟨S_, .f32⟩ : BufTy).Contents (Elt F) → (⟨S2048x128, .f32⟩ : BufTy).Contents (Elt F))
  :: StableHlo.binary main_while0b_v119 main_while0b_v118 main_while0b_v120 (Host.divf : (⟨S2048x128, .f32⟩ : BufTy).Contents (Elt F) → (⟨S2048x128, .f32⟩ : BufTy).Contents (Elt F) → (⟨S2048x128, .f32⟩ : BufTy).Contents (Elt F))
  :: StableHlo.binary main_while0b_v113 main_while0b_v106 main_while0b_v121 (mulf : (⟨S2048x128, .f32⟩ : BufTy).Contents (Elt F) → (⟨S2048x128, .f32⟩ : BufTy).Contents (Elt F) → (⟨S2048x128, .f32⟩ : BufTy).Contents (Elt F))
  :: StableHlo.binary main_while0b_v103 main_while0b_v121 main_while0b_v122 (addf : (⟨S2048x128, .f32⟩ : BufTy).Contents (Elt F) → (⟨S2048x128, .f32⟩ : BufTy).Contents (Elt F) → (⟨S2048x128, .f32⟩ : BufTy).Contents (Elt F))
  :: StableHlo.unary main_while0b_v122 main_while0b_v123 (Host.tanh : (⟨S2048x128, .f32⟩ : BufTy).Contents (Elt F) → (⟨S2048x128, .f32⟩ : BufTy).Contents (Elt F))
  :: StableHlo.nullary main_while0b_cst_28 (constant S_ .f32 0x3F800000#32)
  :: StableHlo.unary main_while0b_cst_28 main_while0b_v124 (broadcastInDim S2048x128 ![] bcast_S_S2048x128 : (⟨S_, .f32⟩ : BufTy).Contents (Elt F) → (⟨S2048x128, .f32⟩ : BufTy).Contents (Elt F))
  :: StableHlo.binary main_while0b_v124 main_while0b_v120 main_while0b_v125 (subf : (⟨S2048x128, .f32⟩ : BufTy).Contents (Elt F) → (⟨S2048x128, .f32⟩ : BufTy).Contents (Elt F) → (⟨S2048x128, .f32⟩ : BufTy).Contents (Elt F))
  :: StableHlo.binary main_while0b_v125 main_while0b_v123 main_while0b_v126 (mulf : (⟨S2048x128, .f32⟩ : BufTy).Contents (Elt F) → (⟨S2048x128, .f32⟩ : BufTy).Contents (Elt F) → (⟨S2048x128, .f32⟩ : BufTy).Contents (Elt F))
  :: StableHlo.binary main_while0b_v120 main_v4_6 main_while0b_v127 (mulf : (⟨S2048x128, .f32⟩ : BufTy).Contents (Elt F) → (⟨S2048x128, .f32⟩ : BufTy).Contents (Elt F) → (⟨S2048x128, .f32⟩ : BufTy).Contents (Elt F))
  :: StableHlo.binary main_while0b_v126 main_while0b_v127 main_while0b_v128 (addf : (⟨S2048x128, .f32⟩ : BufTy).Contents (Elt F) → (⟨S2048x128, .f32⟩ : BufTy).Contents (Elt F) → (⟨S2048x128, .f32⟩ : BufTy).Contents (Elt F))
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- 4 host operations of @dynamic_update_index_in_dim (main_while0b_call1), in order. -/
abbrev while0Ops0_2 : List (HloOp τ sig (Elt F)) :=
  [ StableHlo.TRef.unary (.of main_while0b_v128 : StableHlo.TRef sig ⟨S2048x128, .f32⟩) (.of main_while0b_call1_v0 : StableHlo.TRef sig ⟨S1x2048x128, .f32⟩) (broadcastInDim S1x2048x128 ![1, 2] bcast_S2048x128_S1x2048x128_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v4_7 : StableHlo.TRef sig ⟨S20x2048x128, .f32⟩) (.of main_while0b_call1_v0 : StableHlo.TRef sig ⟨S1x2048x128, .f32⟩) ![(.of main_v4_5 : StableHlo.TRef sig ⟨S_, .i32⟩), (.of main_while0b_call1_c : StableHlo.TRef sig ⟨S_, .i32⟩), (.of main_while0b_call1_c_0 : StableHlo.TRef sig ⟨S_, .i32⟩)] (.of main_while0b_v129 : StableHlo.TRef sig ⟨S20x2048x128, .f32⟩) (fun x u i => Host.dynamicUpdateSlice x u (fun k => (i k (Shape.Idx.first h_S_)).toInt) updateFits_S20x2048x128_S1x2048x128) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev while0Ops0_3 : List (HloOp τ sig (Elt F)) :=
  [ StableHlo.nullary main_while0b_c_29 (constantI S_ 32 1#32),
    StableHlo.binary main_v4_5 main_while0b_c_29 main_while0b_v130 (addi : (⟨S_, .i32⟩ : BufTy).Contents (Elt F) → (⟨S_, .i32⟩ : BufTy).Contents (Elt F) → (⟨S_, .i32⟩ : BufTy).Contents (Elt F)),
    StableHlo.unary main_while0b_v130 main_v4_5 id,
    StableHlo.unary main_while0b_v128 main_v4_6 id,
    StableHlo.unary main_while0b_v129 main_v4_7 id ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

end Cert.ReferenceIdeal.Host

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_cst, main_v3, main_c, main_v4_0, main_v4_1, main_v4_2, main_v4_3, main_v4_4, main_v4_5, main_v4_6, main_v4_7]
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v90]
/-- Each operation of `while0Ops0` writes the reference listed for it. -/
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v91, main_while0b_v92, main_while0b_v93, main_while0b_v94, main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_v109, main_while0b_cst_24, main_while0b_v110, main_while0b_v111, main_while0b_cst_25, main_while0b_v112, main_while0b_v113, main_while0b_v114, main_while0b_v115, main_while0b_v116, main_while0b_cst_26, main_while0b_v117, main_while0b_v118, main_while0b_cst_27, main_while0b_v119, main_while0b_v120, main_while0b_v121, main_while0b_v122, main_while0b_v123, main_while0b_cst_28, main_while0b_v124, main_while0b_v125, main_while0b_v126, main_while0b_v127, main_while0b_v128]
/-- Each operation of `while0Ops0_1` writes the reference listed for it. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_c, main_while0b_call1_c_0, main_while0b_v129]
/-- Each operation of `while0Ops0_2` writes the reference listed for it. -/
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_29, main_while0b_v130, main_v4_5, main_v4_6, main_v4_7]
/-- Each operation of `while0Ops0_3` writes the reference listed for it. -/
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_24 (constantI S_ 32 20#32),
    StableHlo.binary main_v4_5 main_while0c_c_24 main_while0c_v90 (cmpi .slt) ]

/-- @main's stretches before the loop, the loop body's, and @main's after the loop. -/
abbrev preI : List (List (HloOp τ sig (Elt F))) := [hostOps0]
/-- The loop body's stretches. -/
abbrev bodyI : List (List (HloOp τ sig (Elt F))) := [while0Ops0, while0Ops0_1, while0Ops0_2, while0Ops0_3]
/-- The stretches after the loop. -/
abbrev postI : List (List (HloOp τ sig (Elt F))) := [hostOps0_1, hostOps0_2, hostOps0_3, hostOps0_4, hostOps0_5, hostOps0_6, hostOps0_7]

/-- The stretches before the loop touch and allocate nothing of the calls. -/
theorem hpre : Plain (preI (F := F)) := .cons hostOps0_sub (hf := List.forall_iff_forall_mem.mp hostOps0_fresh) (.nil)
/-- So do the loop body's. -/
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))
/-- So do the stretches after the loop. -/
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.nil)))))))

/-- The reference each operation of `condOps` writes, in order. -/
abbrev condOps_W : List (Ref sig .tc) := [main_while0c_c_24, main_while0c_v90]
/-- Each operation of the condition writes the reference listed for it. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_5`) is written by one stretch of the body, `while0Ops0_3`: not by the condition, nor by the
    body's other stretches. -/
theorem ctr_cond (V : Valuation τ sig (Elt F)) : after condOps V (Proc.devRef .tc main_v4_5) = V (Proc.devRef .tc main_v4_5) :=
  after_of_writes_sub condOps V condOps_writes (by decide +kernel)
/-- The first stretch of the body keeps the counter. -/
theorem ctr_while0Ops0 (V : Valuation τ sig (Elt F)) : after while0Ops0 V (Proc.devRef .tc main_v4_5) = V (Proc.devRef .tc main_v4_5) :=
  after_of_writes_sub while0Ops0 V while0Ops0_writes (by decide +kernel)
/-- The second keeps it. -/
theorem ctr_while0Ops0_1 (V : Valuation τ sig (Elt F)) : after while0Ops0_1 V (Proc.devRef .tc main_v4_5) = V (Proc.devRef .tc main_v4_5) :=
  after_of_writes_sub while0Ops0_1 V while0Ops0_1_writes (by decide +kernel)
/-- The third keeps it. -/
theorem ctr_while0Ops0_2 (V : Valuation τ sig (Elt F)) : after while0Ops0_2 V (Proc.devRef .tc main_v4_5) = V (Proc.devRef .tc main_v4_5) :=
  after_of_writes_sub while0Ops0_2 V while0Ops0_2_writes (by decide +kernel)

set_option maxRecDepth 100000 in
/-- `while0Ops0_3` leaves the counter one step on. -/
theorem ctr_step (X : Valuation τ sig (Elt F)) :
    after while0Ops0_3 X (Proc.devRef .tc main_v4_5) = addi (X (Proc.devRef .tc main_v4_5)) (constantI S_ 32 1#32) := by
  after_results
  rfl

/-- The counter is the loop's lower bound at the loop's entry: its last writer before the loop read back. -/
theorem ctr_entry (c : Dev nD) : entryContents preI m c (Proc.devRef .tc main_v4_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 20 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_5 HostLoop.idx0)
        (HloOp.result _ (atK m k c) main_while0c_c_24 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 20 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 20 m ρ (cond_spec m)

end Cert.ReferenceIdeal.Host

end
-- ==== Proof.RefTrip.lean ====
/- One trip of the reference's loop: what it leaves in each buffer it carries. -/
module

public import proofs.«01_k».proof.Proof.RefLaunch

@[expose] public section

set_option maxRecDepth 1308

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## One trip's values -/

/-- The body's operations 1 … 3 of 56. -/
abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v4_0 : StableHlo.TRef sig ⟨S20x2048x128, .f32⟩) ![(.of main_v4_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2048x128, .f32⟩) (fun x i => Host.dynamicSlice S1x2048x128 x (fun k => (i k (Shape.Idx.first h_S_)).toInt) sliceFits_S20x2048x128_S1x2048x128) ]

/-- The body's operations 4 … 4 of 56. -/
abbrev trip_w1 : List (HloOp τ sig (Elt F)) :=
  [ StableHlo.TRef.reshape (.of main_while0b_call0_v0 : StableHlo.TRef sig ⟨S1x2048x128, .f32⟩) (.of main_while0b_v90 : StableHlo.TRef sig ⟨S2048x128, .f32⟩) (rfl : (.f32 : EltTy) = .f32) shapeCasts_S1x2048x128_S2048x128 ]

/-- The body's operations 5 … 28 of 56. -/
abbrev trip_w2 : List (HloOp τ sig (Elt F)) :=
  [ StableHlo.unary main_v4_1 main_while0b_v91 ((transpose S128x384 [1, 0] · transposes_S384x128_S128x384_1_0) : (⟨S384x128, .f32⟩ : BufTy).Contents (Elt F) → (⟨S128x384, .f32⟩ : BufTy).Contents (Elt F)),
    StableHlo.binary main_while0b_v90 main_while0b_v91 main_while0b_v92 ((fun l r => Host.dotGeneral dot_S2048x128_S128x384_S2048x384_1_0_0_1_n_n none l r) : (⟨S2048x128, .f32⟩ : BufTy).Contents (Elt F) → (⟨S128x384, .f32⟩ : BufTy).Contents (Elt F) → (⟨S2048x384, .f32⟩ : BufTy).Contents (Elt F)),
    StableHlo.unary main_v4_2 main_while0b_v93 (broadcastInDim S1x384 ![1] bcast_S384_S1x384_1 : (⟨S384, .f32⟩ : BufTy).Contents (Elt F) → (⟨S1x384, .f32⟩ : BufTy).Contents (Elt F)),
    StableHlo.unary main_while0b_v93 main_while0b_v94 (broadcastInDim S2048x384 ![0, 1] bcast_S1x384_S2048x384_0_1 : (⟨S1x384, .f32⟩ : BufTy).Contents (Elt F) → (⟨S2048x384, .f32⟩ : BufTy).Contents (Elt F)),
    StableHlo.binary main_while0b_v92 main_while0b_v94 main_while0b_v95 (addf : (⟨S2048x384, .f32⟩ : BufTy).Contents (Elt F) → (⟨S2048x384, .f32⟩ : BufTy).Contents (Elt F) → (⟨S2048x384, .f32⟩ : BufTy).Contents (Elt F)),
    StableHlo.unary main_v4_3 main_while0b_v96 ((transpose S128x384 [1, 0] · transposes_S384x128_S128x384_1_0) : (⟨S384x128, .f32⟩ : BufTy).Contents (Elt F) → (⟨S128x384, .f32⟩ : BufTy).Contents (Elt F)),
    StableHlo.binary main_v4_6 main_while0b_v96 main_while0b_v97 ((fun l r => Host.dotGeneral dot_S2048x128_S128x384_S2048x384_1_0_0_1_n_n none l r) : (⟨S2048x128, .f32⟩ : BufTy).Contents (Elt F) → (⟨S128x384, .f32⟩ : BufTy).Contents (Elt F) → (⟨S2048x384, .f32⟩ : BufTy).Contents (Elt F)),
    StableHlo.unary main_v4_4 main_while0b_v98 (broadcastInDim S1x384 ![1] bcast_S384_S1x384_1 : (⟨S384, .f32⟩ : BufTy).Contents (Elt F) → (⟨S1x384, .f32⟩ : BufTy).Contents (Elt F)),
    StableHlo.unary main_while0b_v98 main_while0b_v99 (broadcastInDim S2048x384 ![0, 1] bcast_S1x384_S2048x384_0_1 : (⟨S1x384, .f32⟩ : BufTy).Contents (Elt F) → (⟨S2048x384, .f32⟩ : BufTy).Contents (Elt F)),
    StableHlo.binary main_while0b_v97 main_while0b_v99 main_while0b_v100 (addf : (⟨S2048x384, .f32⟩ : BufTy).Contents (Elt F) → (⟨S2048x384, .f32⟩ : BufTy).Contents (Elt F) → (⟨S2048x384, .f32⟩ : BufTy).Contents (Elt F)),
    StableHlo.unary main_while0b_v95 main_while0b_v101 ((extractStridedSlice S2048x128 ![0, 0] · slices_S2048x384_S2048x128_0_0) : (⟨S2048x384, .f32⟩ : BufTy).Contents (Elt F) → (⟨S2048x128, .f32⟩ : BufTy).Contents (Elt F)),
    StableHlo.unary main_while0b_v95 main_while0b_v102 ((extractStridedSlice S2048x128 ![0, 128] · slices_S2048x384_S2048x128_0_128) : (⟨S2048x384, .f32⟩ : BufTy).Contents (Elt F) → (⟨S2048x128, .f32⟩ : BufTy).Contents (Elt F)),
    StableHlo.unary main_while0b_v95 main_while0b_v103 ((extractStridedSlice S2048x128 ![0, 256] · slices_S2048x384_S2048x128_0_256) : (⟨S2048x384, .f32⟩ : BufTy).Contents (Elt F) → (⟨S2048x128, .f32⟩ : BufTy).Contents (Elt F)),
    StableHlo.unary main_while0b_v100 main_while0b_v104 ((extractStridedSlice S2048x128 ![0, 0] · slices_S2048x384_S2048x128_0_0) : (⟨S2048x384, .f32⟩ : BufTy).Contents (Elt F) → (⟨S2048x128, .f32⟩ : BufTy).Contents (Elt F)),
    StableHlo.unary main_while0b_v100 main_while0b_v105 ((extractStridedSlice S2048x128 ![0, 128] · slices_S2048x384_S2048x128_0_128) : (⟨S2048x384, .f32⟩ : BufTy).Contents (Elt F) → (⟨S2048x128, .f32⟩ : BufTy).Contents (Elt F)),
    StableHlo.unary main_while0b_v100 main_while0b_v106 ((extractStridedSlice S2048x128 ![0, 256] · slices_S2048x384_S2048x128_0_256) : (⟨S2048x384, .f32⟩ : BufTy).Contents (Elt F) → (⟨S2048x128, .f32⟩ : BufTy).Contents (Elt F)),
    StableHlo.binary main_while0b_v101 main_while0b_v104 main_while0b_v107 (addf : (⟨S2048x128, .f32⟩ : BufTy).Contents (Elt F) → (⟨S2048x128, .f32⟩ : BufTy).Contents (Elt F) → (⟨S2048x128, .f32⟩ : BufTy).Contents (Elt F)),
    StableHlo.unary main_while0b_v107 main_while0b_v108 (Host.negf : (⟨S2048x128, .f32⟩ : BufTy).Contents (Elt F) → (⟨S2048x128, .f32⟩ : BufTy).Contents (Elt F)),
    StableHlo.unary main_while0b_v108 main_while0b_v109 (Host.exp : (⟨S2048x128, .f32⟩ : BufTy).Contents (Elt F) → (⟨S2048x128, .f32⟩ : BufTy).Contents (Elt F)),
    StableHlo.nullary main_while0b_cst_24 (constant S_ .f32 0x3F800000#32),
    StableHlo.unary main_while0b_cst_24 main_while0b_v110 (broadcastInDim S2048x128 ![] bcast_S_S2048x128 : (⟨S_, .f32⟩ : BufTy).Contents (Elt F) → (⟨S2048x128, .f32⟩ : BufTy).Contents (Elt F)),
    StableHlo.binary main_while0b_v110 main_while0b_v109 main_while0b_v111 (addf : (⟨S2048x128, .f32⟩ : BufTy).Contents (Elt F) → (⟨S2048x128, .f32⟩ : BufTy).Contents (Elt F) → (⟨S2048x128, .f32⟩ : BufTy).Contents (Elt F)),
    StableHlo.nullary main_while0b_cst_25 (constant S_ .f32 0x3F800000#32),
    StableHlo.unary main_while0b_cst_25 main_while0b_v112 (broadcastInDim S2048x128 ![] bcast_S_S2048x128 : (⟨S_, .f32⟩ : BufTy).Contents (Elt F) → (⟨S2048x128, .f32⟩ : BufTy).Contents (Elt F)) ]

/-- The body's operations 29 … 47 of 56. -/
abbrev trip_w3 : List (HloOp τ sig (Elt F)) :=
  [ StableHlo.binary main_while0b_v112 main_while0b_v111 main_while0b_v113 (Host.divf : (⟨S2048x128, .f32⟩ : BufTy).Contents (Elt F) → (⟨S2048x128, .f32⟩ : BufTy).Contents (Elt F) → (⟨S2048x128, .f32⟩ : BufTy).Contents (Elt F)),
    StableHlo.binary main_while0b_v102 main_while0b_v105 main_while0b_v114 (addf : (⟨S2048x128, .f32⟩ : BufTy).Contents (Elt F) → (⟨S2048x128, .f32⟩ : BufTy).Contents (Elt F) → (⟨S2048x128, .f32⟩ : BufTy).Contents (Elt F)),
    StableHlo.unary main_while0b_v114 main_while0b_v115 (Host.negf : (⟨S2048x128, .f32⟩ : BufTy).Contents (Elt F) → (⟨S2048x128, .f32⟩ : BufTy).Contents (Elt F)),
    StableHlo.unary main_while0b_v115 main_while0b_v116 (Host.exp : (⟨S2048x128, .f32⟩ : BufTy).Contents (Elt F) → (⟨S2048x128, .f32⟩ : BufTy).Contents (Elt F)),
    StableHlo.nullary main_while0b_cst_26 (constant S_ .f32 0x3F800000#32),
    StableHlo.unary main_while0b_cst_26 main_while0b_v117 (broadcastInDim S2048x128 ![] bcast_S_S2048x128 : (⟨S_, .f32⟩ : BufTy).Contents (Elt F) → (⟨S2048x128, .f32⟩ : BufTy).Contents (Elt F)),
    StableHlo.binary main_while0b_v117 main_while0b_v116 main_while0b_v118 (addf : (⟨S2048x128, .f32⟩ : BufTy).Contents (Elt F) → (⟨S2048x128, .f32⟩ : BufTy).Contents (Elt F) → (⟨S2048x128, .f32⟩ : BufTy).Contents (Elt F)),
    StableHlo.nullary main_while0b_cst_27 (constant S_ .f32 0x3F800000#32),
    StableHlo.unary main_while0b_cst_27 main_while0b_v119 (broadcastInDim S2048x128 ![] bcast_S_S2048x128 : (⟨S_, .f32⟩ : BufTy).Contents (Elt F) → (⟨S2048x128, .f32⟩ : BufTy).Contents (Elt F)),
    StableHlo.binary main_while0b_v119 main_while0b_v118 main_while0b_v120 (Host.divf : (⟨S2048x128, .f32⟩ : BufTy).Contents (Elt F) → (⟨S2048x128, .f32⟩ : BufTy).Contents (Elt F) → (⟨S2048x128, .f32⟩ : BufTy).Contents (Elt F)),
    StableHlo.binary main_while0b_v113 main_while0b_v106 main_while0b_v121 (mulf : (⟨S2048x128, .f32⟩ : BufTy).Contents (Elt F) → (⟨S2048x128, .f32⟩ : BufTy).Contents (Elt F) → (⟨S2048x128, .f32⟩ : BufTy).Contents (Elt F)),
    StableHlo.binary main_while0b_v103 main_while0b_v121 main_while0b_v122 (addf : (⟨S2048x128, .f32⟩ : BufTy).Contents (Elt F) → (⟨S2048x128, .f32⟩ : BufTy).Contents (Elt F) → (⟨S2048x128, .f32⟩ : BufTy).Contents (Elt F)),
    StableHlo.unary main_while0b_v122 main_while0b_v123 (Host.tanh : (⟨S2048x128, .f32⟩ : BufTy).Contents (Elt F) → (⟨S2048x128, .f32⟩ : BufTy).Contents (Elt F)),
    StableHlo.nullary main_while0b_cst_28 (constant S_ .f32 0x3F800000#32),
    StableHlo.unary main_while0b_cst_28 main_while0b_v124 (broadcastInDim S2048x128 ![] bcast_S_S2048x128 : (⟨S_, .f32⟩ : BufTy).Contents (Elt F) → (⟨S2048x128, .f32⟩ : BufTy).Contents (Elt F)),
    StableHlo.binary main_while0b_v124 main_while0b_v120 main_while0b_v125 (subf : (⟨S2048x128, .f32⟩ : BufTy).Contents (Elt F) → (⟨S2048x128, .f32⟩ : BufTy).Contents (Elt F) → (⟨S2048x128, .f32⟩ : BufTy).Contents (Elt F)),
    StableHlo.binary main_while0b_v125 main_while0b_v123 main_while0b_v126 (mulf : (⟨S2048x128, .f32⟩ : BufTy).Contents (Elt F) → (⟨S2048x128, .f32⟩ : BufTy).Contents (Elt F) → (⟨S2048x128, .f32⟩ : BufTy).Contents (Elt F)),
    StableHlo.binary main_while0b_v120 main_v4_6 main_while0b_v127 (mulf : (⟨S2048x128, .f32⟩ : BufTy).Contents (Elt F) → (⟨S2048x128, .f32⟩ : BufTy).Contents (Elt F) → (⟨S2048x128, .f32⟩ : BufTy).Contents (Elt F)),
    StableHlo.binary main_while0b_v126 main_while0b_v127 main_while0b_v128 (addf : (⟨S2048x128, .f32⟩ : BufTy).Contents (Elt F) → (⟨S2048x128, .f32⟩ : BufTy).Contents (Elt F) → (⟨S2048x128, .f32⟩ : BufTy).Contents (Elt F)) ]

/-- The body's operations 48 … 51 of 56. -/
abbrev trip_w4 : List (HloOp τ sig (Elt F)) :=
  [ StableHlo.TRef.unary (.of main_while0b_v128 : StableHlo.TRef sig ⟨S2048x128, .f32⟩) (.of main_while0b_call1_v0 : StableHlo.TRef sig ⟨S1x2048x128, .f32⟩) (broadcastInDim S1x2048x128 ![1, 2] bcast_S2048x128_S1x2048x128_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v4_7 : StableHlo.TRef sig ⟨S20x2048x128, .f32⟩) (.of main_while0b_call1_v0 : StableHlo.TRef sig ⟨S1x2048x128, .f32⟩) ![(.of main_v4_5 : StableHlo.TRef sig ⟨S_, .i32⟩), (.of main_while0b_call1_c : StableHlo.TRef sig ⟨S_, .i32⟩), (.of main_while0b_call1_c_0 : StableHlo.TRef sig ⟨S_, .i32⟩)] (.of main_while0b_v129 : StableHlo.TRef sig ⟨S20x2048x128, .f32⟩) (fun x u i => Host.dynamicUpdateSlice x u (fun k => (i k (Shape.Idx.first h_S_)).toInt) updateFits_S20x2048x128_S1x2048x128) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl

set_option maxRecDepth 8192 in
/-- `main_while0b_v95`'s composed term of the carried buffers (named: it is used 3 times). -/
def res_main_while0b_v95 (V0 : Valuation τ sig (Elt F)) : (Proc.devRef .tc main_while0b_v95 : DevRef τ sig).ty.Contents (Elt F) :=
  addf (Host.dotGeneral dot_S2048x128_S128x384_S2048x384_1_0_0_1_n_n none (shapeCast S2048x128 (Host.dynamicSlice S1x2048x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S20x2048x128_S1x2048x128) shapeCasts_S1x2048x128_S2048x128) (transpose S128x384 [1, 0] (V0 (Proc.devRef .tc main_v4_1)) transposes_S384x128_S128x384_1_0)) (broadcastInDim S2048x384 ![0, 1] bcast_S1x384_S2048x384_0_1 (broadcastInDim S1x384 ![1] bcast_S384_S1x384_1 (V0 (Proc.devRef .tc main_v4_2))))

set_option maxRecDepth 8192 in
/-- `main_while0b_v100`'s composed term of the carried buffers (named: it is used 3 times). -/
def res_main_while0b_v100 (V0 : Valuation τ sig (Elt F)) : (Proc.devRef .tc main_while0b_v100 : DevRef τ sig).ty.Contents (Elt F) :=
  addf (Host.dotGeneral dot_S2048x128_S128x384_S2048x384_1_0_0_1_n_n none (V0 (Proc.devRef .tc main_v4_6)) (transpose S128x384 [1, 0] (V0 (Proc.devRef .tc main_v4_3)) transposes_S384x128_S128x384_1_0)) (broadcastInDim S2048x384 ![0, 1] bcast_S1x384_S2048x384_0_1 (broadcastInDim S1x384 ![1] bcast_S384_S1x384_1 (V0 (Proc.devRef .tc main_v4_4))))

set_option maxRecDepth 8192 in
/-- `main_while0b_v120`'s composed term of the carried buffers (named: it is used 2 times). -/
def res_main_while0b_v120 (V0 : Valuation τ sig (Elt F)) : (Proc.devRef .tc main_while0b_v120 : DevRef τ sig).ty.Contents (Elt F) :=
  Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 128] (res_main_while0b_v95 V0) slices_S2048x384_S2048x128_0_128) (extractStridedSlice S2048x128 ![0, 128] (res_main_while0b_v100 V0) slices_S2048x384_S2048x128_0_128)))))

set_option maxRecDepth 8192 in
/-- `main_while0b_v128`'s composed term of the carried buffers (named: it is used 2 times). -/
def res_main_while0b_v128 (V0 : Valuation τ sig (Elt F)) : (Proc.devRef .tc main_while0b_v128 : DevRef τ sig).ty.Contents (Elt F) :=
  addf (mulf (subf (broadcastInDim S2048x128 ![] bcast_S_S2048x128 (constant S_ .f32 0x3F800000#32)) (res_main_while0b_v120 V0)) (Host.tanh (addf (extractStridedSlice S2048x128 ![0, 256] (res_main_while0b_v95 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v95 V0) slices_S2048x384_S2048x128_0_0) (extractStridedSlice S2048x128 ![0, 0] (res_main_while0b_v100 V0) slices_S2048x384_S2048x128_0_0)))))) (extractStridedSlice S2048x128 ![0, 256] (res_main_while0b_v100 V0) slices_S2048x384_S2048x128_0_256))))) (mulf (res_main_while0b_v120 V0) (V0 (Proc.devRef .tc main_v4_6)))

/-- The device's buffer contents before the body's first window. -/
def val0 (V0 : Valuation τ sig (Elt F)) : Valuation τ sig (Elt F) := V0
/-- `main_v4_0` after 0 windows. -/
theorem val0_main_v4_0 (V0 : Valuation τ sig (Elt F)) : val0 V0 (no_index (Proc.devRef .tc main_v4_0)) = V0 (Proc.devRef .tc main_v4_0) := rfl
/-- `main_v4_5` after 0 windows. -/
theorem val0_main_v4_5 (V0 : Valuation τ sig (Elt F)) : val0 V0 (no_index (Proc.devRef .tc main_v4_5)) = V0 (Proc.devRef .tc main_v4_5) := rfl
/-- `main_v4_1` after 0 windows. -/
theorem val0_main_v4_1 (V0 : Valuation τ sig (Elt F)) : val0 V0 (no_index (Proc.devRef .tc main_v4_1)) = V0 (Proc.devRef .tc main_v4_1) := rfl
/-- `main_v4_2` after 0 windows. -/
theorem val0_main_v4_2 (V0 : Valuation τ sig (Elt F)) : val0 V0 (no_index (Proc.devRef .tc main_v4_2)) = V0 (Proc.devRef .tc main_v4_2) := rfl
/-- `main_v4_3` after 0 windows. -/
theorem val0_main_v4_3 (V0 : Valuation τ sig (Elt F)) : val0 V0 (no_index (Proc.devRef .tc main_v4_3)) = V0 (Proc.devRef .tc main_v4_3) := rfl
/-- `main_v4_6` after 0 windows. -/
theorem val0_main_v4_6 (V0 : Valuation τ sig (Elt F)) : val0 V0 (no_index (Proc.devRef .tc main_v4_6)) = V0 (Proc.devRef .tc main_v4_6) := rfl
/-- `main_v4_4` after 0 windows. -/
theorem val0_main_v4_4 (V0 : Valuation τ sig (Elt F)) : val0 V0 (no_index (Proc.devRef .tc main_v4_4)) = V0 (Proc.devRef .tc main_v4_4) := rfl
/-- `main_v4_7` after 0 windows. -/
theorem val0_main_v4_7 (V0 : Valuation τ sig (Elt F)) : val0 V0 (no_index (Proc.devRef .tc main_v4_7)) = V0 (Proc.devRef .tc main_v4_7) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_c_0, main_while0b_call0_v0]
set_option maxRecDepth 8192 in
/-- Each operation of `trip_w0` writes the reference listed for it. -/
theorem trip_w0_writes : (trip_w0 : List (HloOp τ sig (Elt F))).Forall fun op => op.writes ⊆ (trip_w0_W.map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
/-- `main_v4_0` after 1 windows. -/
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
/-- `main_v4_5` after 1 windows. -/
theorem val1_main_v4_5 (V0 : Valuation τ sig (Elt F)) : val1 V0 (no_index (Proc.devRef .tc main_v4_5)) = V0 (Proc.devRef .tc main_v4_5) :=
  (val1_keep V0 main_v4_5 (by decide)).trans (val0_main_v4_5 V0)
/-- `main_v4_1` after 1 windows. -/
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
/-- `main_v4_2` after 1 windows. -/
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
/-- `main_v4_3` after 1 windows. -/
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
/-- `main_v4_6` after 1 windows. -/
theorem val1_main_v4_6 (V0 : Valuation τ sig (Elt F)) : val1 V0 (no_index (Proc.devRef .tc main_v4_6)) = V0 (Proc.devRef .tc main_v4_6) :=
  (val1_keep V0 main_v4_6 (by decide)).trans (val0_main_v4_6 V0)
/-- `main_v4_4` after 1 windows. -/
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
/-- `main_v4_7` after 1 windows. -/
theorem val1_main_v4_7 (V0 : Valuation τ sig (Elt F)) : val1 V0 (no_index (Proc.devRef .tc main_v4_7)) = V0 (Proc.devRef .tc main_v4_7) :=
  (val1_keep V0 main_v4_7 (by decide)).trans (val0_main_v4_7 V0)
set_option maxRecDepth 8192 in
/-- `main_while0b_call0_v0` after 1 windows. -/
theorem val1_main_while0b_call0_v0 (V0 : Valuation τ sig (Elt F)) : val1 V0 (no_index (Proc.devRef .tc main_while0b_call0_v0)) = Host.dynamicSlice S1x2048x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S20x2048x128_S1x2048x128 := by
  unfold val1
  simp only [trip_w0]
  after_results_entrywise [val0_main_v4_5, val0_main_v4_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v90]
set_option maxRecDepth 8192 in
/-- Each operation of `trip_w1` writes the reference listed for it. -/
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
/-- `main_v4_0` after 2 windows. -/
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
/-- `main_v4_5` after 2 windows. -/
theorem val2_main_v4_5 (V0 : Valuation τ sig (Elt F)) : val2 V0 (no_index (Proc.devRef .tc main_v4_5)) = V0 (Proc.devRef .tc main_v4_5) :=
  (val2_keep V0 main_v4_5 (by decide)).trans (val1_main_v4_5 V0)
/-- `main_v4_1` after 2 windows. -/
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
/-- `main_v4_2` after 2 windows. -/
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
/-- `main_v4_3` after 2 windows. -/
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
/-- `main_v4_6` after 2 windows. -/
theorem val2_main_v4_6 (V0 : Valuation τ sig (Elt F)) : val2 V0 (no_index (Proc.devRef .tc main_v4_6)) = V0 (Proc.devRef .tc main_v4_6) :=
  (val2_keep V0 main_v4_6 (by decide)).trans (val1_main_v4_6 V0)
/-- `main_v4_4` after 2 windows. -/
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
/-- `main_v4_7` after 2 windows. -/
theorem val2_main_v4_7 (V0 : Valuation τ sig (Elt F)) : val2 V0 (no_index (Proc.devRef .tc main_v4_7)) = V0 (Proc.devRef .tc main_v4_7) :=
  (val2_keep V0 main_v4_7 (by decide)).trans (val1_main_v4_7 V0)
set_option maxRecDepth 8192 in
/-- `main_while0b_v90` after 2 windows. -/
theorem val2_main_while0b_v90 (V0 : Valuation τ sig (Elt F)) : val2 V0 (no_index (Proc.devRef .tc main_while0b_v90)) = shapeCast S2048x128 (Host.dynamicSlice S1x2048x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S20x2048x128_S1x2048x128) shapeCasts_S1x2048x128_S2048x128 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v91, main_while0b_v92, main_while0b_v93, main_while0b_v94, main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_v109, main_while0b_cst_24, main_while0b_v110, main_while0b_v111, main_while0b_cst_25, main_while0b_v112]
set_option maxRecDepth 8192 in
/-- Each operation of `trip_w2` writes the reference listed for it. -/
theorem trip_w2_writes : (trip_w2 : List (HloOp τ sig (Elt F))).Forall fun op => op.writes ⊆ (trip_w2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
/-- `main_v4_0` after 3 windows. -/
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
/-- `main_v4_5` after 3 windows. -/
theorem val3_main_v4_5 (V0 : Valuation τ sig (Elt F)) : val3 V0 (no_index (Proc.devRef .tc main_v4_5)) = V0 (Proc.devRef .tc main_v4_5) :=
  (val3_keep V0 main_v4_5 (by decide)).trans (val2_main_v4_5 V0)
/-- `main_v4_1` after 3 windows. -/
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
/-- `main_v4_2` after 3 windows. -/
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
/-- `main_v4_3` after 3 windows. -/
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
/-- `main_v4_6` after 3 windows. -/
theorem val3_main_v4_6 (V0 : Valuation τ sig (Elt F)) : val3 V0 (no_index (Proc.devRef .tc main_v4_6)) = V0 (Proc.devRef .tc main_v4_6) :=
  (val3_keep V0 main_v4_6 (by decide)).trans (val2_main_v4_6 V0)
/-- `main_v4_4` after 3 windows. -/
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
/-- `main_v4_7` after 3 windows. -/
theorem val3_main_v4_7 (V0 : Valuation τ sig (Elt F)) : val3 V0 (no_index (Proc.devRef .tc main_v4_7)) = V0 (Proc.devRef .tc main_v4_7) :=
  (val3_keep V0 main_v4_7 (by decide)).trans (val2_main_v4_7 V0)
set_option maxRecDepth 8192 in
set_option maxHeartbeats 2000000 in
/-- `main_while0b_v102` after 3 windows. -/
theorem val3_main_while0b_v102 (V0 : Valuation τ sig (Elt F)) : val3 V0 (no_index (Proc.devRef .tc main_while0b_v102)) = extractStridedSlice S2048x128 ![0, 128] (res_main_while0b_v95 V0) slices_S2048x384_S2048x128_0_128 := by
  unfold val3
  simp only [trip_w2]
  after_results_entrywise [val2_main_v4_2, val2_main_v4_1, val2_main_while0b_v90, res_main_while0b_v95, cast_eq]
set_option maxRecDepth 8192 in
set_option maxHeartbeats 2000000 in
/-- `main_while0b_v103` after 3 windows. -/
theorem val3_main_while0b_v103 (V0 : Valuation τ sig (Elt F)) : val3 V0 (no_index (Proc.devRef .tc main_while0b_v103)) = extractStridedSlice S2048x128 ![0, 256] (res_main_while0b_v95 V0) slices_S2048x384_S2048x128_0_256 := by
  unfold val3
  simp only [trip_w2]
  after_results_entrywise [val2_main_v4_2, val2_main_v4_1, val2_main_while0b_v90, res_main_while0b_v95, cast_eq]
set_option maxRecDepth 8192 in
set_option maxHeartbeats 2000000 in
/-- `main_while0b_v105` after 3 windows. -/
theorem val3_main_while0b_v105 (V0 : Valuation τ sig (Elt F)) : val3 V0 (no_index (Proc.devRef .tc main_while0b_v105)) = extractStridedSlice S2048x128 ![0, 128] (res_main_while0b_v100 V0) slices_S2048x384_S2048x128_0_128 := by
  unfold val3
  simp only [trip_w2]
  after_results_entrywise [val2_main_v4_4, val2_main_v4_3, val2_main_v4_6, res_main_while0b_v100, cast_eq]
set_option maxRecDepth 8192 in
set_option maxHeartbeats 2000000 in
/-- `main_while0b_v106` after 3 windows. -/
theorem val3_main_while0b_v106 (V0 : Valuation τ sig (Elt F)) : val3 V0 (no_index (Proc.devRef .tc main_while0b_v106)) = extractStridedSlice S2048x128 ![0, 256] (res_main_while0b_v100 V0) slices_S2048x384_S2048x128_0_256 := by
  unfold val3
  simp only [trip_w2]
  after_results_entrywise [val2_main_v4_4, val2_main_v4_3, val2_main_v4_6, res_main_while0b_v100, cast_eq]
set_option maxRecDepth 8192 in
set_option maxHeartbeats 2000000 in
/-- `main_while0b_v111` after 3 windows. -/
theorem val3_main_while0b_v111 (V0 : Valuation τ sig (Elt F)) : val3 V0 (no_index (Proc.devRef .tc main_while0b_v111)) = addf (broadcastInDim S2048x128 ![] bcast_S_S2048x128 (constant S_ .f32 0x3F800000#32)) (Host.exp (Host.negf (addf (extractStridedSlice S2048x128 ![0, 0] (res_main_while0b_v95 V0) slices_S2048x384_S2048x128_0_0) (extractStridedSlice S2048x128 ![0, 0] (res_main_while0b_v100 V0) slices_S2048x384_S2048x128_0_0)))) := by
  unfold val3
  simp only [trip_w2]
  after_results_entrywise [val2_main_v4_4, val2_main_v4_3, val2_main_v4_6, val2_main_v4_2, val2_main_v4_1, val2_main_while0b_v90, res_main_while0b_v95, res_main_while0b_v100, cast_eq]
set_option maxRecDepth 8192 in
set_option maxHeartbeats 2000000 in
/-- `main_while0b_v112` after 3 windows. -/
theorem val3_main_while0b_v112 (V0 : Valuation τ sig (Elt F)) : val3 V0 (no_index (Proc.devRef .tc main_while0b_v112)) = broadcastInDim S2048x128 ![] bcast_S_S2048x128 (constant S_ .f32 0x3F800000#32) := by
  unfold val3
  simp only [trip_w2]
  after_results_entrywise [cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v113, main_while0b_v114, main_while0b_v115, main_while0b_v116, main_while0b_cst_26, main_while0b_v117, main_while0b_v118, main_while0b_cst_27, main_while0b_v119, main_while0b_v120, main_while0b_v121, main_while0b_v122, main_while0b_v123, main_while0b_cst_28, main_while0b_v124, main_while0b_v125, main_while0b_v126, main_while0b_v127, main_while0b_v128]
set_option maxRecDepth 8192 in
/-- Each operation of `trip_w3` writes the reference listed for it. -/
theorem trip_w3_writes : (trip_w3 : List (HloOp τ sig (Elt F))).Forall fun op => op.writes ⊆ (trip_w3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
/-- `main_v4_0` after 4 windows. -/
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
/-- `main_v4_5` after 4 windows. -/
theorem val4_main_v4_5 (V0 : Valuation τ sig (Elt F)) : val4 V0 (no_index (Proc.devRef .tc main_v4_5)) = V0 (Proc.devRef .tc main_v4_5) :=
  (val4_keep V0 main_v4_5 (by decide)).trans (val3_main_v4_5 V0)
/-- `main_v4_1` after 4 windows. -/
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
/-- `main_v4_2` after 4 windows. -/
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
/-- `main_v4_3` after 4 windows. -/
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
/-- `main_v4_6` after 4 windows. -/
theorem val4_main_v4_6 (V0 : Valuation τ sig (Elt F)) : val4 V0 (no_index (Proc.devRef .tc main_v4_6)) = V0 (Proc.devRef .tc main_v4_6) :=
  (val4_keep V0 main_v4_6 (by decide)).trans (val3_main_v4_6 V0)
/-- `main_v4_4` after 4 windows. -/
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
/-- `main_v4_7` after 4 windows. -/
theorem val4_main_v4_7 (V0 : Valuation τ sig (Elt F)) : val4 V0 (no_index (Proc.devRef .tc main_v4_7)) = V0 (Proc.devRef .tc main_v4_7) :=
  (val4_keep V0 main_v4_7 (by decide)).trans (val3_main_v4_7 V0)
set_option maxRecDepth 8192 in
set_option maxHeartbeats 1900000 in
/-- `main_while0b_v128` after 4 windows. -/
theorem val4_main_while0b_v128 (V0 : Valuation τ sig (Elt F)) : val4 V0 (no_index (Proc.devRef .tc main_while0b_v128)) = res_main_while0b_v128 V0 := by
  unfold val4
  simp only [trip_w3]
  after_results_entrywise [val3_main_v4_6, val3_main_while0b_v105, val3_main_while0b_v102, val3_main_while0b_v106, val3_main_while0b_v111, val3_main_while0b_v112, val3_main_while0b_v103, res_main_while0b_v120, res_main_while0b_v128, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call1_v0, main_while0b_call1_c, main_while0b_call1_c_0, main_while0b_v129]
set_option maxRecDepth 8192 in
/-- Each operation of `trip_w4` writes the reference listed for it. -/
theorem trip_w4_writes : (trip_w4 : List (HloOp τ sig (Elt F))).Forall fun op => op.writes ⊆ (trip_w4_W.map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
/-- `main_v4_0` after 5 windows. -/
theorem val5_main_v4_0 (V0 : Valuation τ sig (Elt F)) : val5 V0 (no_index (Proc.devRef .tc main_v4_0)) = V0 (Proc.devRef .tc main_v4_0) :=
  (val5_keep V0 main_v4_0 (by decide)).trans (val4_main_v4_0 V0)
/-- `main_v4_5` after 5 windows. -/
theorem val5_main_v4_5 (V0 : Valuation τ sig (Elt F)) : val5 V0 (no_index (Proc.devRef .tc main_v4_5)) = V0 (Proc.devRef .tc main_v4_5) :=
  (val5_keep V0 main_v4_5 (by decide)).trans (val4_main_v4_5 V0)
/-- `main_v4_1` after 5 windows. -/
theorem val5_main_v4_1 (V0 : Valuation τ sig (Elt F)) : val5 V0 (no_index (Proc.devRef .tc main_v4_1)) = V0 (Proc.devRef .tc main_v4_1) :=
  (val5_keep V0 main_v4_1 (by decide)).trans (val4_main_v4_1 V0)
/-- `main_v4_2` after 5 windows. -/
theorem val5_main_v4_2 (V0 : Valuation τ sig (Elt F)) : val5 V0 (no_index (Proc.devRef .tc main_v4_2)) = V0 (Proc.devRef .tc main_v4_2) :=
  (val5_keep V0 main_v4_2 (by decide)).trans (val4_main_v4_2 V0)
/-- `main_v4_3` after 5 windows. -/
theorem val5_main_v4_3 (V0 : Valuation τ sig (Elt F)) : val5 V0 (no_index (Proc.devRef .tc main_v4_3)) = V0 (Proc.devRef .tc main_v4_3) :=
  (val5_keep V0 main_v4_3 (by decide)).trans (val4_main_v4_3 V0)
/-- `main_v4_6` after 5 windows. -/
theorem val5_main_v4_6 (V0 : Valuation τ sig (Elt F)) : val5 V0 (no_index (Proc.devRef .tc main_v4_6)) = V0 (Proc.devRef .tc main_v4_6) :=
  (val5_keep V0 main_v4_6 (by decide)).trans (val4_main_v4_6 V0)
/-- `main_v4_4` after 5 windows. -/
theorem val5_main_v4_4 (V0 : Valuation τ sig (Elt F)) : val5 V0 (no_index (Proc.devRef .tc main_v4_4)) = V0 (Proc.devRef .tc main_v4_4) :=
  (val5_keep V0 main_v4_4 (by decide)).trans (val4_main_v4_4 V0)
/-- `main_v4_7` after 5 windows. -/
theorem val5_main_v4_7 (V0 : Valuation τ sig (Elt F)) : val5 V0 (no_index (Proc.devRef .tc main_v4_7)) = V0 (Proc.devRef .tc main_v4_7) :=
  (val5_keep V0 main_v4_7 (by decide)).trans (val4_main_v4_7 V0)
/-- `main_while0b_v128` after 5 windows. -/
theorem val5_main_while0b_v128 (V0 : Valuation τ sig (Elt F)) : val5 V0 (no_index (Proc.devRef .tc main_while0b_v128)) = res_main_while0b_v128 V0 :=
  (val5_keep V0 main_while0b_v128 (by decide)).trans (val4_main_while0b_v128 V0)
set_option maxRecDepth 8192 in
/-- `main_while0b_v129` after 5 windows. -/
theorem val5_main_while0b_v129 (V0 : Valuation τ sig (Elt F)) : val5 V0 (no_index (Proc.devRef .tc main_while0b_v129)) = Host.dynamicUpdateSlice (V0 (Proc.devRef .tc main_v4_7)) (broadcastInDim S1x2048x128 ![1, 2] bcast_S2048x128_S1x2048x128_1_2 (res_main_while0b_v128 V0)) (fun k => (((![V0 (Proc.devRef .tc main_v4_5), constantI S_ 32 0#32, constantI S_ 32 0#32] : Fin 3 → (⟨S_, .i32⟩ : BufTy).Contents (Elt F))) k (Shape.Idx.first h_S_)).toInt) updateFits_S20x2048x128_S1x2048x128 := by
  unfold val5
  simp only [trip_w4]
  after_results_entrywise [val4_main_v4_5, val4_main_while0b_v128, val4_main_v4_7, cast_eq]

set_option maxRecDepth 8192 in
/-- The body's stretches before `while0Ops0_3`, from any contents: their windows in order. -/
theorem trip_windows (V0 : Valuation τ sig (Elt F)) : after while0Ops0_2 (after while0Ops0_1 (after while0Ops0 (V0))) = val5 V0 := by
  simp only [while0Ops0_cut, while0Ops0_1_cut, while0Ops0_2_cut, after_append]
  rfl

set_option maxRecDepth 8192 in
set_option maxHeartbeats 2000000 in
/-- `main_v4_0` after one trip's body, from any contents. -/
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
/-- `main_v4_1` after one trip's body, from any contents. -/
theorem trip_main_v4_1 (V0 : Valuation τ sig (Elt F)) : afterL bodyI V0 (no_index (Proc.devRef .tc main_v4_1)) = V0 (Proc.devRef .tc main_v4_1) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
/-- `main_v4_2` after one trip's body, from any contents. -/
theorem trip_main_v4_2 (V0 : Valuation τ sig (Elt F)) : afterL bodyI V0 (no_index (Proc.devRef .tc main_v4_2)) = V0 (Proc.devRef .tc main_v4_2) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
/-- `main_v4_3` after one trip's body, from any contents. -/
theorem trip_main_v4_3 (V0 : Valuation τ sig (Elt F)) : afterL bodyI V0 (no_index (Proc.devRef .tc main_v4_3)) = V0 (Proc.devRef .tc main_v4_3) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
/-- `main_v4_4` after one trip's body, from any contents. -/
theorem trip_main_v4_4 (V0 : Valuation τ sig (Elt F)) : afterL bodyI V0 (no_index (Proc.devRef .tc main_v4_4)) = V0 (Proc.devRef .tc main_v4_4) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
set_option maxRecDepth 8192 in
set_option maxHeartbeats 2000000 in
/-- `main_v4_6` after one trip's body, from any contents. -/
theorem trip_main_v4_6 (V0 : Valuation τ sig (Elt F)) : afterL bodyI V0 (no_index (Proc.devRef .tc main_v4_6)) = id (res_main_while0b_v128 V0) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl
set_option maxRecDepth 8192 in
set_option maxHeartbeats 2000000 in
/-- `main_v4_7` after one trip's body, from any contents. -/
theorem trip_main_v4_7 (V0 : Valuation τ sig (Elt F)) : afterL bodyI V0 (no_index (Proc.devRef .tc main_v4_7)) = id (Host.dynamicUpdateSlice (V0 (Proc.devRef .tc main_v4_7)) (broadcastInDim S1x2048x128 ![1, 2] bcast_S2048x128_S1x2048x128_1_2 (res_main_while0b_v128 V0)) (fun k => (((![V0 (Proc.devRef .tc main_v4_5), constantI S_ 32 0#32, constantI S_ 32 0#32] : Fin 3 → (⟨S_, .i32⟩ : BufTy).Contents (Elt F))) k (Shape.Idx.first h_S_)).toInt) updateFits_S20x2048x128_S1x2048x128) := by
  simp only [bodyI, afterL_cons, afterL_nil, trip_windows]
  after_results
  all_goals (try simp only [val5_main_while0b_v128, val5_main_while0b_v129, val5_main_v4_0, val5_main_v4_1, val5_main_v4_2, val5_main_v4_3, val5_main_v4_4, val5_main_v4_5, val5_main_v4_6, val5_main_v4_7]) <;> rfl

end Cert.ReferenceIdeal.Host

end
-- ==== Proof.RefEntry.lean ====
/- What the reference holds when its loop is entered, buffer by buffer. -/
module

public import proofs.«01_k».proof.Proof.HostRead
public import proofs.«01_k».proof.Proof.RefLaunch

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo
open Cert.HostRead

variable {F : FTy → Type} [FloatOps F]

/-- The operations. -/
abbrev ent : List (HloOp τ sig (Elt F)) := hostOps0
/-- The references they write, in order. -/
abbrev entW : List (Ref sig .tc) := [main_v0, main_v1, main_v2, main_cst, main_v3, main_c, main_v4_0, main_v4_1, main_v4_2, main_v4_3, main_v4_4, main_v4_5, main_v4_6, main_v4_7]
/-- Each writes its own. -/
theorem entW_eq : (ent (F := F)).map HloOp.writes = entW.map fun w => {Proc.devRef (τ := τ) .tc w} := rfl
/-- A buffer they do not write. -/
theorem ent_keep (r : Ref sig .tc) (h : r ∉ entW) (V : Valuation τ sig (Elt F)) : after ent V (Proc.devRef .tc r) = V (Proc.devRef .tc r) :=
  after_unwritten entW entW_eq h V

/-! Each buffer as its operation of its operands. -/

/-- `main_v0` from its operands. -/
theorem ent_v0 (V : Valuation τ sig (Elt F)) : after ent V (Proc.devRef .tc main_v0) = broadcastInDim S1x128 ![1] bcast_S128_S1x128_1 (after ent V (Proc.devRef .tc main_arg7)) :=
  read1 entW_eq 0 (a := main_arg7) (y := main_v0) V (broadcastInDim S1x128 ![1] bcast_S128_S1x128_1 : (⟨S128, .f32⟩ : BufTy).Contents (Elt F) → (⟨S1x128, .f32⟩ : BufTy).Contents (Elt F)) rfl (by decide) (by decide)
/-- `main_v1` from its operands. -/
theorem ent_v1 (V : Valuation τ sig (Elt F)) : after ent V (Proc.devRef .tc main_v1) = broadcastInDim S2048x128 ![0, 1] bcast_S1x128_S2048x128_0_1 (after ent V (Proc.devRef .tc main_v0)) :=
  read1 entW_eq 1 (a := main_v0) (y := main_v1) V (broadcastInDim S2048x128 ![0, 1] bcast_S1x128_S2048x128_0_1 : (⟨S1x128, .f32⟩ : BufTy).Contents (Elt F) → (⟨S2048x128, .f32⟩ : BufTy).Contents (Elt F)) rfl (by decide) (by decide)
/-- `main_v2` from its operands. -/
theorem ent_v2 (V : Valuation τ sig (Elt F)) : after ent V (Proc.devRef .tc main_v2) = transpose S20x2048x128 [1, 0, 2] (after ent V (Proc.devRef .tc main_arg0)) transposes_S2048x20x128_S20x2048x128_1_0_2 :=
  read1 entW_eq 2 (a := main_arg0) (y := main_v2) V ((transpose S20x2048x128 [1, 0, 2] · transposes_S2048x20x128_S20x2048x128_1_0_2) : (⟨S2048x20x128, .f32⟩ : BufTy).Contents (Elt F) → (⟨S20x2048x128, .f32⟩ : BufTy).Contents (Elt F)) rfl (by decide) (by decide)
/-- `main_v4_0` from its operands. -/
theorem ent_v4_0 (V : Valuation τ sig (Elt F)) : after ent V (Proc.devRef .tc main_v4_0) = (after ent V (Proc.devRef .tc main_v2)) :=
  read1 entW_eq 6 (a := main_v2) (y := main_v4_0) V id rfl (by decide) (by decide)
/-- `main_v4_1` from its operands. -/
theorem ent_v4_1 (V : Valuation τ sig (Elt F)) : after ent V (Proc.devRef .tc main_v4_1) = (after ent V (Proc.devRef .tc main_arg3)) :=
  read1 entW_eq 7 (a := main_arg3) (y := main_v4_1) V id rfl (by decide) (by decide)
/-- `main_v4_2` from its operands. -/
theorem ent_v4_2 (V : Valuation τ sig (Elt F)) : after ent V (Proc.devRef .tc main_v4_2) = (after ent V (Proc.devRef .tc main_arg5)) :=
  read1 entW_eq 8 (a := main_arg5) (y := main_v4_2) V id rfl (by decide) (by decide)
/-- `main_v4_3` from its operands. -/
theorem ent_v4_3 (V : Valuation τ sig (Elt F)) : after ent V (Proc.devRef .tc main_v4_3) = (after ent V (Proc.devRef .tc main_arg4)) :=
  read1 entW_eq 9 (a := main_arg4) (y := main_v4_3) V id rfl (by decide) (by decide)
/-- `main_v4_4` from its operands. -/
theorem ent_v4_4 (V : Valuation τ sig (Elt F)) : after ent V (Proc.devRef .tc main_v4_4) = (after ent V (Proc.devRef .tc main_arg6)) :=
  read1 entW_eq 10 (a := main_arg6) (y := main_v4_4) V id rfl (by decide) (by decide)
/-- `main_v4_6` from its operands. -/
theorem ent_v4_6 (V : Valuation τ sig (Elt F)) : after ent V (Proc.devRef .tc main_v4_6) = (after ent V (Proc.devRef .tc main_v1)) :=
  read1 entW_eq 12 (a := main_v1) (y := main_v4_6) V id rfl (by decide) (by decide)

end Cert.ReferenceIdeal.Host

end
-- ==== Proof.RefPost.lean ====
/- What the reference computes after its loop, buffer by buffer. -/
module

public import proofs.«01_k».proof.Proof.HostRead
public import proofs.«01_k».proof.Proof.RefLaunch

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo
open Cert.HostRead

variable {F : FTy → Type} [FloatOps F]

/-- The operations. -/
abbrev post : List (HloOp τ sig (Elt F)) := hostOps0_1 ++ (hostOps0_2 ++ (hostOps0_3 ++ (hostOps0_4 ++ (hostOps0_5 ++ (hostOps0_6 ++ (hostOps0_7))))))
/-- The references they write, in order. -/
abbrev postW : List (Ref sig .tc) := [main_c_0, main_v5, main_v6, main_c_1, main_c_2, main_call2_v0, main_call2_v1, main_call2_v2, main_call2_v3, main_call2_v4, main_v7, main_v8, main_c_3, main_v9, main_v10, main_c_4, main_v11, main_v12, main_v13, main_c_5, main_v14, main_v15, main_c_6, main_v16, main_v17, main_v18, main_v19, main_v20, main_v21, main_v22, main_v23, main_v24, main_v25, main_v26, main_v27, main_v28, main_v29, main_v30, main_v31, main_v32, main_v33, main_v34, main_v35, main_v36, main_v37, main_cst_7, main_v38, main_v39, main_v40, main_v41, main_v42, main_v43, main_v44, main_v45, main_cst_8, main_v46, main_cst_9, main_v47, main_v48, main_v49, main_v50, main_v51, main_v52, main_cst_10, main_v53, main_v54, main_v55, main_v56, main_v57, main_v58, main_cst_11, main_cst_12, main_call3_v0, main_call3_v1, main_v59, main_v60, main_v61, main_c_13, main_v62, main_v63, main_v64, main_v65, main_v66, main_v67, main_cst_14, main_v68, main_cst_15, main_call4_v0, main_call4_v1, main_v69, main_v70, main_cst_16, main_v71, main_v72, main_v73, main_v74, main_v75, main_v76, main_v77, main_v78, main_v79, main_v80, main_v81, main_v82, main_v83, main_v84, main_v85, main_v86, main_v87, main_v88, main_v89]
/-- Each writes its own. -/
theorem postW_eq : (post (F := F)).map HloOp.writes = postW.map fun w => {Proc.devRef (τ := τ) .tc w} := rfl
/-- A buffer they do not write. -/
theorem post_keep (r : Ref sig .tc) (h : r ∉ postW) (V : Valuation τ sig (Elt F)) : after post V (Proc.devRef .tc r) = V (Proc.devRef .tc r) :=
  after_unwritten postW postW_eq h V

/-! Each buffer as its operation of its operands. -/

/-- `main_c_0` from its operands. -/
theorem post_c_0 (V : Valuation τ sig (Elt F)) : after post V (Proc.devRef .tc main_c_0) = constantI S_ 32 1#32  :=
  read0 postW_eq 0 (y := main_c_0) V (constantI S_ 32 1#32) rfl (by decide)
/-- `main_v5` from its operands. -/
theorem post_v5 (V : Valuation τ sig (Elt F)) : after post V (Proc.devRef .tc main_v5) = broadcastInDim S2048 ![] bcast_S_S2048 (after post V (Proc.devRef .tc main_c_0)) :=
  read1 postW_eq 1 (a := main_c_0) (y := main_v5) V (broadcastInDim S2048 ![] bcast_S_S2048 : (⟨S_, .i32⟩ : BufTy).Contents (Elt F) → (⟨S2048, .i32⟩ : BufTy).Contents (Elt F)) rfl (by decide) (by decide)
/-- `main_v6` from its operands. -/
theorem post_v6 (V : Valuation τ sig (Elt F)) : after post V (Proc.devRef .tc main_v6) = subi (after post V (Proc.devRef .tc main_arg2)) (after post V (Proc.devRef .tc main_v5)) :=
  read2 postW_eq 2 (a := main_arg2) (b := main_v5) (y := main_v6) V (subi : (⟨S2048, .i32⟩ : BufTy).Contents (Elt F) → (⟨S2048, .i32⟩ : BufTy).Contents (Elt F) → (⟨S2048, .i32⟩ : BufTy).Contents (Elt F)) rfl (by decide) (by decide) (by decide)
/-- `main_c_1` from its operands. -/
theorem post_c_1 (V : Valuation τ sig (Elt F)) : after post V (Proc.devRef .tc main_c_1) = constantI S_ 32 0#32  :=
  read0 postW_eq 3 (y := main_c_1) V (constantI S_ 32 0#32) rfl (by decide)
/-- `main_c_2` from its operands. -/
theorem post_c_2 (V : Valuation τ sig (Elt F)) : after post V (Proc.devRef .tc main_c_2) = constantI S_ 32 19#32  :=
  read0 postW_eq 4 (y := main_c_2) V (constantI S_ 32 19#32) rfl (by decide)
/-- `main_call2_v0` from its operands. -/
theorem post_call2_v0 (V : Valuation τ sig (Elt F)) : after post V (Proc.devRef .tc main_call2_v0) = (after post V (Proc.devRef .tc main_c_1)) :=
  read1 postW_eq 5 (a := main_c_1) (y := main_call2_v0) V id rfl (by decide) (by decide)
/-- `main_call2_v1` from its operands. -/
theorem post_call2_v1 (V : Valuation τ sig (Elt F)) : after post V (Proc.devRef .tc main_call2_v1) = broadcastInDim S2048 ![] bcast_S_S2048 (after post V (Proc.devRef .tc main_call2_v0)) :=
  read1 postW_eq 6 (a := main_call2_v0) (y := main_call2_v1) V (broadcastInDim S2048 ![] bcast_S_S2048) rfl (by decide) (by decide)
/-- `main_call2_v2` from its operands. -/
theorem post_call2_v2 (V : Valuation τ sig (Elt F)) : after post V (Proc.devRef .tc main_call2_v2) = maxsi (after post V (Proc.devRef .tc main_call2_v1)) (after post V (Proc.devRef .tc main_v6)) :=
  read2 postW_eq 7 (a := main_call2_v1) (b := main_v6) (y := main_call2_v2) V maxsi rfl (by decide) (by decide) (by decide)
/-- `main_call2_v3` from its operands. -/
theorem post_call2_v3 (V : Valuation τ sig (Elt F)) : after post V (Proc.devRef .tc main_call2_v3) = (after post V (Proc.devRef .tc main_c_2)) :=
  read1 postW_eq 8 (a := main_c_2) (y := main_call2_v3) V id rfl (by decide) (by decide)
/-- `main_call2_v4` from its operands. -/
theorem post_call2_v4 (V : Valuation τ sig (Elt F)) : after post V (Proc.devRef .tc main_call2_v4) = broadcastInDim S2048 ![] bcast_S_S2048 (after post V (Proc.devRef .tc main_call2_v3)) :=
  read1 postW_eq 9 (a := main_call2_v3) (y := main_call2_v4) V (broadcastInDim S2048 ![] bcast_S_S2048) rfl (by decide) (by decide)
/-- `main_v7` from its operands. -/
theorem post_v7 (V : Valuation τ sig (Elt F)) : after post V (Proc.devRef .tc main_v7) = minsi (after post V (Proc.devRef .tc main_call2_v4)) (after post V (Proc.devRef .tc main_call2_v2)) :=
  read2 postW_eq 10 (a := main_call2_v4) (b := main_call2_v2) (y := main_v7) V minsi rfl (by decide) (by decide) (by decide)
/-- `main_v8` from its operands. -/
theorem post_v8 (V : Valuation τ sig (Elt F)) : after post V (Proc.devRef .tc main_v8) = iotaInDim S2048 32 0  :=
  read0 postW_eq 11 (y := main_v8) V (iotaInDim S2048 32 0) rfl (by decide)
/-- `main_c_3` from its operands. -/
theorem post_c_3 (V : Valuation τ sig (Elt F)) : after post V (Proc.devRef .tc main_c_3) = constantI S_ 32 0#32  :=
  read0 postW_eq 12 (y := main_c_3) V (constantI S_ 32 0#32) rfl (by decide)
/-- `main_v9` from its operands. -/
theorem post_v9 (V : Valuation τ sig (Elt F)) : after post V (Proc.devRef .tc main_v9) = broadcastInDim S2048 ![] bcast_S_S2048 (after post V (Proc.devRef .tc main_c_3)) :=
  read1 postW_eq 13 (a := main_c_3) (y := main_v9) V (broadcastInDim S2048 ![] bcast_S_S2048 : (⟨S_, .i32⟩ : BufTy).Contents (Elt F) → (⟨S2048, .i32⟩ : BufTy).Contents (Elt F)) rfl (by decide) (by decide)
/-- `main_v10` from its operands. -/
theorem post_v10 (V : Valuation τ sig (Elt F)) : after post V (Proc.devRef .tc main_v10) = cmpi .slt (after post V (Proc.devRef .tc main_v7)) (after post V (Proc.devRef .tc main_v9)) :=
  read2 postW_eq 14 (a := main_v7) (b := main_v9) (y := main_v10) V (cmpi .slt : (⟨S2048, .i32⟩ : BufTy).Contents (Elt F) → (⟨S2048, .i32⟩ : BufTy).Contents (Elt F) → (⟨S2048, .i1⟩ : BufTy).Contents (Elt F)) rfl (by decide) (by decide) (by decide)
/-- `main_c_4` from its operands. -/
theorem post_c_4 (V : Valuation τ sig (Elt F)) : after post V (Proc.devRef .tc main_c_4) = constantI S_ 32 20#32  :=
  read0 postW_eq 15 (y := main_c_4) V (constantI S_ 32 20#32) rfl (by decide)
/-- `main_v11` from its operands. -/
theorem post_v11 (V : Valuation τ sig (Elt F)) : after post V (Proc.devRef .tc main_v11) = broadcastInDim S2048 ![] bcast_S_S2048 (after post V (Proc.devRef .tc main_c_4)) :=
  read1 postW_eq 16 (a := main_c_4) (y := main_v11) V (broadcastInDim S2048 ![] bcast_S_S2048 : (⟨S_, .i32⟩ : BufTy).Contents (Elt F) → (⟨S2048, .i32⟩ : BufTy).Contents (Elt F)) rfl (by decide) (by decide)
/-- `main_v12` from its operands. -/
theorem post_v12 (V : Valuation τ sig (Elt F)) : after post V (Proc.devRef .tc main_v12) = addi (after post V (Proc.devRef .tc main_v7)) (after post V (Proc.devRef .tc main_v11)) :=
  read2 postW_eq 17 (a := main_v7) (b := main_v11) (y := main_v12) V (addi : (⟨S2048, .i32⟩ : BufTy).Contents (Elt F) → (⟨S2048, .i32⟩ : BufTy).Contents (Elt F) → (⟨S2048, .i32⟩ : BufTy).Contents (Elt F)) rfl (by decide) (by decide) (by decide)
/-- `main_v13` from its operands. -/
theorem post_v13 (V : Valuation τ sig (Elt F)) : after post V (Proc.devRef .tc main_v13) = select (after post V (Proc.devRef .tc main_v10)) (after post V (Proc.devRef .tc main_v12)) (after post V (Proc.devRef .tc main_v7)) :=
  read3 postW_eq 18 (c := main_v10) (a := main_v12) (b := main_v7) (y := main_v13) V (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) rfl (by decide) (by decide) (by decide) (by decide)
/-- `main_c_5` from its operands. -/
theorem post_c_5 (V : Valuation τ sig (Elt F)) : after post V (Proc.devRef .tc main_c_5) = constantI S_ 32 0#32  :=
  read0 postW_eq 19 (y := main_c_5) V (constantI S_ 32 0#32) rfl (by decide)
/-- `main_v14` from its operands. -/
theorem post_v14 (V : Valuation τ sig (Elt F)) : after post V (Proc.devRef .tc main_v14) = broadcastInDim S2048 ![] bcast_S_S2048 (after post V (Proc.devRef .tc main_c_5)) :=
  read1 postW_eq 20 (a := main_c_5) (y := main_v14) V (broadcastInDim S2048 ![] bcast_S_S2048 : (⟨S_, .i32⟩ : BufTy).Contents (Elt F) → (⟨S2048, .i32⟩ : BufTy).Contents (Elt F)) rfl (by decide) (by decide)
/-- `main_v15` from its operands. -/
theorem post_v15 (V : Valuation τ sig (Elt F)) : after post V (Proc.devRef .tc main_v15) = cmpi .slt (after post V (Proc.devRef .tc main_v8)) (after post V (Proc.devRef .tc main_v14)) :=
  read2 postW_eq 21 (a := main_v8) (b := main_v14) (y := main_v15) V (cmpi .slt : (⟨S2048, .i32⟩ : BufTy).Contents (Elt F) → (⟨S2048, .i32⟩ : BufTy).Contents (Elt F) → (⟨S2048, .i1⟩ : BufTy).Contents (Elt F)) rfl (by decide) (by decide) (by decide)
/-- `main_c_6` from its operands. -/
theorem post_c_6 (V : Valuation τ sig (Elt F)) : after post V (Proc.devRef .tc main_c_6) = constantI S_ 32 2048#32  :=
  read0 postW_eq 22 (y := main_c_6) V (constantI S_ 32 2048#32) rfl (by decide)
/-- `main_v16` from its operands. -/
theorem post_v16 (V : Valuation τ sig (Elt F)) : after post V (Proc.devRef .tc main_v16) = broadcastInDim S2048 ![] bcast_S_S2048 (after post V (Proc.devRef .tc main_c_6)) :=
  read1 postW_eq 23 (a := main_c_6) (y := main_v16) V (broadcastInDim S2048 ![] bcast_S_S2048 : (⟨S_, .i32⟩ : BufTy).Contents (Elt F) → (⟨S2048, .i32⟩ : BufTy).Contents (Elt F)) rfl (by decide) (by decide)
/-- `main_v17` from its operands. -/
theorem post_v17 (V : Valuation τ sig (Elt F)) : after post V (Proc.devRef .tc main_v17) = addi (after post V (Proc.devRef .tc main_v8)) (after post V (Proc.devRef .tc main_v16)) :=
  read2 postW_eq 24 (a := main_v8) (b := main_v16) (y := main_v17) V (addi : (⟨S2048, .i32⟩ : BufTy).Contents (Elt F) → (⟨S2048, .i32⟩ : BufTy).Contents (Elt F) → (⟨S2048, .i32⟩ : BufTy).Contents (Elt F)) rfl (by decide) (by decide) (by decide)
/-- `main_v18` from its operands. -/
theorem post_v18 (V : Valuation τ sig (Elt F)) : after post V (Proc.devRef .tc main_v18) = select (after post V (Proc.devRef .tc main_v15)) (after post V (Proc.devRef .tc main_v17)) (after post V (Proc.devRef .tc main_v8)) :=
  read3 postW_eq 25 (c := main_v15) (a := main_v17) (b := main_v8) (y := main_v18) V (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) rfl (by decide) (by decide) (by decide) (by decide)
/-- `main_v19` from its operands. -/
theorem post_v19 (V : Valuation τ sig (Elt F)) : after post V (Proc.devRef .tc main_v19) = broadcastInDim S2048x1 ![0] bcast_S2048_S2048x1_0 (after post V (Proc.devRef .tc main_v13)) :=
  read1 postW_eq 26 (a := main_v13) (y := main_v19) V (broadcastInDim S2048x1 ![0] bcast_S2048_S2048x1_0 : (⟨S2048, .i32⟩ : BufTy).Contents (Elt F) → (⟨S2048x1, .i32⟩ : BufTy).Contents (Elt F)) rfl (by decide) (by decide)
/-- `main_v20` from its operands. -/
theorem post_v20 (V : Valuation τ sig (Elt F)) : after post V (Proc.devRef .tc main_v20) = broadcastInDim S2048x1 ![0] bcast_S2048_S2048x1_0 (after post V (Proc.devRef .tc main_v18)) :=
  read1 postW_eq 27 (a := main_v18) (y := main_v20) V (broadcastInDim S2048x1 ![0] bcast_S2048_S2048x1_0 : (⟨S2048, .i32⟩ : BufTy).Contents (Elt F) → (⟨S2048x1, .i32⟩ : BufTy).Contents (Elt F)) rfl (by decide) (by decide)
/-- `main_v21` from its operands. -/
theorem post_v21 (V : Valuation τ sig (Elt F)) : after post V (Proc.devRef .tc main_v21) = concatenate S2048x2 1 [⟨S2048x1, (after post V (Proc.devRef .tc main_v19))⟩, ⟨S2048x1, (after post V (Proc.devRef .tc main_v20))⟩] concatenates_S2048x1_S2048x1_S2048x2_d1 :=
  read2 postW_eq 28 (a := main_v19) (b := main_v20) (y := main_v21) V ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) rfl (by decide) (by decide) (by decide)
/-- `main_v22` from its operands. -/
theorem post_v22 (V : Valuation τ sig (Elt F)) : after post V (Proc.devRef .tc main_v22) = Host.gather gather_S20x2048x128_S2048x2_S2048x128_1_01_n_n_01_1_11128 (after post V (Proc.devRef .tc main_v4_7)) (after post V (Proc.devRef .tc main_v21)) :=
  read2 postW_eq 29 (a := main_v4_7) (b := main_v21) (y := main_v22) V ((fun x i => Host.gather gather_S20x2048x128_S2048x2_S2048x128_1_01_n_n_01_1_11128 x i) : (⟨S20x2048x128, .f32⟩ : BufTy).Contents (Elt F) → (⟨S2048x2, .i32⟩ : BufTy).Contents (Elt F) → (⟨S2048x128, .f32⟩ : BufTy).Contents (Elt F)) rfl (by decide) (by decide) (by decide)
/-- `main_v23` from its operands. -/
theorem post_v23 (V : Valuation τ sig (Elt F)) : after post V (Proc.devRef .tc main_v23) = concatenate S2048x144 1 [⟨S2048x128, (after post V (Proc.devRef .tc main_v22))⟩, ⟨S2048x16, (after post V (Proc.devRef .tc main_arg1))⟩] concatenates_S2048x128_S2048x16_S2048x144_d1 :=
  read2 postW_eq 30 (a := main_v22) (b := main_arg1) (y := main_v23) V ((fun a b => concatenate S2048x144 1 [⟨S2048x128, a⟩, ⟨S2048x16, b⟩] concatenates_S2048x128_S2048x16_S2048x144_d1) : (⟨S2048x128, .f32⟩ : BufTy).Contents (Elt F) → (⟨S2048x16, .f32⟩ : BufTy).Contents (Elt F) → (⟨S2048x144, .f32⟩ : BufTy).Contents (Elt F)) rfl (by decide) (by decide) (by decide)
/-- `main_v24` from its operands. -/
theorem post_v24 (V : Valuation τ sig (Elt F)) : after post V (Proc.devRef .tc main_v24) = transpose S144x144 [1, 0] (after post V (Proc.devRef .tc main_arg8)) transposes_S144x144_S144x144_1_0 :=
  read1 postW_eq 31 (a := main_arg8) (y := main_v24) V ((transpose S144x144 [1, 0] · transposes_S144x144_S144x144_1_0) : (⟨S144x144, .f32⟩ : BufTy).Contents (Elt F) → (⟨S144x144, .f32⟩ : BufTy).Contents (Elt F)) rfl (by decide) (by decide)
/-- `main_v25` from its operands. -/
theorem post_v25 (V : Valuation τ sig (Elt F)) : after post V (Proc.devRef .tc main_v25) = Host.dotGeneral dot_S2048x144_S144x144_S2048x144_1_0_0_1_n_n none (after post V (Proc.devRef .tc main_v23)) (after post V (Proc.devRef .tc main_v24)) :=
  read2 postW_eq 32 (a := main_v23) (b := main_v24) (y := main_v25) V ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F)) rfl (by decide) (by decide) (by decide)
/-- `main_v26` from its operands. -/
theorem post_v26 (V : Valuation τ sig (Elt F)) : after post V (Proc.devRef .tc main_v26) = broadcastInDim S1x144 ![1] bcast_S144_S1x144_1 (after post V (Proc.devRef .tc main_arg9)) :=
  read1 postW_eq 33 (a := main_arg9) (y := main_v26) V (broadcastInDim S1x144 ![1] bcast_S144_S1x144_1 : (⟨S144, .f32⟩ : BufTy).Contents (Elt F) → (⟨S1x144, .f32⟩ : BufTy).Contents (Elt F)) rfl (by decide) (by decide)
/-- `main_v27` from its operands. -/
theorem post_v27 (V : Valuation τ sig (Elt F)) : after post V (Proc.devRef .tc main_v27) = broadcastInDim S2048x144 ![0, 1] bcast_S1x144_S2048x144_0_1 (after post V (Proc.devRef .tc main_v26)) :=
  read1 postW_eq 34 (a := main_v26) (y := main_v27) V (broadcastInDim S2048x144 ![0, 1] bcast_S1x144_S2048x144_0_1 : (⟨S1x144, .f32⟩ : BufTy).Contents (Elt F) → (⟨S2048x144, .f32⟩ : BufTy).Contents (Elt F)) rfl (by decide) (by decide)
/-- `main_v28` from its operands. -/
theorem post_v28 (V : Valuation τ sig (Elt F)) : after post V (Proc.devRef .tc main_v28) = addf (after post V (Proc.devRef .tc main_v25)) (after post V (Proc.devRef .tc main_v27)) :=
  read2 postW_eq 35 (a := main_v25) (b := main_v27) (y := main_v28) V (addf : (⟨S2048x144, .f32⟩ : BufTy).Contents (Elt F) → (⟨S2048x144, .f32⟩ : BufTy).Contents (Elt F) → (⟨S2048x144, .f32⟩ : BufTy).Contents (Elt F)) rfl (by decide) (by decide) (by decide)
/-- `main_v29` from its operands. -/
theorem post_v29 (V : Valuation τ sig (Elt F)) : after post V (Proc.devRef .tc main_v29) = shapeCast S2048x4x36 (after post V (Proc.devRef .tc main_v28)) shapeCasts_S2048x144_S2048x4x36 :=
  readR postW_eq 36 (a := main_v28) (y := main_v29) V rfl (by decide) (by decide)
/-- `main_v30` from its operands. -/
theorem post_v30 (V : Valuation τ sig (Elt F)) : after post V (Proc.devRef .tc main_v30) = transpose S144x144 [1, 0] (after post V (Proc.devRef .tc main_arg10)) transposes_S144x144_S144x144_1_0 :=
  read1 postW_eq 37 (a := main_arg10) (y := main_v30) V ((transpose S144x144 [1, 0] · transposes_S144x144_S144x144_1_0) : (⟨S144x144, .f32⟩ : BufTy).Contents (Elt F) → (⟨S144x144, .f32⟩ : BufTy).Contents (Elt F)) rfl (by decide) (by decide)
/-- `main_v31` from its operands. -/
theorem post_v31 (V : Valuation τ sig (Elt F)) : after post V (Proc.devRef .tc main_v31) = Host.dotGeneral dot_S2048x144_S144x144_S2048x144_1_0_0_1_n_n none (after post V (Proc.devRef .tc main_v23)) (after post V (Proc.devRef .tc main_v30)) :=
  read2 postW_eq 38 (a := main_v23) (b := main_v30) (y := main_v31) V ((fun l r => Host.dotGeneral dot_S2048x144_S144x144_S2048x144_1_0_0_1_n_n none l r) : (⟨S2048x144, .f32⟩ : BufTy).Contents (Elt F) → (⟨S144x144, .f32⟩ : BufTy).Contents (Elt F) → (⟨S2048x144, .f32⟩ : BufTy).Contents (Elt F)) rfl (by decide) (by decide) (by decide)
/-- `main_v32` from its operands. -/
theorem post_v32 (V : Valuation τ sig (Elt F)) : after post V (Proc.devRef .tc main_v32) = broadcastInDim S1x144 ![1] bcast_S144_S1x144_1 (after post V (Proc.devRef .tc main_arg11)) :=
  read1 postW_eq 39 (a := main_arg11) (y := main_v32) V (broadcastInDim S1x144 ![1] bcast_S144_S1x144_1 : (⟨S144, .f32⟩ : BufTy).Contents (Elt F) → (⟨S1x144, .f32⟩ : BufTy).Contents (Elt F)) rfl (by decide) (by decide)
/-- `main_v33` from its operands. -/
theorem post_v33 (V : Valuation τ sig (Elt F)) : after post V (Proc.devRef .tc main_v33) = broadcastInDim S2048x144 ![0, 1] bcast_S1x144_S2048x144_0_1 (after post V (Proc.devRef .tc main_v32)) :=
  read1 postW_eq 40 (a := main_v32) (y := main_v33) V (broadcastInDim S2048x144 ![0, 1] bcast_S1x144_S2048x144_0_1 : (⟨S1x144, .f32⟩ : BufTy).Contents (Elt F) → (⟨S2048x144, .f32⟩ : BufTy).Contents (Elt F)) rfl (by decide) (by decide)
/-- `main_v34` from its operands. -/
theorem post_v34 (V : Valuation τ sig (Elt F)) : after post V (Proc.devRef .tc main_v34) = addf (after post V (Proc.devRef .tc main_v31)) (after post V (Proc.devRef .tc main_v33)) :=
  read2 postW_eq 41 (a := main_v31) (b := main_v33) (y := main_v34) V (addf : (⟨S2048x144, .f32⟩ : BufTy).Contents (Elt F) → (⟨S2048x144, .f32⟩ : BufTy).Contents (Elt F) → (⟨S2048x144, .f32⟩ : BufTy).Contents (Elt F)) rfl (by decide) (by decide) (by decide)
/-- `main_v35` from its operands. -/
theorem post_v35 (V : Valuation τ sig (Elt F)) : after post V (Proc.devRef .tc main_v35) = shapeCast S2048x4x36 (after post V (Proc.devRef .tc main_v34)) shapeCasts_S2048x144_S2048x4x36 :=
  readR postW_eq 42 (a := main_v34) (y := main_v35) V rfl (by decide) (by decide)
/-- `main_v36` from its operands. -/
theorem post_v36 (V : Valuation τ sig (Elt F)) : after post V (Proc.devRef .tc main_v36) = Host.dotGeneral dot_S2048x4x36_S2048x4x36_S4x2048x2048_2_2_0_0_1_1 none (after post V (Proc.devRef .tc main_v35)) (after post V (Proc.devRef .tc main_v29)) :=
  read2 postW_eq 43 (a := main_v35) (b := main_v29) (y := main_v36) V ((fun l r => Host.dotGeneral dot_S2048x4x36_S2048x4x36_S4x2048x2048_2_2_0_0_1_1 none l r) : (⟨S2048x4x36, .f32⟩ : BufTy).Contents (Elt F) → (⟨S2048x4x36, .f32⟩ : BufTy).Contents (Elt F) → (⟨S4x2048x2048, .f32⟩ : BufTy).Contents (Elt F)) rfl (by decide) (by decide) (by decide)
/-- `main_v37` from its operands. -/
theorem post_v37 (V : Valuation τ sig (Elt F)) : after post V (Proc.devRef .tc main_v37) = transpose S2048x2048x4 [2, 1, 0] (after post V (Proc.devRef .tc main_v36)) transposes_S4x2048x2048_S2048x2048x4_2_1_0 :=
  read1 postW_eq 44 (a := main_v36) (y := main_v37) V ((transpose S2048x2048x4 [2, 1, 0] · transposes_S4x2048x2048_S2048x2048x4_2_1_0) : (⟨S4x2048x2048, .f32⟩ : BufTy).Contents (Elt F) → (⟨S2048x2048x4, .f32⟩ : BufTy).Contents (Elt F)) rfl (by decide) (by decide)
/-- `main_cst_7` from its operands. -/
theorem post_cst_7 (V : Valuation τ sig (Elt F)) : after post V (Proc.devRef .tc main_cst_7) = constant S_ .f32 0x42100000#32  :=
  read0 postW_eq 45 (y := main_cst_7) V (constant S_ .f32 0x42100000#32) rfl (by decide)
/-- `main_v38` from its operands. -/
theorem post_v38 (V : Valuation τ sig (Elt F)) : after post V (Proc.devRef .tc main_v38) = Host.sqrt (after post V (Proc.devRef .tc main_cst_7)) :=
  read1 postW_eq 46 (a := main_cst_7) (y := main_v38) V (Host.sqrt : (⟨S_, .f32⟩ : BufTy).Contents (Elt F) → (⟨S_, .f32⟩ : BufTy).Contents (Elt F)) rfl (by decide) (by decide)
/-- `main_v39` from its operands. -/
theorem post_v39 (V : Valuation τ sig (Elt F)) : after post V (Proc.devRef .tc main_v39) = broadcastInDim S2048x2048x4 ![] bcast_S_S2048x2048x4 (after post V (Proc.devRef .tc main_v38)) :=
  read1 postW_eq 47 (a := main_v38) (y := main_v39) V (broadcastInDim S2048x2048x4 ![] bcast_S_S2048x2048x4 : (⟨S_, .f32⟩ : BufTy).Contents (Elt F) → (⟨S2048x2048x4, .f32⟩ : BufTy).Contents (Elt F)) rfl (by decide) (by decide)
/-- `main_v40` from its operands. -/
theorem post_v40 (V : Valuation τ sig (Elt F)) : after post V (Proc.devRef .tc main_v40) = Host.divf (after post V (Proc.devRef .tc main_v37)) (after post V (Proc.devRef .tc main_v39)) :=
  read2 postW_eq 48 (a := main_v37) (b := main_v39) (y := main_v40) V (Host.divf : (⟨S2048x2048x4, .f32⟩ : BufTy).Contents (Elt F) → (⟨S2048x2048x4, .f32⟩ : BufTy).Contents (Elt F) → (⟨S2048x2048x4, .f32⟩ : BufTy).Contents (Elt F)) rfl (by decide) (by decide) (by decide)
/-- `main_v41` from its operands. -/
theorem post_v41 (V : Valuation τ sig (Elt F)) : after post V (Proc.devRef .tc main_v41) = shapeCast S4 (after post V (Proc.devRef .tc main_arg12)) shapeCasts_S1x4_S4 :=
  readR postW_eq 49 (a := main_arg12) (y := main_v41) V rfl (by decide) (by decide)
/-- `main_v42` from its operands. -/
theorem post_v42 (V : Valuation τ sig (Elt F)) : after post V (Proc.devRef .tc main_v42) = Host.dotGeneral dot_S2048x2048x4_S4_S2048x2048_2_0_01_n_n_n none (after post V (Proc.devRef .tc main_v40)) (after post V (Proc.devRef .tc main_v41)) :=
  read2 postW_eq 50 (a := main_v40) (b := main_v41) (y := main_v42) V ((fun l r => Host.dotGeneral dot_S2048x2048x4_S4_S2048x2048_2_0_01_n_n_n none l r) : (⟨S2048x2048x4, .f32⟩ : BufTy).Contents (Elt F) → (⟨S4, .f32⟩ : BufTy).Contents (Elt F) → (⟨S2048x2048, .f32⟩ : BufTy).Contents (Elt F)) rfl (by decide) (by decide) (by decide)
/-- `main_v43` from its operands. -/
theorem post_v43 (V : Valuation τ sig (Elt F)) : after post V (Proc.devRef .tc main_v43) = shapeCast S_ (after post V (Proc.devRef .tc main_arg13)) shapeCasts_S1_S_ :=
  readR postW_eq 51 (a := main_arg13) (y := main_v43) V rfl (by decide) (by decide)
/-- `main_v44` from its operands. -/
theorem post_v44 (V : Valuation τ sig (Elt F)) : after post V (Proc.devRef .tc main_v44) = broadcastInDim S2048x2048 ![] bcast_S_S2048x2048 (after post V (Proc.devRef .tc main_v43)) :=
  read1 postW_eq 52 (a := main_v43) (y := main_v44) V (broadcastInDim S2048x2048 ![] bcast_S_S2048x2048 : (⟨S_, .f32⟩ : BufTy).Contents (Elt F) → (⟨S2048x2048, .f32⟩ : BufTy).Contents (Elt F)) rfl (by decide) (by decide)
/-- `main_v45` from its operands. -/
theorem post_v45 (V : Valuation τ sig (Elt F)) : after post V (Proc.devRef .tc main_v45) = addf (after post V (Proc.devRef .tc main_v42)) (after post V (Proc.devRef .tc main_v44)) :=
  read2 postW_eq 53 (a := main_v42) (b := main_v44) (y := main_v45) V (addf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_cst_8` from its operands. -/
theorem post_cst_8 (V : Valuation τ sig (Elt F)) : after post V (Proc.devRef .tc main_cst_8) = constant S_ .f32 0xFF800000#32  :=
  read0 postW_eq 54 (y := main_cst_8) V (constant S_ .f32 0xFF800000#32) rfl (by decide)
/-- `main_v46` from its operands. -/
theorem post_v46 (V : Valuation τ sig (Elt F)) : after post V (Proc.devRef .tc main_v46) = Host.reduce FloatOps.maximumf (after post V (Proc.devRef .tc main_v45)) (after post V (Proc.devRef .tc main_cst_8)) reducesTo_S2048x2048_S2048_d1 h_S_ :=
  read2 postW_eq 55 (a := main_v45) (b := main_cst_8) (y := main_v46) V ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)) rfl (by decide) (by decide) (by decide)
/-- `main_cst_9` from its operands. -/
theorem post_cst_9 (V : Valuation τ sig (Elt F)) : after post V (Proc.devRef .tc main_cst_9) = constant S_ .f32 0xFF800000#32  :=
  read0 postW_eq 56 (y := main_cst_9) V (constant S_ .f32 0xFF800000#32) rfl (by decide)
/-- `main_v47` from its operands. -/
theorem post_v47 (V : Valuation τ sig (Elt F)) : after post V (Proc.devRef .tc main_v47) = broadcastInDim S2048 ![] bcast_S_S2048 (after post V (Proc.devRef .tc main_cst_9)) :=
  read1 postW_eq 57 (a := main_cst_9) (y := main_v47) V (broadcastInDim S2048 ![] bcast_S_S2048 : (⟨S_, .f32⟩ : BufTy).Contents (Elt F) → (⟨S2048, .f32⟩ : BufTy).Contents (Elt F)) rfl (by decide) (by decide)
/-- `main_v48` from its operands. -/
theorem post_v48 (V : Valuation τ sig (Elt F)) : after post V (Proc.devRef .tc main_v48) = maximumf (after post V (Proc.devRef .tc main_v47)) (after post V (Proc.devRef .tc main_v46)) :=
  read2 postW_eq 58 (a := main_v47) (b := main_v46) (y := main_v48) V (maximumf : (⟨S2048, .f32⟩ : BufTy).Contents (Elt F) → (⟨S2048, .f32⟩ : BufTy).Contents (Elt F) → (⟨S2048, .f32⟩ : BufTy).Contents (Elt F)) rfl (by decide) (by decide) (by decide)
/-- `main_v49` from its operands. -/
theorem post_v49 (V : Valuation τ sig (Elt F)) : after post V (Proc.devRef .tc main_v49) = broadcastInDim S2048x1 ![0] bcast_S2048_S2048x1_0 (after post V (Proc.devRef .tc main_v48)) :=
  read1 postW_eq 59 (a := main_v48) (y := main_v49) V (broadcastInDim S2048x1 ![0] bcast_S2048_S2048x1_0 : (⟨S2048, .f32⟩ : BufTy).Contents (Elt F) → (⟨S2048x1, .f32⟩ : BufTy).Contents (Elt F)) rfl (by decide) (by decide)
/-- `main_v50` from its operands. -/
theorem post_v50 (V : Valuation τ sig (Elt F)) : after post V (Proc.devRef .tc main_v50) = broadcastInDim S2048x2048 ![0, 1] bcast_S2048x1_S2048x2048_0_1 (after post V (Proc.devRef .tc main_v49)) :=
  read1 postW_eq 60 (a := main_v49) (y := main_v50) V (broadcastInDim S2048x2048 ![0, 1] bcast_S2048x1_S2048x2048_0_1 : (⟨S2048x1, .f32⟩ : BufTy).Contents (Elt F) → (⟨S2048x2048, .f32⟩ : BufTy).Contents (Elt F)) rfl (by decide) (by decide)
/-- `main_v51` from its operands. -/
theorem post_v51 (V : Valuation τ sig (Elt F)) : after post V (Proc.devRef .tc main_v51) = subf (after post V (Proc.devRef .tc main_v45)) (after post V (Proc.devRef .tc main_v50)) :=
  read2 postW_eq 61 (a := main_v45) (b := main_v50) (y := main_v51) V (subf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_v52` from its operands. -/
theorem post_v52 (V : Valuation τ sig (Elt F)) : after post V (Proc.devRef .tc main_v52) = Host.exp (after post V (Proc.devRef .tc main_v51)) :=
  read1 postW_eq 62 (a := main_v51) (y := main_v52) V (Host.exp : (⟨S2048x2048, .f32⟩ : BufTy).Contents (Elt F) → (⟨S2048x2048, .f32⟩ : BufTy).Contents (Elt F)) rfl (by decide) (by decide)
/-- `main_cst_10` from its operands. -/
theorem post_cst_10 (V : Valuation τ sig (Elt F)) : after post V (Proc.devRef .tc main_cst_10) = constant S_ .f32 0x00000000#32  :=
  read0 postW_eq 63 (y := main_cst_10) V (constant S_ .f32 0x00000000#32) rfl (by decide)
/-- `main_v53` from its operands. -/
theorem post_v53 (V : Valuation τ sig (Elt F)) : after post V (Proc.devRef .tc main_v53) = Host.reduceAdd (after post V (Proc.devRef .tc main_v52)) (after post V (Proc.devRef .tc main_cst_10)) reducesTo_S2048x2048_S2048_d1 h_S_ :=
  read2 postW_eq 64 (a := main_v52) (b := main_cst_10) (y := main_v53) V ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) rfl (by decide) (by decide) (by decide)
/-- `main_v54` from its operands. -/
theorem post_v54 (V : Valuation τ sig (Elt F)) : after post V (Proc.devRef .tc main_v54) = broadcastInDim S2048x1 ![0] bcast_S2048_S2048x1_0 (after post V (Proc.devRef .tc main_v53)) :=
  read1 postW_eq 65 (a := main_v53) (y := main_v54) V (broadcastInDim S2048x1 ![0] bcast_S2048_S2048x1_0 : (⟨S2048, .f32⟩ : BufTy).Contents (Elt F) → (⟨S2048x1, .f32⟩ : BufTy).Contents (Elt F)) rfl (by decide) (by decide)
/-- `main_v55` from its operands. -/
theorem post_v55 (V : Valuation τ sig (Elt F)) : after post V (Proc.devRef .tc main_v55) = broadcastInDim S2048x2048 ![0, 1] bcast_S2048x1_S2048x2048_0_1 (after post V (Proc.devRef .tc main_v54)) :=
  read1 postW_eq 66 (a := main_v54) (y := main_v55) V (broadcastInDim S2048x2048 ![0, 1] bcast_S2048x1_S2048x2048_0_1 : (⟨S2048x1, .f32⟩ : BufTy).Contents (Elt F) → (⟨S2048x2048, .f32⟩ : BufTy).Contents (Elt F)) rfl (by decide) (by decide)
/-- `main_v56` from its operands. -/
theorem post_v56 (V : Valuation τ sig (Elt F)) : after post V (Proc.devRef .tc main_v56) = Host.divf (after post V (Proc.devRef .tc main_v52)) (after post V (Proc.devRef .tc main_v55)) :=
  read2 postW_eq 67 (a := main_v52) (b := main_v55) (y := main_v56) V (Host.divf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_v57` from its operands. -/
theorem post_v57 (V : Valuation τ sig (Elt F)) : after post V (Proc.devRef .tc main_v57) = broadcastInDim S2048x2048 ![] bcast_S_S2048x2048 (after post V (Proc.devRef .tc main_arg14)) :=
  read1 postW_eq 68 (a := main_arg14) (y := main_v57) V (broadcastInDim S2048x2048 ![] bcast_S_S2048x2048 : (⟨S_, .f32⟩ : BufTy).Contents (Elt F) → (⟨S2048x2048, .f32⟩ : BufTy).Contents (Elt F)) rfl (by decide) (by decide)
/-- `main_v58` from its operands. -/
theorem post_v58 (V : Valuation τ sig (Elt F)) : after post V (Proc.devRef .tc main_v58) = cmpf .oge (after post V (Proc.devRef .tc main_v56)) (after post V (Proc.devRef .tc main_v57)) :=
  read2 postW_eq 69 (a := main_v56) (b := main_v57) (y := main_v58) V (cmpf .oge : (⟨S2048x2048, .f32⟩ : BufTy).Contents (Elt F) → (⟨S2048x2048, .f32⟩ : BufTy).Contents (Elt F) → (⟨S2048x2048, .i1⟩ : BufTy).Contents (Elt F)) rfl (by decide) (by decide) (by decide)
/-- `main_cst_11` from its operands. -/
theorem post_cst_11 (V : Valuation τ sig (Elt F)) : after post V (Proc.devRef .tc main_cst_11) = constant S_ .f32 0x3F800000#32  :=
  read0 postW_eq 70 (y := main_cst_11) V (constant S_ .f32 0x3F800000#32) rfl (by decide)
/-- `main_cst_12` from its operands. -/
theorem post_cst_12 (V : Valuation τ sig (Elt F)) : after post V (Proc.devRef .tc main_cst_12) = constant S_ .f32 0x00000000#32  :=
  read0 postW_eq 71 (y := main_cst_12) V (constant S_ .f32 0x00000000#32) rfl (by decide)
/-- `main_call3_v0` from its operands. -/
theorem post_call3_v0 (V : Valuation τ sig (Elt F)) : after post V (Proc.devRef .tc main_call3_v0) = broadcastInDim S2048x2048 ![] bcast_S_S2048x2048 (after post V (Proc.devRef .tc main_cst_11)) :=
  read1 postW_eq 72 (a := main_cst_11) (y := main_call3_v0) V (broadcastInDim S2048x2048 ![] bcast_S_S2048x2048) rfl (by decide) (by decide)
/-- `main_call3_v1` from its operands. -/
theorem post_call3_v1 (V : Valuation τ sig (Elt F)) : after post V (Proc.devRef .tc main_call3_v1) = broadcastInDim S2048x2048 ![] bcast_S_S2048x2048 (after post V (Proc.devRef .tc main_cst_12)) :=
  read1 postW_eq 73 (a := main_cst_12) (y := main_call3_v1) V (broadcastInDim S2048x2048 ![] bcast_S_S2048x2048) rfl (by decide) (by decide)
/-- `main_v59` from its operands. -/
theorem post_v59 (V : Valuation τ sig (Elt F)) : after post V (Proc.devRef .tc main_v59) = select (after post V (Proc.devRef .tc main_v58)) (after post V (Proc.devRef .tc main_call3_v0)) (after post V (Proc.devRef .tc main_call3_v1)) :=
  read3 postW_eq 74 (c := main_v58) (a := main_call3_v0) (b := main_call3_v1) (y := main_v59) V select rfl (by decide) (by decide) (by decide) (by decide)
/-- `main_v60` from its operands. -/
theorem post_v60 (V : Valuation τ sig (Elt F)) : after post V (Proc.devRef .tc main_v60) = iotaInDim S2048x2048 32 0  :=
  read0 postW_eq 75 (y := main_v60) V (iotaInDim S2048x2048 32 0) rfl (by decide)
/-- `main_v61` from its operands. -/
theorem post_v61 (V : Valuation τ sig (Elt F)) : after post V (Proc.devRef .tc main_v61) = iotaInDim S2048x2048 32 1  :=
  read0 postW_eq 76 (y := main_v61) V (iotaInDim S2048x2048 32 1) rfl (by decide)
/-- `main_c_13` from its operands. -/
theorem post_c_13 (V : Valuation τ sig (Elt F)) : after post V (Proc.devRef .tc main_c_13) = constantI S_ 32 0#32  :=
  read0 postW_eq 77 (y := main_c_13) V (constantI S_ 32 0#32) rfl (by decide)
/-- `main_v62` from its operands. -/
theorem post_v62 (V : Valuation τ sig (Elt F)) : after post V (Proc.devRef .tc main_v62) = broadcastInDim S2048x2048 ![] bcast_S_S2048x2048 (after post V (Proc.devRef .tc main_c_13)) :=
  read1 postW_eq 78 (a := main_c_13) (y := main_v62) V (broadcastInDim S2048x2048 ![] bcast_S_S2048x2048 : (⟨S_, .i32⟩ : BufTy).Contents (Elt F) → (⟨S2048x2048, .i32⟩ : BufTy).Contents (Elt F)) rfl (by decide) (by decide)
/-- `main_v63` from its operands. -/
theorem post_v63 (V : Valuation τ sig (Elt F)) : after post V (Proc.devRef .tc main_v63) = addi (after post V (Proc.devRef .tc main_v60)) (after post V (Proc.devRef .tc main_v62)) :=
  read2 postW_eq 79 (a := main_v60) (b := main_v62) (y := main_v63) V (addi : (⟨S2048x2048, .i32⟩ : BufTy).Contents (Elt F) → (⟨S2048x2048, .i32⟩ : BufTy).Contents (Elt F) → (⟨S2048x2048, .i32⟩ : BufTy).Contents (Elt F)) rfl (by decide) (by decide) (by decide)
/-- `main_v64` from its operands. -/
theorem post_v64 (V : Valuation τ sig (Elt F)) : after post V (Proc.devRef .tc main_v64) = cmpi .eq (after post V (Proc.devRef .tc main_v63)) (after post V (Proc.devRef .tc main_v61)) :=
  read2 postW_eq 80 (a := main_v63) (b := main_v61) (y := main_v64) V (cmpi .eq : (⟨S2048x2048, .i32⟩ : BufTy).Contents (Elt F) → (⟨S2048x2048, .i32⟩ : BufTy).Contents (Elt F) → (⟨S2048x2048, .i1⟩ : BufTy).Contents (Elt F)) rfl (by decide) (by decide) (by decide)
/-- `main_v65` from its operands. -/
theorem post_v65 (V : Valuation τ sig (Elt F)) : after post V (Proc.devRef .tc main_v65) = uitofp .f32 (after post V (Proc.devRef .tc main_v64)) :=
  read1 postW_eq 81 (a := main_v64) (y := main_v65) V (uitofp .f32 : (⟨S2048x2048, .i1⟩ : BufTy).Contents (Elt F) → (⟨S2048x2048, .f32⟩ : BufTy).Contents (Elt F)) rfl (by decide) (by decide)
/-- `main_v66` from its operands. -/
theorem post_v66 (V : Valuation τ sig (Elt F)) : after post V (Proc.devRef .tc main_v66) = (after post V (Proc.devRef .tc main_v59)) :=
  read1 postW_eq 82 (a := main_v59) (y := main_v66) V (id : (⟨S2048x2048, .f32⟩ : BufTy).Contents (Elt F) → (⟨S2048x2048, .f32⟩ : BufTy).Contents (Elt F)) rfl (by decide) (by decide)
/-- `main_v67` from its operands. -/
theorem post_v67 (V : Valuation τ sig (Elt F)) : after post V (Proc.devRef .tc main_v67) = addf (after post V (Proc.devRef .tc main_v66)) (after post V (Proc.devRef .tc main_v65)) :=
  read2 postW_eq 83 (a := main_v66) (b := main_v65) (y := main_v67) V (addf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_cst_14` from its operands. -/
theorem post_cst_14 (V : Valuation τ sig (Elt F)) : after post V (Proc.devRef .tc main_cst_14) = constant S_ .f32 0x00000000#32  :=
  read0 postW_eq 84 (y := main_cst_14) V (constant S_ .f32 0x00000000#32) rfl (by decide)
/-- `main_v68` from its operands. -/
theorem post_v68 (V : Valuation τ sig (Elt F)) : after post V (Proc.devRef .tc main_v68) = Host.reduceAdd (after post V (Proc.devRef .tc main_v67)) (after post V (Proc.devRef .tc main_cst_14)) reducesTo_S2048x2048_S2048_d1 h_S_ :=
  read2 postW_eq 85 (a := main_v67) (b := main_cst_14) (y := main_v68) V ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) rfl (by decide) (by decide) (by decide)
/-- `main_cst_15` from its operands. -/
theorem post_cst_15 (V : Valuation τ sig (Elt F)) : after post V (Proc.devRef .tc main_cst_15) = constant S_ .f32 0x3F800000#32  :=
  read0 postW_eq 86 (y := main_cst_15) V (constant S_ .f32 0x3F800000#32) rfl (by decide)
/-- `main_call4_v0` from its operands. -/
theorem post_call4_v0 (V : Valuation τ sig (Elt F)) : after post V (Proc.devRef .tc main_call4_v0) = (after post V (Proc.devRef .tc main_cst_15)) :=
  read1 postW_eq 87 (a := main_cst_15) (y := main_call4_v0) V id rfl (by decide) (by decide)
/-- `main_call4_v1` from its operands. -/
theorem post_call4_v1 (V : Valuation τ sig (Elt F)) : after post V (Proc.devRef .tc main_call4_v1) = broadcastInDim S2048 ![] bcast_S_S2048 (after post V (Proc.devRef .tc main_call4_v0)) :=
  read1 postW_eq 88 (a := main_call4_v0) (y := main_call4_v1) V (broadcastInDim S2048 ![] bcast_S_S2048) rfl (by decide) (by decide)
/-- `main_v69` from its operands. -/
theorem post_v69 (V : Valuation τ sig (Elt F)) : after post V (Proc.devRef .tc main_v69) = maximumf (after post V (Proc.devRef .tc main_call4_v1)) (after post V (Proc.devRef .tc main_v68)) :=
  read2 postW_eq 89 (a := main_call4_v1) (b := main_v68) (y := main_v69) V maximumf rfl (by decide) (by decide) (by decide)
/-- `main_v70` from its operands. -/
theorem post_v70 (V : Valuation τ sig (Elt F)) : after post V (Proc.devRef .tc main_v70) = Host.sqrt (after post V (Proc.devRef .tc main_v69)) :=
  read1 postW_eq 90 (a := main_v69) (y := main_v70) V (Host.sqrt : (⟨S2048, .f32⟩ : BufTy).Contents (Elt F) → (⟨S2048, .f32⟩ : BufTy).Contents (Elt F)) rfl (by decide) (by decide)
/-- `main_cst_16` from its operands. -/
theorem post_cst_16 (V : Valuation τ sig (Elt F)) : after post V (Proc.devRef .tc main_cst_16) = constant S_ .f32 0x3F800000#32  :=
  read0 postW_eq 91 (y := main_cst_16) V (constant S_ .f32 0x3F800000#32) rfl (by decide)
/-- `main_v71` from its operands. -/
theorem post_v71 (V : Valuation τ sig (Elt F)) : after post V (Proc.devRef .tc main_v71) = broadcastInDim S2048 ![] bcast_S_S2048 (after post V (Proc.devRef .tc main_cst_16)) :=
  read1 postW_eq 92 (a := main_cst_16) (y := main_v71) V (broadcastInDim S2048 ![] bcast_S_S2048 : (⟨S_, .f32⟩ : BufTy).Contents (Elt F) → (⟨S2048, .f32⟩ : BufTy).Contents (Elt F)) rfl (by decide) (by decide)
/-- `main_v72` from its operands. -/
theorem post_v72 (V : Valuation τ sig (Elt F)) : after post V (Proc.devRef .tc main_v72) = Host.divf (after post V (Proc.devRef .tc main_v71)) (after post V (Proc.devRef .tc main_v70)) :=
  read2 postW_eq 93 (a := main_v71) (b := main_v70) (y := main_v72) V (Host.divf : (⟨S2048, .f32⟩ : BufTy).Contents (Elt F) → (⟨S2048, .f32⟩ : BufTy).Contents (Elt F) → (⟨S2048, .f32⟩ : BufTy).Contents (Elt F)) rfl (by decide) (by decide) (by decide)
/-- `main_v73` from its operands. -/
theorem post_v73 (V : Valuation τ sig (Elt F)) : after post V (Proc.devRef .tc main_v73) = broadcastInDim S2048x1 ![0] bcast_S2048_S2048x1_0 (after post V (Proc.devRef .tc main_v72)) :=
  read1 postW_eq 94 (a := main_v72) (y := main_v73) V (broadcastInDim S2048x1 ![0] bcast_S2048_S2048x1_0 : (⟨S2048, .f32⟩ : BufTy).Contents (Elt F) → (⟨S2048x1, .f32⟩ : BufTy).Contents (Elt F)) rfl (by decide) (by decide)
/-- `main_v74` from its operands. -/
theorem post_v74 (V : Valuation τ sig (Elt F)) : after post V (Proc.devRef .tc main_v74) = broadcastInDim S2048x2048 ![0, 1] bcast_S2048x1_S2048x2048_0_1 (after post V (Proc.devRef .tc main_v73)) :=
  read1 postW_eq 95 (a := main_v73) (y := main_v74) V (broadcastInDim S2048x2048 ![0, 1] bcast_S2048x1_S2048x2048_0_1 : (⟨S2048x1, .f32⟩ : BufTy).Contents (Elt F) → (⟨S2048x2048, .f32⟩ : BufTy).Contents (Elt F)) rfl (by decide) (by decide)
/-- `main_v75` from its operands. -/
theorem post_v75 (V : Valuation τ sig (Elt F)) : after post V (Proc.devRef .tc main_v75) = mulf (after post V (Proc.devRef .tc main_v74)) (after post V (Proc.devRef .tc main_v67)) :=
  read2 postW_eq 96 (a := main_v74) (b := main_v67) (y := main_v75) V (mulf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_v76` from its operands. -/
theorem post_v76 (V : Valuation τ sig (Elt F)) : after post V (Proc.devRef .tc main_v76) = broadcastInDim S1x2048 ![1] bcast_S2048_S1x2048_1 (after post V (Proc.devRef .tc main_v72)) :=
  read1 postW_eq 97 (a := main_v72) (y := main_v76) V (broadcastInDim S1x2048 ![1] bcast_S2048_S1x2048_1 : (⟨S2048, .f32⟩ : BufTy).Contents (Elt F) → (⟨S1x2048, .f32⟩ : BufTy).Contents (Elt F)) rfl (by decide) (by decide)
/-- `main_v77` from its operands. -/
theorem post_v77 (V : Valuation τ sig (Elt F)) : after post V (Proc.devRef .tc main_v77) = broadcastInDim S2048x2048 ![0, 1] bcast_S1x2048_S2048x2048_0_1 (after post V (Proc.devRef .tc main_v76)) :=
  read1 postW_eq 98 (a := main_v76) (y := main_v77) V (broadcastInDim S2048x2048 ![0, 1] bcast_S1x2048_S2048x2048_0_1 : (⟨S1x2048, .f32⟩ : BufTy).Contents (Elt F) → (⟨S2048x2048, .f32⟩ : BufTy).Contents (Elt F)) rfl (by decide) (by decide)
/-- `main_v78` from its operands. -/
theorem post_v78 (V : Valuation τ sig (Elt F)) : after post V (Proc.devRef .tc main_v78) = mulf (after post V (Proc.devRef .tc main_v75)) (after post V (Proc.devRef .tc main_v77)) :=
  read2 postW_eq 99 (a := main_v75) (b := main_v77) (y := main_v78) V (mulf : (⟨S2048x2048, .f32⟩ : BufTy).Contents (Elt F) → (⟨S2048x2048, .f32⟩ : BufTy).Contents (Elt F) → (⟨S2048x2048, .f32⟩ : BufTy).Contents (Elt F)) rfl (by decide) (by decide) (by decide)
/-- `main_v79` from its operands. -/
theorem post_v79 (V : Valuation τ sig (Elt F)) : after post V (Proc.devRef .tc main_v79) = transpose S144x128 [1, 0] (after post V (Proc.devRef .tc main_arg15)) transposes_S128x144_S144x128_1_0 :=
  read1 postW_eq 100 (a := main_arg15) (y := main_v79) V ((transpose S144x128 [1, 0] · transposes_S128x144_S144x128_1_0) : (⟨S128x144, .f32⟩ : BufTy).Contents (Elt F) → (⟨S144x128, .f32⟩ : BufTy).Contents (Elt F)) rfl (by decide) (by decide)
/-- `main_v80` from its operands. -/
theorem post_v80 (V : Valuation τ sig (Elt F)) : after post V (Proc.devRef .tc main_v80) = Host.dotGeneral dot_S2048x144_S144x128_S2048x128_1_0_0_1_n_n none (after post V (Proc.devRef .tc main_v23)) (after post V (Proc.devRef .tc main_v79)) :=
  read2 postW_eq 101 (a := main_v23) (b := main_v79) (y := main_v80) V ((fun l r => Host.dotGeneral dot_S2048x144_S144x128_S2048x128_1_0_0_1_n_n none l r) : (⟨S2048x144, .f32⟩ : BufTy).Contents (Elt F) → (⟨S144x128, .f32⟩ : BufTy).Contents (Elt F) → (⟨S2048x128, .f32⟩ : BufTy).Contents (Elt F)) rfl (by decide) (by decide) (by decide)
/-- `main_v81` from its operands. -/
theorem post_v81 (V : Valuation τ sig (Elt F)) : after post V (Proc.devRef .tc main_v81) = Host.dotGeneral dot_S2048x2048_S2048x128_S2048x128_1_0_0_1_n_n none (after post V (Proc.devRef .tc main_v78)) (after post V (Proc.devRef .tc main_v80)) :=
  read2 postW_eq 102 (a := main_v78) (b := main_v80) (y := main_v81) V ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)) rfl (by decide) (by decide) (by decide)
/-- `main_v82` from its operands. -/
theorem post_v82 (V : Valuation τ sig (Elt F)) : after post V (Proc.devRef .tc main_v82) = broadcastInDim S1x128 ![1] bcast_S128_S1x128_1 (after post V (Proc.devRef .tc main_arg16)) :=
  read1 postW_eq 103 (a := main_arg16) (y := main_v82) V (broadcastInDim S1x128 ![1] bcast_S128_S1x128_1 : (⟨S128, .f32⟩ : BufTy).Contents (Elt F) → (⟨S1x128, .f32⟩ : BufTy).Contents (Elt F)) rfl (by decide) (by decide)
/-- `main_v83` from its operands. -/
theorem post_v83 (V : Valuation τ sig (Elt F)) : after post V (Proc.devRef .tc main_v83) = broadcastInDim S2048x128 ![0, 1] bcast_S1x128_S2048x128_0_1 (after post V (Proc.devRef .tc main_v82)) :=
  read1 postW_eq 104 (a := main_v82) (y := main_v83) V (broadcastInDim S2048x128 ![0, 1] bcast_S1x128_S2048x128_0_1 : (⟨S1x128, .f32⟩ : BufTy).Contents (Elt F) → (⟨S2048x128, .f32⟩ : BufTy).Contents (Elt F)) rfl (by decide) (by decide)
/-- `main_v84` from its operands. -/
theorem post_v84 (V : Valuation τ sig (Elt F)) : after post V (Proc.devRef .tc main_v84) = addf (after post V (Proc.devRef .tc main_v81)) (after post V (Proc.devRef .tc main_v83)) :=
  read2 postW_eq 105 (a := main_v81) (b := main_v83) (y := main_v84) V (addf : (⟨S2048x128, .f32⟩ : BufTy).Contents (Elt F) → (⟨S2048x128, .f32⟩ : BufTy).Contents (Elt F) → (⟨S2048x128, .f32⟩ : BufTy).Contents (Elt F)) rfl (by decide) (by decide) (by decide)
/-- `main_v85` from its operands. -/
theorem post_v85 (V : Valuation τ sig (Elt F)) : after post V (Proc.devRef .tc main_v85) = transpose S128x2 [1, 0] (after post V (Proc.devRef .tc main_arg17)) transposes_S2x128_S128x2_1_0 :=
  read1 postW_eq 106 (a := main_arg17) (y := main_v85) V ((transpose S128x2 [1, 0] · transposes_S2x128_S128x2_1_0) : (⟨S2x128, .f32⟩ : BufTy).Contents (Elt F) → (⟨S128x2, .f32⟩ : BufTy).Contents (Elt F)) rfl (by decide) (by decide)
/-- `main_v86` from its operands. -/
theorem post_v86 (V : Valuation τ sig (Elt F)) : after post V (Proc.devRef .tc main_v86) = Host.dotGeneral dot_S2048x128_S128x2_S2048x2_1_0_0_1_n_n none (after post V (Proc.devRef .tc main_v84)) (after post V (Proc.devRef .tc main_v85)) :=
  read2 postW_eq 107 (a := main_v84) (b := main_v85) (y := main_v86) V ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)) rfl (by decide) (by decide) (by decide)
/-- `main_v87` from its operands. -/
theorem post_v87 (V : Valuation τ sig (Elt F)) : after post V (Proc.devRef .tc main_v87) = broadcastInDim S1x2 ![1] bcast_S2_S1x2_1 (after post V (Proc.devRef .tc main_arg18)) :=
  read1 postW_eq 108 (a := main_arg18) (y := main_v87) V (broadcastInDim S1x2 ![1] bcast_S2_S1x2_1 : (⟨S2, .f32⟩ : BufTy).Contents (Elt F) → (⟨S1x2, .f32⟩ : BufTy).Contents (Elt F)) rfl (by decide) (by decide)
/-- `main_v88` from its operands. -/
theorem post_v88 (V : Valuation τ sig (Elt F)) : after post V (Proc.devRef .tc main_v88) = broadcastInDim S2048x2 ![0, 1] bcast_S1x2_S2048x2_0_1 (after post V (Proc.devRef .tc main_v87)) :=
  read1 postW_eq 109 (a := main_v87) (y := main_v88) V (broadcastInDim S2048x2 ![0, 1] bcast_S1x2_S2048x2_0_1 : (⟨S1x2, .f32⟩ : BufTy).Contents (Elt F) → (⟨S2048x2, .f32⟩ : BufTy).Contents (Elt F)) rfl (by decide) (by decide)
/-- `main_v89` from its operands. -/
theorem post_v89 (V : Valuation τ sig (Elt F)) : after post V (Proc.devRef .tc main_v89) = addf (after post V (Proc.devRef .tc main_v86)) (after post V (Proc.devRef .tc main_v88)) :=
  read2 postW_eq 110 (a := main_v86) (b := main_v88) (y := main_v89) V (addf : (⟨S2048x2, .f32⟩ : BufTy).Contents (Elt F) → (⟨S2048x2, .f32⟩ : BufTy).Contents (Elt F) → (⟨S2048x2, .f32⟩ : BufTy).Contents (Elt F)) rfl (by decide) (by decide) (by decide)

end Cert.ReferenceIdeal.Host

end
-- ==== Proof.RefRun.lean ====
/- The run of the reference: it ends, its arguments are unchanged, and its result is what its last stretch makes of the
   contents the loop leaves. -/
module

public import proofs.«01_k».proof.Proof.RefTrip
public import proofs.«01_k».proof.Proof.RefEntry
public import proofs.«01_k».proof.Proof.RefPost
public import Idealize.ShloMosaic.Lib.Claim

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- The loop's condition changes nothing but its own buffers. -/
theorem cond_keep (r : Ref sig .tc) (h : r ∉ condOps_W) (V : Valuation τ sig (Elt F)) : after condOps V (Proc.devRef .tc r) = V (Proc.devRef .tc r) :=
  after_of_writes_sub condOps V condOps_writes h

/-- One trip changes no buffer that it does not write. -/
theorem body_keep (r : Ref sig .tc) (h : r ∉ while0Ops0_W ∧ r ∉ while0Ops0_1_W ∧ r ∉ while0Ops0_2_W ∧ r ∉ while0Ops0_3_W) (V : Valuation τ sig (Elt F)) :
    afterL bodyI V (Proc.devRef .tc r) = V (Proc.devRef .tc r) := by
  simp only [afterL_cons, afterL_nil]
  rw [after_of_writes_sub while0Ops0_3 _ while0Ops0_3_writes h.2.2.2, after_of_writes_sub while0Ops0_2 _ while0Ops0_2_writes h.2.2.1,
    after_of_writes_sub while0Ops0_1 _ while0Ops0_1_writes h.2.1, after_of_writes_sub while0Ops0 _ while0Ops0_writes h.1]

/-- The buffers as the program starts. -/
abbrev E0 (c : Dev nD) : Valuation τ sig (Elt F) := fun b => m (c, b)

/-- A buffer that neither the preparation nor the loop writes holds its launch contents at every trip. -/
theorem atK_keep (r : Ref sig .tc) (h : r ∉ entW ∧ r ∉ condOps_W ∧ r ∉ while0Ops0_W ∧ r ∉ while0Ops0_1_W ∧ r ∉ while0Ops0_2_W ∧ r ∉ while0Ops0_3_W) (c : Dev nD) :
    ∀ k, atK m k c (Proc.devRef .tc r) = m ((c : Thread nD τ).loc r)
  | 0 => ent_keep r h.1 (E0 m c)
  | k + 1 => (body_keep r h.2.2 _).trans ((cond_keep r h.2.1 _).trans (atK_keep r h c k))

/-- The contents when the loop is left. -/
abbrev W (c : Dev nD) : Valuation τ sig (Elt F) := after condOps (atK m 20 c)

/-- The last stretch, all of it. -/
theorem post_after (V : Valuation τ sig (Elt F)) : afterL postI V = after post V := by
  simp only [afterL_cons, afterL_nil, post, after_append]

/-- The contents at the end. -/
theorem final_eq (c : Dev nD) : finalContents condOps preI bodyI postI 20 m c = after post (W m c) := post_after (W m c)

/-- An argument is what it was at every trip, and when the loop is left. -/
theorem W_args (c : Dev nD) : ∀ a ∈ argRefs, W m c (Proc.devRef .tc a) = m ((c : Thread nD τ).loc a) := fun a ha => by
  have h : ∀ a ∈ argRefs, a ∉ entW ∧ a ∉ condOps_W ∧ a ∉ while0Ops0_W ∧ a ∉ while0Ops0_1_W ∧ a ∉ while0Ops0_2_W ∧ a ∉ while0Ops0_3_W :=
    ListAll.forall_mem_of_all_decide (by decide +kernel)
  exact (cond_keep a (h a ha).2.1 _).trans (atK_keep m a (h a ha) c 20)

/-- No argument is changed. -/
theorem final_args (c : Dev nD) : ∀ a ∈ argRefs, after post (W m c) (Proc.devRef .tc a) = m ((c : Thread nD τ).loc a) := fun a ha => by
  have h : ∀ a ∈ argRefs, a ∉ postW := ListAll.forall_mem_of_all_decide (by decide +kernel)
  exact (post_keep a (h a ha) _).trans (W_args m c a ha)

/-- The run: every buffer outside the kernels' own ends at the composed contents, and every semaphore counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = after post (W m c) (Proc.devRef .tc b)) ∧ r.2.sem = fun _ => 0) :=
  (θ_run (defs (F := F)) _ _).mono (fun r h => ⟨fun c b hb => (h c b hb).trans (congrFun (final_eq m c) _), sem_eq_zero_of_no_sems (by decide) r.2⟩) (run_fold m ρ)

end Cert.ReferenceIdeal.Host

end
-- ==== Proof.Spec.lean ====
/- What the two programs compute, over the extended reals and with no program in sight: the recurrence, the scores and the thresholded aggregation as the
   kernel arranges them. -/
module

public import Idealize.ShloMosaic.Lib.Pointwise

@[expose] public section

noncomputable section

namespace Cert.Spec

open Idealize.ShloMosaic

/-- The nineteen arguments, entry by entry. -/
structure Params where
  /-- the time series: sequence, step, feature -/
  x : Fin 2048 → Fin 20 → Fin 128 → EReal
  /-- the demographics -/
  xd : Fin 2048 → Fin 16 → EReal
  /-- the lengths of the sequences -/
  len : Fin 2048 → BitVec 32
  /-- the recurrence's input weights -/
  wih : Fin 384 → Fin 128 → EReal
  /-- its state weights -/
  whh : Fin 384 → Fin 128 → EReal
  /-- its input bias -/
  bih : Fin 384 → EReal
  /-- its state bias -/
  bhh : Fin 384 → EReal
  /-- its first state -/
  h0 : Fin 128 → EReal
  /-- the query layer -/
  wq : Fin 144 → Fin 144 → EReal
  /-- and its bias -/
  bq : Fin 144 → EReal
  /-- the key layer -/
  wk : Fin 144 → Fin 144 → EReal
  /-- and its bias -/
  bk : Fin 144 → EReal
  /-- the mixing of the heads -/
  wo : Fin 4 → EReal
  /-- and its bias -/
  wob : EReal
  /-- the threshold -/
  phi : EReal
  /-- the graph layer -/
  wg : Fin 128 → Fin 144 → EReal
  /-- and its bias -/
  bg : Fin 128 → EReal
  /-- the last layer -/
  wp : Fin 2 → Fin 128 → EReal
  /-- and its bias -/
  bp : Fin 2 → EReal

/-- The arguments read off their arrays. -/
def Params.of (x : Vec Ideal ⟨3, ![2048, 20, 128]⟩ .f32) (xd : Vec Ideal ⟨2, ![2048, 16]⟩ .f32) (len : Vec Ideal ⟨1, ![2048]⟩ .i32)
    (wih : Vec Ideal ⟨2, ![384, 128]⟩ .f32) (whh : Vec Ideal ⟨2, ![384, 128]⟩ .f32) (bih : Vec Ideal ⟨1, ![384]⟩ .f32) (bhh : Vec Ideal ⟨1, ![384]⟩ .f32)
    (h0 : Vec Ideal ⟨1, ![128]⟩ .f32) (wq : Vec Ideal ⟨2, ![144, 144]⟩ .f32) (bq : Vec Ideal ⟨1, ![144]⟩ .f32)
    (wk : Vec Ideal ⟨2, ![144, 144]⟩ .f32) (bk : Vec Ideal ⟨1, ![144]⟩ .f32) (wo : Vec Ideal ⟨2, ![1, 4]⟩ .f32) (wob : Vec Ideal ⟨1, ![1]⟩ .f32)
    (phi : Vec Ideal ⟨0, ![]⟩ .f32) (wg : Vec Ideal ⟨2, ![128, 144]⟩ .f32) (bg : Vec Ideal ⟨1, ![128]⟩ .f32)
    (wp : Vec Ideal ⟨2, ![2, 128]⟩ .f32) (bp : Vec Ideal ⟨1, ![2]⟩ .f32) : Params where
  x r n k := x (ix3 r n k)
  xd r k := xd (ix2 r k)
  len r := len (ix1 r)
  wih a k := wih (ix2 a k)
  whh a k := whh (ix2 a k)
  bih a := bih (ix1 a)
  bhh a := bhh (ix1 a)
  h0 k := h0 (ix1 k)
  wq a b := wq (ix2 a b)
  bq a := bq (ix1 a)
  wk a b := wk (ix2 a b)
  bk a := bk (ix1 a)
  wo h := wo (ix2 0 h)
  wob := wob (ix1 0)
  phi := phi ix0
  wg h b := wg (ix2 h b)
  bg h := bg (ix1 h)
  wp c h := wp (ix2 c h)
  bp c := bp (ix1 c)

variable (P : Params)

/-- A gate's part from the features -/
def gi (x : Fin 128 → EReal) (a : Fin 384) : EReal := ∑ k, x k * P.wih a k + P.bih a
/-- and its part from the state. -/
def gh (h : Fin 128 → EReal) (a : Fin 384) : EReal := ∑ k, h k * P.whh a k + P.bhh a
/-- One step of the recurrence. -/
def step (x h : Fin 128 → EReal) (j : Fin 128) : EReal :=
  (1 - Ideal.logistic (gi P x ⟨128 + j.val, by omega⟩ + gh P h ⟨128 + j.val, by omega⟩))
      * Ideal.tanh (gi P x ⟨256 + j.val, by omega⟩ + Ideal.logistic (gi P x ⟨j.val, by omega⟩ + gh P h ⟨j.val, by omega⟩) * gh P h ⟨256 + j.val, by omega⟩)
    + Ideal.logistic (gi P x ⟨128 + j.val, by omega⟩ + gh P h ⟨128 + j.val, by omega⟩) * h j
/-- The state of a sequence after `n` steps. -/
def hs (r : Fin 2048) : ℕ → Fin 128 → EReal
  | 0 => P.h0
  | n + 1 => step P (P.x r ⟨n % 20, Nat.mod_lt _ (by decide)⟩) (hs r n)
/-- The step whose state a sequence selects. -/
def pos (r : Fin 2048) : ℕ := (IntOp.minsi 19#32 (IntOp.maxsi 0#32 (IntOp.subi (P.len r) 1#32))).toNat
/-- A node: the selected state beside the demographics. -/
def z (r : Fin 2048) (b : Fin 144) : EReal :=
  if h : b.val < 128 then hs P r (pos P r + 1) ⟨b.val, h⟩ else P.xd r ⟨b.val - 128, by omega⟩

/-- The width of a head, as the programs print it. -/
def width : EReal := Ideal.ofBits .f32 0x42100000#32
/-- The scale of a query column. -/
def scale (a : Fin 144) : EReal := Ideal.div (P.wo ⟨a.val / 36, by omega⟩) (Ideal.sqrt width)
/-- The kernel's queries, -/
def kq (i : Fin 2048) (a : Fin 144) : EReal := ∑ b, z P i b * (P.wq a b * scale P a) + P.bq a * scale P a
/-- keys, -/
def kk (i : Fin 2048) (a : Fin 144) : EReal := ∑ b, z P i b * P.wk a b + P.bk a
/-- projected nodes -/
def ky (i : Fin 2048) (c : Fin 2) : EReal := ∑ b, z P i b * ∑ h, P.wp c h * P.wg h b
/-- and bias. -/
def kb (c : Fin 2) : EReal := ∑ h, P.wp c h * P.bg h + P.bp c
/-- The kernel's scores. -/
def ks (i j : Fin 2048) : EReal := ∑ a, kq P i a * kk P j a + P.wob

/-- The largest score of a row -/
def rmax (s : Fin 2048 → Fin 2048 → EReal) (i : Fin 2048) : EReal := Finset.fold max (Ideal.ofBits .f32 4286578688#32) (s i) Finset.univ
/-- the exponentials, -/
def ex (s : Fin 2048 → Fin 2048 → EReal) (i j : Fin 2048) : EReal := Ideal.exp (s i j - rmax s i)
/-- and their sum. -/
def den (s : Fin 2048 → Fin 2048 → EReal) (i : Fin 2048) : EReal := ∑ j, ex s i j
/-- The kept edges, as zeros and ones. -/
def mask (s : Fin 2048 → Fin 2048 → EReal) (phi : EReal) (i j : Fin 2048) : EReal :=
  FloatOps.sitofp (F := Ideal) .f32 (BitVec.setWidth 32 (BitVec.ofBool (decide (phi * den s i ≤ ex s i j))))
/-- The reciprocal root of a node's degree. -/
def dinv (s : Fin 2048 → Fin 2048 → EReal) (phi : EReal) (i : Fin 2048) : EReal := Ideal.rsqrt (∑ j, mask s phi i j + 1)
/-- The kernel's result. -/
def kout (i : Fin 2048) (c : Fin 2) : EReal :=
  dinv (ks P) P.phi i * ∑ j, mask (ks P) P.phi i j * (ky P j c * dinv (ks P) P.phi j)
    + dinv (ks P) P.phi i * dinv (ks P) P.phi i * ky P i c + kb P c

end Cert.Spec

end
-- ==== Proof.SpecRef.lean ====
/- The reference's arrangement of the scores and of the aggregation, over the extended reals and with no program in sight. -/
module

public import proofs.«01_k».proof.Proof.Spec

@[expose] public section

noncomputable section

namespace Cert.Spec

open Idealize.ShloMosaic

variable (P : Params)

/-- A column of a head. -/
def col (h : Fin 4) (d : Fin 36) : Fin 144 := ⟨h.val * 36 + d.val, by omega⟩
/-- The reference's queries. -/
def rq (i : Fin 2048) (a : Fin 144) : EReal := ∑ b, z P i b * P.wq a b + P.bq a
/-- The reference's scores: each head's product over the root of its width, mixed. -/
def rs (i j : Fin 2048) : EReal := ∑ h, Ideal.div (∑ d, kk P j (col h d) * rq P i (col h d)) (Ideal.sqrt width) * P.wo h + P.wob

variable (s : Fin 2048 → Fin 2048 → EReal) (phi : EReal)

/-- The largest score of a row, once more compared with the least value -/
def rmx (i : Fin 2048) : EReal := max (Ideal.ofBits .f32 4286578688#32) (rmax s i)
/-- the exponentials -/
def rex (i j : Fin 2048) : EReal := Ideal.exp (s i j - rmx s i)
/-- and their sum. -/
def rden (i : Fin 2048) : EReal := ∑ j, rex s i j
/-- The adjacency: the kept edges and the loops. -/
def radj (i j : Fin 2048) : EReal := (if phi ≤ Ideal.div (rex s i j) (rden s i) then 1 else 0) + (if i = j then 1 else 0)
/-- The reciprocal root of a node's degree. -/
def rdv (i : Fin 2048) : EReal := Ideal.div 1 (Ideal.sqrt (max 1 (∑ j, radj s phi i j)))
/-- The aggregation and the two last layers. -/
def rout (i : Fin 2048) (c : Fin 2) : EReal :=
  ∑ h, (∑ j, rdv (rs P) P.phi i * radj (rs P) P.phi i j * rdv (rs P) P.phi j * (∑ b, z P j b * P.wg h b) + P.bg h) * P.wp c h + P.bp c

end Cert.Spec

end
-- ==== Proof.Math.lean ====
/- The kernel's arrangement and the reference's agree when the weights, the first state and the demographics are real numbers. -/
module

public import proofs.«01_k».proof.Proof.SpecRef

@[expose] public section

noncomputable section

namespace Cert.Spec

open Idealize.ShloMosaic

/-- A real number among the extended reals. -/
def IsR (x : EReal) : Prop := ∃ t : ℝ, x = (t : EReal)

/-- A real sum is the extended reals' sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum with a real summand. -/
theorem add_mul_real (x w : ℝ) (b : EReal) : ((x : EReal) + b) * w = ((x * w : ℝ) : EReal) + b * w := by
  induction b with
  | coe b => rw [← EReal.coe_add, ← EReal.coe_mul, ← EReal.coe_mul, ← EReal.coe_add, add_mul]
  | bot =>
    rw [EReal.add_bot]
    rcases lt_trichotomy w 0 with h | h | h
    · rw [EReal.bot_mul_coe_of_neg h, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, EReal.coe_add_top]

/-- The logistic function is real at every argument, -/
theorem logistic_real (x : EReal) : IsR (Ideal.logistic x) := by
  induction x with
  | coe r => exact ⟨_, Ideal.logistic_coe _⟩
  | bot => exact ⟨0, Ideal.logistic_bot⟩
  | top => exact ⟨1, Ideal.logistic_top⟩
/-- and so is the hyperbolic tangent. -/
theorem tanh_real (x : EReal) : IsR (Ideal.tanh x) := by
  induction x with
  | coe r => exact ⟨_, rfl⟩
  | bot => exact ⟨-1, rfl⟩
  | top => exact ⟨1, rfl⟩

/-- The width is thirty-six, -/
theorem width_eq : width = ((36 : ℝ) : EReal) := by
  unfold width
  simp [Ideal.ofBits, Ideal.ieee, -EReal.coe_mul]
  norm_num
/-- its root six. -/
theorem sqrt_width : Ideal.sqrt width = ((6 : ℝ) : EReal) := by
  rw [width_eq, Ideal.sqrt_coe, if_neg (by norm_num)]
  rw [show (36 : ℝ) = 6 ^ 2 by norm_num, Real.sqrt_sq (by norm_num)]
/-- The pattern the maxima start from is the least extended real. -/
theorem start_eq : Ideal.ofBits .f32 4286578688#32 = ⊥ := by simp [Ideal.ofBits, Ideal.ieee]

/-- The arguments that must be real. -/
structure Params.Reals (P : Params) : Prop where
  /-- the demographics -/
  xd : ∀ r k, IsR (P.xd r k)
  /-- the first state -/
  h0 : ∀ k, IsR (P.h0 k)
  /-- the query layer -/
  wq : ∀ a b, IsR (P.wq a b)
  /-- and its bias -/
  bq : ∀ a, IsR (P.bq a)
  /-- the key layer -/
  wk : ∀ a b, IsR (P.wk a b)
  /-- and its bias -/
  bk : ∀ a, IsR (P.bk a)
  /-- the mixing -/
  wo : ∀ h, IsR (P.wo h)
  /-- and its bias -/
  wob : IsR P.wob
  /-- the graph layer -/
  wg : ∀ h b, IsR (P.wg h b)
  /-- the last layer -/
  wp : ∀ c h, IsR (P.wp c h)

variable (P : Params)

/-- A state is real after every number of steps. -/
theorem hs_real (hP : P.Reals) (r : Fin 2048) : ∀ (n : ℕ) (j : Fin 128), IsR (hs P r n j)
  | 0, j => hP.h0 j
  | n + 1, j => by
    obtain ⟨h, e⟩ := hs_real hP r n j
    show IsR (step P _ (hs P r n) j)
    unfold step
    rw [e]
    obtain ⟨l, el⟩ := logistic_real (gi P (P.x r ⟨n % 20, Nat.mod_lt _ (by decide)⟩) ⟨128 + j.val, by omega⟩ + gh P (hs P r n) ⟨128 + j.val, by omega⟩)
    obtain ⟨t, et⟩ := tanh_real (gi P (P.x r ⟨n % 20, Nat.mod_lt _ (by decide)⟩) ⟨256 + j.val, by omega⟩
      + Ideal.logistic (gi P (P.x r ⟨n % 20, Nat.mod_lt _ (by decide)⟩) ⟨j.val, by omega⟩ + gh P (hs P r n) ⟨j.val, by omega⟩) * gh P (hs P r n) ⟨256 + j.val, by omega⟩)
    rw [el, et]
    exact ⟨(1 - l) * t + l * h, by rw [EReal.coe_add, EReal.coe_mul, EReal.coe_mul, EReal.coe_sub, EReal.coe_one]⟩

/-- A node is real. -/
theorem z_real (hP : P.Reals) (r : Fin 2048) (b : Fin 144) : IsR (z P r b) := by
  unfold z
  split
  · exact hs_real P hP r _ _
  · exact hP.xd _ _

/-- A linear form of real numbers. -/
theorem lin_real {n : ℕ} (x w : Fin n → EReal) (xr wr : Fin n → ℝ) (hx : ∀ i, x i = xr i) (hw : ∀ i, w i = wr i) :
    ∑ i, x i * w i = ((∑ i, xr i * wr i : ℝ) : EReal) := by
  rw [coe_sum]
  exact Finset.sum_congr rfl fun i _ => by rw [hx, hw, EReal.coe_mul]

/-- A sum over all columns, head by head. -/
theorem sum_heads (f : Fin 144 → ℝ) : ∑ a, f a = ∑ h, ∑ d, f (col h d) := by
  rw [← Fintype.sum_prod_type']
  refine (Fintype.sum_equiv (finProdFinEquiv : Fin 4 × Fin 36 ≃ Fin 144) (fun p => f (col p.1 p.2)) f fun p => congrArg f (Fin.ext ?_)).symm
  show p.1.val * 36 + p.2.val = p.2.val + 36 * p.1.val
  omega

/-- The two arrangements of the scores agree, and a score is real. -/
theorem scores (hP : P.Reals) : ∃ s : Fin 2048 → Fin 2048 → ℝ, ks P = (fun i j => (s i j : EReal)) ∧ rs P = fun i j => (s i j : EReal) := by
  choose zr hz using z_real P hP
  choose wqr hwq using hP.wq
  choose bqr hbq using hP.bq
  choose wkr hwk using hP.wk
  choose bkr hbk using hP.bk
  choose wor hwo using hP.wo
  obtain ⟨wobr, hwob⟩ := hP.wob
  have hk : ∀ i a, kk P i a = ((∑ b, zr i b * wkr a b + bkr a : ℝ) : EReal) := fun i a => by
    unfold kk
    rw [lin_real _ _ _ _ (hz i) (hwk a), hbk, EReal.coe_add]
  have hq : ∀ i a, rq P i a = ((∑ b, zr i b * wqr a b + bqr a : ℝ) : EReal) := fun i a => by
    unfold rq
    rw [lin_real _ _ _ _ (hz i) (hwq a), hbq, EReal.coe_add]
  have hsc : ∀ a, scale P a = ((wor ⟨a.val / 36, by omega⟩ * (1 / 6) : ℝ) : EReal) := fun a => by
    unfold scale
    rw [sqrt_width, Ideal.div_coe (by norm_num), hwo, EReal.coe_mul]
  have hkq : ∀ i a, kq P i a = (((∑ b, zr i b * wqr a b + bqr a) * (wor ⟨a.val / 36, by omega⟩ * (1 / 6)) : ℝ) : EReal) := fun i a => by
    unfold kq
    rw [hsc, lin_real _ _ (zr i) (fun b => wqr a b * (wor ⟨a.val / 36, by omega⟩ * (1 / 6))) (hz i) (fun b => by rw [hwq, ← EReal.coe_mul]), hbq,
      ← EReal.coe_mul, ← EReal.coe_add, add_mul, Finset.sum_mul]
    exact congrArg _ (congrArg (· + _) (Finset.sum_congr rfl fun b _ => by ring))
  generalize hK : (fun i a => ∑ b, zr i b * wkr a b + bkr a) = K at *
  generalize hQ : (fun i a => ∑ b, zr i b * wqr a b + bqr a) = Q at *
  have hk' : ∀ i a, kk P i a = (K i a : EReal) := fun i a => by rw [hk, ← hK]
  have hq' : ∀ i a, rq P i a = (Q i a : EReal) := fun i a => by rw [hq, ← hQ]
  have hkq' : ∀ i a, kq P i a = ((Q i a * (wor ⟨a.val / 36, by omega⟩ * (1 / 6)) : ℝ) : EReal) := fun i a => by rw [hkq, ← hQ]
  refine ⟨fun i j => ∑ h, (∑ d, K j (col h d) * Q i (col h d)) * (1 / 6) * wor h + wobr, ?_, ?_⟩
  · funext i j
    unfold ks
    rw [lin_real _ _ _ _ (hkq' i) (hk' j), hwob, ← EReal.coe_add, sum_heads]
    refine congrArg _ (congrArg (· + _) (Finset.sum_congr rfl fun h _ => ?_))
    rw [Finset.sum_mul, Finset.sum_mul]
    refine Finset.sum_congr rfl fun d _ => ?_
    have e : (⟨(col h d).val / 36, by have := (col h d).isLt; omega⟩ : Fin 4) = h := Fin.ext (by
      show (h.val * 36 + d.val) / 36 = h.val
      have := d.isLt
      omega)
    rw [e]
    ring
  · funext i j
    unfold rs
    rw [hwob, EReal.coe_add, coe_sum]
    refine congrArg (· + _) (Finset.sum_congr rfl fun h _ => ?_)
    rw [sqrt_width, Ideal.div_coe (by norm_num), lin_real _ _ _ _ (fun d => hk' j (col h d)) (fun d => hq' i (col h d)), hwo, ← EReal.coe_mul, ← EReal.coe_mul]

/-- A kept edge, read from the product and from the quotient. -/
theorem keep_iff (phi : EReal) (D e : ℝ) (hD : 0 < D) : phi * (D : EReal) ≤ (e : EReal) ↔ phi ≤ Ideal.div (e : EReal) (D : EReal) := by
  rw [Ideal.div_coe hD.ne', ← EReal.coe_mul, mul_one_div]
  induction phi with
  | coe p => rw [← EReal.coe_mul, EReal.coe_le_coe_iff, EReal.coe_le_coe_iff, le_div_iff₀ hD]
  | bot => rw [EReal.bot_mul_coe_of_pos hD]; exact ⟨fun _ => bot_le, fun _ => bot_le⟩
  | top => rw [EReal.top_mul_coe_of_pos hD, top_le_iff, top_le_iff]; exact ⟨fun h => absurd h (EReal.coe_ne_top _), fun h => absurd h (EReal.coe_ne_top _)⟩

/-- The largest of a row of real numbers is real. -/
theorem rmax_real (s : Fin 2048 → Fin 2048 → ℝ) (i : Fin 2048) : IsR (rmax (fun i j => (s i j : EReal)) i) := by
  unfold rmax
  rw [start_eq]
  have h1 : Finset.fold max ⊥ (fun j => (s i j : EReal)) Finset.univ < ⊤ := Finset.fold_max_lt ⊤ |>.mpr ⟨bot_lt_top, fun j _ => EReal.coe_lt_top _⟩
  have h2 : ⊥ < Finset.fold max ⊥ (fun j => (s i j : EReal)) Finset.univ := (Finset.lt_fold_max ⊥).mpr (Or.inr ⟨0, Finset.mem_univ _, EReal.bot_lt_coe _⟩)
  exact ⟨_, (EReal.coe_toReal h1.ne h2.ne').symm⟩

/-- The kept edges and the adjacency: the same zeros and ones, with the loops beside them. -/
theorem edges (s : Fin 2048 → Fin 2048 → ℝ) (phi : EReal) : ∃ k : Fin 2048 → Fin 2048 → ℝ, (∀ i j, 0 ≤ k i j)
    ∧ (∀ i j, mask (fun i j => (s i j : EReal)) phi i j = (k i j : EReal))
    ∧ ∀ i j, radj (fun i j => (s i j : EReal)) phi i j = ((k i j + if i = j then 1 else 0 : ℝ) : EReal) := by
  generalize hS : (fun i j => (s i j : EReal)) = S
  have hmx : rmx S = rmax S := funext fun i => by unfold rmx; rw [start_eq]; exact max_eq_right bot_le
  have hex : rex S = ex S := by funext i j; unfold rex ex; rw [hmx]
  have hden : rden S = den S := by funext i; unfold rden den; rw [hex]
  choose M hM using rmax_real s
  rw [hS] at hM
  have he : ∀ i j, ex S i j = ((Real.exp (s i j - M i) : ℝ) : EReal) := fun i j => by
    unfold ex
    rw [hM, ← hS, ← EReal.coe_sub, Ideal.exp_coe]
  have hd : ∀ i, den S i = ((∑ j, Real.exp (s i j - M i) : ℝ) : EReal) := fun i => by
    unfold den
    rw [coe_sum]
    exact Finset.sum_congr rfl fun j _ => he i j
  have hp : ∀ i, 0 < ∑ j, Real.exp (s i j - M i) := fun i => Finset.sum_pos (fun j _ => Real.exp_pos _) ⟨0, Finset.mem_univ _⟩
  have hk : ∀ i j, (phi * den S i ≤ ex S i j) ↔ phi ≤ Ideal.div (ex S i j) (den S i) := fun i j => by
    rw [he, hd]
    exact keep_iff phi _ _ (hp i)
  classical
  refine ⟨fun i j => if phi * den S i ≤ ex S i j then 1 else 0, fun i j => by dsimp only; split <;> norm_num, fun i j => ?_, fun i j => ?_⟩
  · unfold mask
    show (((BitVec.setWidth 32 (BitVec.ofBool (decide (phi * den S i ≤ ex S i j)))).toInt : ℝ) : EReal) = _
    beta_reduce
    by_cases h : phi * den S i ≤ ex S i j
    · have e : (BitVec.setWidth 32 (BitVec.ofBool true)).toInt = 1 := by decide
      rw [decide_eq_true h, if_pos h, e, Int.cast_one]
    · have e : (BitVec.setWidth 32 (BitVec.ofBool false)).toInt = 0 := by decide
      rw [decide_eq_false h, if_neg h, e, Int.cast_zero]
  · unfold radj
    rw [hex, hden]
    beta_reduce
    by_cases h : phi * den S i ≤ ex S i j
    · rw [if_pos h, if_pos ((hk i j).mp h), EReal.coe_add]; split <;> simp
    · rw [if_neg h, if_neg (fun h' => h ((hk i j).mpr h')), EReal.coe_add]; split <;> simp

/-- The degree's reciprocal root, both ways. -/
theorem degree (s : Fin 2048 → Fin 2048 → ℝ) (phi : EReal) : ∃ v : Fin 2048 → ℝ, (∀ i, dinv (fun i j => (s i j : EReal)) phi i = (v i : EReal))
    ∧ ∀ i, rdv (fun i j => (s i j : EReal)) phi i = (v i : EReal) := by
  obtain ⟨k, hk0, hm, hr⟩ := edges s phi
  have h0 : ∀ i, 0 ≤ ∑ j, k i j := fun i => Finset.sum_nonneg fun j _ => hk0 i j
  have h1 : ∀ i, 1 ≤ ∑ j, k i j + 1 := fun i => by have := h0 i; linarith
  have hp : ∀ i, 0 < ∑ j, k i j + 1 := fun i => by have := h1 i; linarith
  refine ⟨fun i => (Real.sqrt (∑ j, k i j + 1))⁻¹, fun i => ?_, fun i => ?_⟩
  · unfold dinv
    have e : ∑ j, mask (fun i j => (s i j : EReal)) phi i j + 1 = ((∑ j, k i j + 1 : ℝ) : EReal) := by
      rw [EReal.coe_add, coe_sum, EReal.coe_one, Finset.sum_congr rfl fun j _ => hm i j]
    rw [e, Ideal.rsqrt_coe, if_neg (hp i).le.not_gt, if_neg (hp i).ne']
  · unfold rdv
    have e : ∑ j, radj (fun i j => (s i j : EReal)) phi i j = ((∑ j, k i j + 1 : ℝ) : EReal) := by
      have e' : (∑ j, k i j + 1 : ℝ) = ∑ j, (k i j + if i = j then 1 else 0) := by
        rw [Finset.sum_add_distrib, Finset.sum_ite_eq, if_pos (Finset.mem_univ _)]
      rw [e', coe_sum]
      exact Finset.sum_congr rfl fun j _ => hr i j
    have em : max (1 : EReal) ((∑ j, k i j + 1 : ℝ) : EReal) = ((∑ j, k i j + 1 : ℝ) : EReal) :=
      max_eq_right (by rw [← EReal.coe_one, EReal.coe_le_coe_iff]; exact h1 i)
    rw [e, em, Ideal.sqrt_coe, if_neg (hp i).le.not_gt, Ideal.div_coe (Real.sqrt_pos.mpr (hp i)).ne', one_mul, one_div]

/-- The aggregation over real numbers, both ways. -/
theorem agg_real (v : Fin 2048 → ℝ) (k : Fin 2048 → ℝ) (zr : Fin 2048 → Fin 144 → ℝ) (wg : Fin 128 → Fin 144 → ℝ) (wp : Fin 128 → ℝ) (i : Fin 2048) :
    ∑ h, (∑ j, v i * (k j + if i = j then 1 else 0) * v j * ∑ b, zr j b * wg h b) * wp h
      = v i * ∑ j, k j * ((∑ b, zr j b * ∑ h, wp h * wg h b) * v j) + v i * v i * ∑ b, zr i b * ∑ h, wp h * wg h b := by
  have hy : ∀ j, ∑ b, zr j b * ∑ h, wp h * wg h b = ∑ h, (∑ b, zr j b * wg h b) * wp h := fun j => by
    simp only [Finset.mul_sum, Finset.sum_mul]
    rw [Finset.sum_comm]
    exact Finset.sum_congr rfl fun h _ => Finset.sum_congr rfl fun b _ => by ring
  have hl : ∑ h, (∑ j, v i * (k j + if i = j then 1 else 0) * v j * ∑ b, zr j b * wg h b) * wp h
      = ∑ j, v i * (k j + if i = j then 1 else 0) * v j * ∑ h, (∑ b, zr j b * wg h b) * wp h := by
    have h1 : ∀ h, (∑ j, v i * (k j + if i = j then 1 else 0) * v j * ∑ b, zr j b * wg h b) * wp h
        = ∑ j, v i * (k j + if i = j then 1 else 0) * v j * ((∑ b, zr j b * wg h b) * wp h) := fun h => by
      rw [Finset.sum_mul]
      exact Finset.sum_congr rfl fun j _ => mul_assoc _ _ _
    rw [Finset.sum_congr rfl fun h _ => h1 h, Finset.sum_comm]
    exact Finset.sum_congr rfl fun j _ => (Finset.mul_sum _ _ _).symm
  have hj : ∀ j, v i * (k j + if i = j then 1 else 0) * v j * (∑ b, zr j b * ∑ h, wp h * wg h b)
      = v i * (k j * ((∑ b, zr j b * ∑ h, wp h * wg h b) * v j)) + if i = j then v i * v j * (∑ b, zr j b * ∑ h, wp h * wg h b) else 0 := fun j => by
    generalize (∑ b, zr j b * ∑ h, wp h * wg h b) = y
    split <;> ring
  rw [hl, Finset.sum_congr rfl fun j _ => (congrArg _ (hy j).symm).trans (hj j), Finset.sum_add_distrib, ← Finset.mul_sum, Finset.sum_ite_eq, if_pos (Finset.mem_univ _)]

/-- The two results agree. -/
theorem kout_eq_rout (hP : P.Reals) (i : Fin 2048) (c : Fin 2) : kout P i c = rout P i c := by
  obtain ⟨s, hks, hrs⟩ := scores P hP
  obtain ⟨k, hk0, hm, hr⟩ := edges s P.phi
  obtain ⟨v, hv, hv'⟩ := degree s P.phi
  choose zr hz using z_real P hP
  choose wgr hwg using hP.wg
  choose wpr hwp using hP.wp
  have hy : ∀ j, ky P j c = ((∑ b, zr j b * ∑ h, wpr c h * wgr h b : ℝ) : EReal) := fun j => by
    unfold ky
    exact lin_real _ _ _ _ (hz j) (fun b => lin_real _ _ _ _ (hwp c) (fun h => hwg h b))
  have hg : ∀ h, ∑ j, rdv (rs P) P.phi i * radj (rs P) P.phi i j * rdv (rs P) P.phi j * (∑ b, z P j b * P.wg h b)
      = ((∑ j, v i * (k i j + if i = j then 1 else 0) * v j * ∑ b, zr j b * wgr h b : ℝ) : EReal) := fun h => by
    rw [hrs, coe_sum]
    refine Finset.sum_congr rfl fun j _ => ?_
    rw [hv', hv', hr, lin_real _ _ _ _ (hz j) (hwg h), ← EReal.coe_mul, ← EReal.coe_mul, ← EReal.coe_mul]
  have hR : rout P i c = ((∑ h, (∑ j, v i * (k i j + if i = j then 1 else 0) * v j * ∑ b, zr j b * wgr h b) * wpr c h : ℝ) : EReal) + kb P c := by
    unfold rout kb
    rw [← add_assoc, coe_sum, ← Finset.sum_add_distrib]
    refine congrArg (· + P.bp c) (Finset.sum_congr rfl fun h _ => ?_)
    rw [hg, hwp, add_mul_real, EReal.mul_comm (P.bg h)]
  have hK : kout P i c = ((v i * ∑ j, k i j * ((∑ b, zr j b * ∑ h, wpr c h * wgr h b) * v j) + v i * v i * ∑ b, zr i b * ∑ h, wpr c h * wgr h b : ℝ) : EReal) + kb P c := by
    unfold kout
    rw [hks, hv]
    have e : ∑ j, mask (fun i j => (s i j : EReal)) P.phi i j * (ky P j c * dinv (fun i j => (s i j : EReal)) P.phi j)
        = ((∑ j, k i j * ((∑ b, zr j b * ∑ h, wpr c h * wgr h b) * v j) : ℝ) : EReal) := by
      rw [coe_sum]
      refine Finset.sum_congr rfl fun j _ => ?_
      rw [hm, hy, hv, ← EReal.coe_mul, ← EReal.coe_mul]
    rw [e, hy, ← EReal.coe_mul, ← EReal.coe_mul, ← EReal.coe_mul, ← EReal.coe_add]
  rw [hK, hR, agg_real]

end Cert.Spec

end
-- ==== Proof.Finite.lean ====
/- What the precondition says of the arguments: the arrays it names hold real numbers. -/
module

public import proofs.«01_k».proof.Pre_finite_weights
public import proofs.«01_k».proof.Proof.Math
public import Idealize.ShloMosaic.Lib.ReduceAll

@[expose] public section

set_option maxRecDepth 16384

noncomputable section

namespace Cert.Finite

open Idealize.ShloMosaic Cert.Spec

/-- The precondition's shape relations. -/
theorem facts : Cert.Pre_finite_weights.Facts := by constructor <;> decide

/-- A number whose absolute value is below the greatest extended real is real. -/
theorem real_of_abs (x : EReal) (h : max x (-x) < ⊤) : IsR x := by
  induction x with
  | coe r => exact ⟨r, rfl⟩
  | bot => exact absurd h (by simp)
  | top => exact absurd h (by simp)

/-- An array all of whose absolute values are below the greatest extended real holds real numbers. -/
theorem real_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) h hu ix0 = 1#1) (i : s.Idx) : IsR (x i) := by
  have : Subsingleton (⟨0, ![]⟩ : Shape).Idx := ⟨fun a b => funext fun k => k.elim0⟩
  have k := Host.reduce_andi_all _ _ h hu ix0 e i
  have t : Ideal.ofBits .f32 0x7F800000#32 = ⊤ := by simp [Ideal.ofBits, Ideal.ieee]
  have k' : BitVec.ofBool (decide (max (x i) (-(x i)) < Ideal.ofBits .f32 0x7F800000#32)) = 1#1 := k
  rw [t] at k'
  refine real_of_abs _ ?_
  by_contra hn
  rw [decide_eq_false hn] at k'
  exact absurd k' (by decide)

open Cert.Pre_finite_weights in
/-- The precondition makes the named arguments real. -/
theorem reals [Cert.Pre_finite_weights.Facts] (a0 : FVec Ideal S2048x20x128 .f32) (a1 : FVec Ideal S2048x16 .f32) (a2 : IVec S2048 32) (a3 a4 : FVec Ideal S384x128 .f32)
    (a5 a6 : FVec Ideal S384 .f32) (a7 : FVec Ideal S128 .f32) (a8 : FVec Ideal S144x144 .f32) (a9 : FVec Ideal S144 .f32) (a10 : FVec Ideal S144x144 .f32) (a11 : FVec Ideal S144 .f32)
    (a12 : FVec Ideal S1x4 .f32) (a13 : FVec Ideal S1 .f32) (a14 : FVec Ideal S_ .f32) (a15 : FVec Ideal S128x144 .f32) (a16 : FVec Ideal S128 .f32) (a17 : FVec Ideal S2x128 .f32)
    (a18 : FVec Ideal S2 .f32)
    (h : fn (F := Ideal) a0 a1 a2 a3 a4 a5 a6 a7 a8 a9 a10 a11 a12 a13 a14 a15 a16 a17 a18 = fun _ => 1#1) :
    (Params.of a0 a1 a2 a3 a4 a5 a6 a7 a8 a9 a10 a11 a12 a13 a14 a15 a16 a17 a18).Reals := by
  have h0 := congrFun h ix0
  unfold fn fn_part1 fn_part2 at h0
  obtain ⟨h0, h17⟩ := IntOp.andi_eq_one.1 h0
  obtain ⟨h0, h15⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h1, h7⟩ := IntOp.andi_eq_one.1 h0
  exact ⟨fun r k => real_of_all _ _ _ _ h1 (ix2 r k), fun k => real_of_all _ _ _ _ h7 (ix1 k), fun a b => real_of_all _ _ _ _ h8 (ix2 a b),
    fun a => real_of_all _ _ _ _ h9 (ix1 a), fun a b => real_of_all _ _ _ _ h10 (ix2 a b), fun a => real_of_all _ _ _ _ h11 (ix1 a),
    fun k => real_of_all _ _ _ _ h12 (ix2 0 k), real_of_all _ _ _ _ h13 (ix1 0), fun k b => real_of_all _ _ _ _ h15 (ix2 k b), fun d k => real_of_all _ _ _ _ h17 (ix2 d k)⟩

end Cert.Finite

end
-- ==== Proof.RefLoop.lean ====
/- The reference's recurrence, entry by entry: the state after each trip, and the stack of states the loop writes. -/
module

public import proofs.«01_k».proof.Proof.RefRun
public import proofs.«01_k».proof.Proof.RefTrip
public import proofs.«01_k».proof.Proof.Spec
public import Idealize.ShloMosaic.Lib.Pointwise

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo

/-- Indices of rank three that agree on every axis. -/
theorem idx3_ext {d : Fin 3 → ℕ} {y z : (⟨3, d⟩ : Shape).Idx} (h0 : (y 0 : ℕ) = z 0) (h1 : (y 1 : ℕ) = z 1) (h2 : (y 2 : ℕ) = z 2) : y = z :=
  funext fun a => Fin.ext (match a with | ⟨0, _⟩ => h0 | ⟨1, _⟩ => h1 | ⟨2, _⟩ => h2)

/-- A slab of a stack, read where its number says. -/
theorem slab_apply {α : Type} (x : S20x2048x128.Idx → α) (i : Fin 3 → Int) (n : Fin 20) (h0 : i 0 = (n.val : Int)) (h1 : i 1 = 0) (h2 : i 2 = 0) (r : Fin 2048) (k : Fin 128) :
    Host.dynamicSlice S1x2048x128 x i sliceFits_S20x2048x128_S1x2048x128 (ix3 0 r k) = x (ix3 n r k) := by
  have hn := n.isLt
  refine congrArg x (idx3_ext ?_ ?_ ?_)
  · show (min (max (i 0) 0) (19 : Int)).toNat + 0 = n.val
    rw [h0]; omega
  · show (min (max (i 1) 0) (0 : Int)).toNat + r.val = r.val
    rw [h1]; omega
  · show (min (max (i 2) 0) (0 : Int)).toNat + k.val = k.val
    rw [h2]; omega
/-- A slab written into a stack changes that slab only. -/
theorem slabSet_apply {α : Type} (x : S20x2048x128.Idx → α) (y : S1x2048x128.Idx → α) (i : Fin 3 → Int) (n : Fin 20) (h0 : i 0 = (n.val : Int)) (h1 : i 1 = 0) (h2 : i 2 = 0)
    (q : Fin 20) (r : Fin 2048) (k : Fin 128) :
    Host.dynamicUpdateSlice x y i updateFits_S20x2048x128_S1x2048x128 (ix3 q r k) = if q = n then y (ix3 0 r k) else x (ix3 q r k) := by
  have hn := n.isLt
  have e0 : Host.clampedStart S20x2048x128 S1x2048x128 updateFits_S20x2048x128_S1x2048x128.1 i 0 = n.val := by
    show (min (max (i 0) 0) (19 : Int)).toNat = n.val
    rw [h0]; omega
  have e1 : Host.clampedStart S20x2048x128 S1x2048x128 updateFits_S20x2048x128_S1x2048x128.1 i 1 = 0 := by
    show (min (max (i 1) 0) (0 : Int)).toNat = 0
    rw [h1]; rfl
  have e2 : Host.clampedStart S20x2048x128 S1x2048x128 updateFits_S20x2048x128_S1x2048x128.1 i 2 = 0 := by
    show (min (max (i 2) 0) (0 : Int)).toNat = 0
    rw [h2]; rfl
  pointwise
  by_cases hq : q = n
  · subst hq
    rw [if_pos rfl, dif_pos (by rw [e0, e1, e2]; have := r.isLt; have := k.isLt; omega)]
    exact congrArg y (idx3_ext (by show q.val - _ = 0; rw [e0]; omega) (by show r.val - _ = r.val; rw [e1]; rfl) (by show k.val - _ = k.val; rw [e2]; rfl))
  · rw [if_neg hq, dif_neg (by rw [e0, e1, e2]; intro h; exact hq (Fin.ext (by omega)))]

/-- A step's number as a word. -/
theorem word_toInt : ∀ n : Fin 20, (BitVec.ofNat 32 n.val).toInt = (n.val : Int) := by decide

/-- One trip's state, entry by entry. -/
theorem trip_state (Q : Spec.Params) (V : Valuation τ sig (Elt Ideal)) (n : Fin 20) (r : Fin 2048) (j : Fin 128)
    (hc : V (Proc.devRef .tc main_v4_5) = fun _ => BitVec.ofNat 32 n.val)
    (hx : ∀ k, V (Proc.devRef .tc main_v4_0) (ix3 n r k) = Q.x r n k)
    (h1 : ∀ a k, V (Proc.devRef .tc main_v4_1) (ix2 a k) = Q.wih a k) (h2 : ∀ a, V (Proc.devRef .tc main_v4_2) (ix1 a) = Q.bih a)
    (h3 : ∀ a k, V (Proc.devRef .tc main_v4_3) (ix2 a k) = Q.whh a k) (h4 : ∀ a, V (Proc.devRef .tc main_v4_4) (ix1 a) = Q.bhh a)
    (hr : Fin 128 → EReal) (hh : ∀ k, V (Proc.devRef .tc main_v4_6) (ix2 r k) = hr k) :
    res_main_while0b_v128 V (ix2 r j) = Spec.step Q (Q.x r n) hr j := by
  have hI : ∀ a, res_main_while0b_v95 V (ix2 r a) = Spec.gi Q (Q.x r n) a := fun a => by
    unfold res_main_while0b_v95
    have hs : ∀ k, Host.dynamicSlice S1x2048x128 (V (Proc.devRef .tc main_v4_0)) (fun k => (((![V (Proc.devRef .tc main_v4_5), constantI S_ 32 0#32, constantI S_ 32 0#32] : Fin 3 → (⟨S_, .i32⟩ : BufTy).Contents (Elt Ideal))) k (Shape.Idx.first h_S_)).toInt) sliceFits_S20x2048x128_S1x2048x128 (ix3 0 r k) = Q.x r n k := fun k => by
      refine (slab_apply _ _ n ?_ rfl rfl r k).trans (hx k)
      show (V (Proc.devRef .tc main_v4_5) _).toInt = _
      rw [hc]; exact word_toInt n
    generalize Host.dynamicSlice S1x2048x128 (V (Proc.devRef .tc main_v4_0)) (fun k => (((![V (Proc.devRef .tc main_v4_5), constantI S_ 32 0#32, constantI S_ 32 0#32] : Fin 3 → (⟨S_, .i32⟩ : BufTy).Contents (Elt Ideal))) k (Shape.Idx.first h_S_)).toInt) sliceFits_S20x2048x128_S1x2048x128 = X at hs
    generalize V (Proc.devRef .tc main_v4_1) = A at h1 ⊢
    generalize V (Proc.devRef .tc main_v4_2) = B at h2 ⊢
    pointwise
    simp only [hs, h1, h2]
    rfl
  have hH : ∀ a, res_main_while0b_v100 V (ix2 r a) = Spec.gh Q hr a := fun a => by
    unfold res_main_while0b_v100
    generalize V (Proc.devRef .tc main_v4_6) = H at hh ⊢
    generalize V (Proc.devRef .tc main_v4_3) = A at h3 ⊢
    generalize V (Proc.devRef .tc main_v4_4) = B at h4 ⊢
    pointwise
    simp only [hh, h3, h4]
    rfl
  have hhj := hh j
  unfold res_main_while0b_v128 res_main_while0b_v120
  generalize res_main_while0b_v95 V = I at hI ⊢
  generalize res_main_while0b_v100 V = G at hH ⊢
  generalize V (Proc.devRef .tc main_v4_6) = H at hhj ⊢
  pointwise
  simp only [hI, hH, hhj]
  rfl

variable (m : (ℓ : Loc nD τ sig) → Buf (Elt Ideal) ℓ) (c : Dev nD)

/-- The arguments in memory. -/
def P : Spec.Params :=
  Spec.Params.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))

/-- The contents as the loop is entered. -/
abbrev EN : Valuation τ sig (Elt Ideal) := after ent (E0 m c)

/-- The preparation changes no argument. -/
theorem EN_args : ∀ a ∈ argRefs, EN m c (Proc.devRef .tc a) = m ((c : Thread nD τ).loc a) := fun a ha =>
  ent_keep a ((ListAll.forall_mem_of_all_decide (by decide +kernel) : ∀ a ∈ argRefs, a ∉ entW) a ha) (E0 m c)

/-- What the loop is given: the weights and biases, -/
theorem EN_v4_1 : EN m c (Proc.devRef .tc main_v4_1) = m ((c : Thread nD τ).loc main_arg3) := (ent_v4_1 (E0 m c)).trans (EN_args m c main_arg3 (by decide))
/-- the input bias, -/
theorem EN_v4_2 : EN m c (Proc.devRef .tc main_v4_2) = m ((c : Thread nD τ).loc main_arg5) := (ent_v4_2 (E0 m c)).trans (EN_args m c main_arg5 (by decide))
/-- the state weights, -/
theorem EN_v4_3 : EN m c (Proc.devRef .tc main_v4_3) = m ((c : Thread nD τ).loc main_arg4) := (ent_v4_3 (E0 m c)).trans (EN_args m c main_arg4 (by decide))
/-- the state bias, -/
theorem EN_v4_4 : EN m c (Proc.devRef .tc main_v4_4) = m ((c : Thread nD τ).loc main_arg6) := (ent_v4_4 (E0 m c)).trans (EN_args m c main_arg6 (by decide))
/-- the time series, step first, -/
theorem EN_v4_0 (n : Fin 20) (r : Fin 2048) (k : Fin 128) : EN m c (Proc.devRef .tc main_v4_0) (ix3 n r k) = (P m c).x r n k := by
  have e : EN m c (Proc.devRef .tc main_v4_0) = transpose S20x2048x128 [1, 0, 2] (m ((c : Thread nD τ).loc main_arg0)) transposes_S2048x20x128_S20x2048x128_1_0_2 :=
    (ent_v4_0 (E0 m c)).trans ((ent_v2 (E0 m c)).trans (congrArg (transpose S20x2048x128 [1, 0, 2] · transposes_S2048x20x128_S20x2048x128_1_0_2) (EN_args m c main_arg0 (by decide))))
  rw [e]; pointwise; rfl
/-- and the first state. -/
theorem EN_v4_6 (r : Fin 2048) (k : Fin 128) : EN m c (Proc.devRef .tc main_v4_6) (ix2 r k) = (P m c).h0 k := by
  have e : EN m c (Proc.devRef .tc main_v4_6) = broadcastInDim S2048x128 ![0, 1] bcast_S1x128_S2048x128_0_1 (broadcastInDim S1x128 ![1] bcast_S128_S1x128_1 (m ((c : Thread nD τ).loc main_arg7))) :=
    (ent_v4_6 (E0 m c)).trans ((ent_v1 (E0 m c)).trans (congrArg (broadcastInDim S2048x128 ![0, 1] bcast_S1x128_S2048x128_0_1)
      ((ent_v0 (E0 m c)).trans (congrArg (broadcastInDim S1x128 ![1] bcast_S128_S1x128_1) (EN_args m c main_arg7 (by decide))))))
  rw [e]; pointwise; rfl

/-- What every trip only reads. -/
theorem atK_fixed (r : Ref sig .tc) (h : r ∈ [main_v4_0, main_v4_1, main_v4_2, main_v4_3, main_v4_4]) : ∀ k, atK m k c (Proc.devRef .tc r) = EN m c (Proc.devRef .tc r)
  | 0 => rfl
  | k + 1 => by
    have hb : afterL bodyI (after condOps (atK m k c)) (Proc.devRef .tc r) = after condOps (atK m k c) (Proc.devRef .tc r) := by
      simp only [List.mem_cons, List.not_mem_nil, or_false] at h
      rcases h with rfl | rfl | rfl | rfl | rfl
      · exact trip_main_v4_0 _
      · exact trip_main_v4_1 _
      · exact trip_main_v4_2 _
      · exact trip_main_v4_3 _
      · exact trip_main_v4_4 _
    have hc : r ∉ condOps_W := (ListAll.forall_mem_of_all_decide (by decide +kernel) :
      ∀ r ∈ [main_v4_0, main_v4_1, main_v4_2, main_v4_3, main_v4_4], r ∉ condOps_W) r h
    exact hb.trans ((cond_keep r hc _).trans (atK_fixed r h k))

/-- The state after `k` trips, and the slabs written so far. -/
theorem atK_state (k : ℕ) (hk : k ≤ 20) :
    (∀ r j, atK m k c (Proc.devRef .tc main_v4_6) (ix2 r j) = Spec.hs (P m c) r k j)
      ∧ ∀ q : Fin 20, q.val < k → ∀ r j, atK m k c (Proc.devRef .tc main_v4_7) (ix3 q r j) = Spec.hs (P m c) r (q.val + 1) j := by
  induction k with
  | zero =>
    refine ⟨fun r j => ?_, fun q hq => absurd hq (Nat.not_lt_zero _)⟩
    exact EN_v4_6 m c r j
  | succ k ih =>
    obtain ⟨ih1, ih2⟩ := ih (Nat.le_of_succ_le hk)
    have hx : ∀ b : Ref sig .tc, b ∉ condOps_W → after condOps (atK m k c) (Proc.devRef .tc b) = atK m k c (Proc.devRef .tc b) := fun b hb => cond_keep b hb _
    have e5 : after condOps (atK m k c) (Proc.devRef .tc main_v4_5) = fun _ => BitVec.ofNat 32 k := by
      rw [hx main_v4_5 (by decide), atK_ctr]
      funext _
      unfold Scf.iv
      rw [BitVec.mul_one, BitVec.zero_add]
    have e0 : ∀ r k', after condOps (atK m k c) (Proc.devRef .tc main_v4_0) (ix3 ⟨k, hk⟩ r k') = (P m c).x r ⟨k, hk⟩ k' := fun r k' => by
      rw [hx main_v4_0 (by decide), atK_fixed m c main_v4_0 (by decide), EN_v4_0]
    have e1 : ∀ a k', after condOps (atK m k c) (Proc.devRef .tc main_v4_1) (ix2 a k') = (P m c).wih a k' := fun a k' => by
      rw [hx main_v4_1 (by decide), atK_fixed m c main_v4_1 (by decide), EN_v4_1]; rfl
    have e2 : ∀ a, after condOps (atK m k c) (Proc.devRef .tc main_v4_2) (ix1 a) = (P m c).bih a := fun a => by
      rw [hx main_v4_2 (by decide), atK_fixed m c main_v4_2 (by decide), EN_v4_2]; rfl
    have e3 : ∀ a k', after condOps (atK m k c) (Proc.devRef .tc main_v4_3) (ix2 a k') = (P m c).whh a k' := fun a k' => by
      rw [hx main_v4_3 (by decide), atK_fixed m c main_v4_3 (by decide), EN_v4_3]; rfl
    have e4 : ∀ a, after condOps (atK m k c) (Proc.devRef .tc main_v4_4) (ix1 a) = (P m c).bhh a := fun a => by
      rw [hx main_v4_4 (by decide), atK_fixed m c main_v4_4 (by decide), EN_v4_4]; rfl
    have hst : ∀ r j, res_main_while0b_v128 (after condOps (atK m k c)) (ix2 r j) = Spec.hs (P m c) r (k + 1) j := fun r j => by
      refine (trip_state (P m c) _ ⟨k, hk⟩ r j e5 (e0 r) e1 e2 e3 e4 (Spec.hs (P m c) r k) (fun k' => (congrFun (hx main_v4_6 (by decide)) _).trans (ih1 r k'))).trans ?_
      show _ = Spec.step (P m c) ((P m c).x r ⟨k % 20, _⟩) _ j
      rw [show (⟨k % 20, Nat.mod_lt _ (by decide)⟩ : Fin 20) = ⟨k, hk⟩ from Fin.ext (Nat.mod_eq_of_lt hk)]
    refine ⟨fun r j => (congrFun (trip_main_v4_6 (after condOps (atK m k c))) (ix2 r j)).trans (hst r j), fun q hq r j => ?_⟩
    refine (congrFun (trip_main_v4_7 (after condOps (atK m k c))) (ix3 q r j)).trans ?_
    refine (slabSet_apply _ _ _ ⟨k, hk⟩ ?_ rfl rfl q r j).trans ?_
    · show (after condOps (atK m k c) (Proc.devRef .tc main_v4_5) _).toInt = _
      rw [e5]; exact word_toInt ⟨k, hk⟩
    · by_cases hqk : q = ⟨k, hk⟩
      · rw [if_pos hqk, hqk]
        pointwise
        exact hst r j
      · rw [if_neg hqk, hx main_v4_7 (by decide)]
        exact ih2 q (by have : q.val ≠ k := fun e => hqk (Fin.ext e)
                        omega) r j

end Cert.ReferenceIdeal.Host

end
-- ==== Proof.RefValue.lean ====
/- What the reference leaves in its result, entry by entry. -/
module

public import proofs.«01_k».proof.Proof.RefLoop
public import proofs.«01_k».proof.Proof.RefPost
public import proofs.«01_k».proof.Proof.SpecRef
public import Idealize.ShloMosaic.Lib.Routing.OpsPair

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo

/-! Readings of the last stretch's operations over any arrays. -/

/-- A word between nought and nineteen. -/
theorem clip_lt (w : BitVec 32) : (IntOp.minsi 19#32 (IntOp.maxsi 0#32 w)).toNat < 20 := by
  unfold IntOp.minsi IntOp.maxsi
  simp only [BitVec.slt_eq_decide, decide_eq_true_eq]
  have e0 : (0#32).toInt = 0 := rfl
  have e1 : (19#32).toInt = 19 := rfl
  have hw := BitVec.toInt_eq_toNat_cond w
  have hl := w.isLt
  by_cases h : w.toInt < (0#32).toInt
  · rw [if_pos h]; split <;> simp
  · rw [if_neg h]
    split
    · simp
    · rename_i h2
      rw [e1] at h2; rw [e0] at h
      split at hw <;> omega

/-- The gathered row of a sequence: the state at the step and the sequence that the index pair names. -/
theorem gather_apply (X : Vec Ideal S20x2048x128 .f32) (I : Vec Ideal S2048x2 .i32) (r : Fin 2048) (k : Fin 128) (p : Fin 20)
    (h0 : (I (ix2 r 0)).toInt = p.val) (h1 : (I (ix2 r 1)).toInt = r.val) :
    Host.gather gather_S20x2048x128_S2048x2_S2048x128_1_01_n_n_01_1_11128 X I (ix2 r k) = X (ix3 p r k) := by
  unfold Host.gather
  congr 1
  funext a
  refine Fin.ext ?_
  show GatherDims.start _ (ix2 r k) I a + GatherDims.batchCoord _ (ix2 r k) a + GatherDims.offCoord _ (ix2 r k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S20x2048x128_S2048x2_S2048x128_1_01_n_n_01_1_11128.siIdx (ix2 r k)
        ⟨List.idxOf (0 : Fin 3) [0, 1], by decide⟩ = ix2 r 0 := by
      funext b; refine Fin.ext ?_
      match b with
      | ⟨0, _⟩ => rfl
      | ⟨1, _⟩ => rfl
    refine (congrArg (fun y => min (I y).toInt.toNat 19) hsi).trans ?_
    have := p.isLt
    show min (I (ix2 r 0)).toInt.toNat 19 = p.val
    rw [h0]; omega
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S20x2048x128_S2048x2_S2048x128_1_01_n_n_01_1_11128.siIdx (ix2 r k)
        ⟨List.idxOf (1 : Fin 3) [0, 1], by decide⟩ = ix2 r 1 := by
      funext b; refine Fin.ext ?_
      match b with
      | ⟨0, _⟩ => rfl
      | ⟨1, _⟩ => rfl
    refine (congrArg (fun y => min (I y).toInt.toNat 2047) hsi).trans ?_
    have := r.isLt
    show min (I (ix2 r 1)).toInt.toNat 2047 = r.val
    rw [h1]; omega
  · rw [GatherDims.batchCoord_eq_zero _ _ _ List.not_mem_nil]
    unfold GatherDims.start
    rw [dif_neg (by decide)]
    simp only [Nat.add_zero, Nat.zero_add]
    rfl

/-- A linear layer over the nodes. -/
theorem lin_r (x : FVec Ideal S2048x144 .f32) (w : FVec Ideal S144x144 .f32) (b : FVec Ideal S144 .f32) (i : Fin 2048) (a : Fin 144)
    (xr wr : Fin 144 → EReal) (br : EReal) (hx : ∀ k, x (ix2 i k) = xr k) (hw : ∀ k, w (ix2 a k) = wr k) (hb : b (ix1 a) = br) :
    (addf (Host.dotGeneral (F := Ideal) (φ₁ := .f32) (φ₂ := .f32) dot_S2048x144_S144x144_S2048x144_1_0_0_1_n_n none x (transpose S144x144 [1, 0] w transposes_S144x144_S144x144_1_0))
      (broadcastInDim S2048x144 ![0, 1] bcast_S1x144_S2048x144_0_1 (broadcastInDim S1x144 ![1] bcast_S144_S1x144_1 b)) : FVec Ideal S2048x144 .f32) (ix2 i a)
      = ∑ k, xr k * wr k + br := by
  pointwise
  simp only [hx, hw, hb]

/-- The scores before the mixing's bias. -/
theorem mix_r (q k : FVec Ideal S2048x144 .f32) (w : FVec Ideal S1x4 .f32) (i j : Fin 2048)
    (qr kr : Fin 144 → EReal) (wr : Fin 4 → EReal) (hq : ∀ a, q (ix2 i a) = qr a) (hk : ∀ a, k (ix2 j a) = kr a) (hw : ∀ h, w (ix2 0 h) = wr h) :
    (Host.dotGeneral (F := Ideal) (φ₁ := .f32) (φ₂ := .f32) dot_S2048x2048x4_S4_S2048x2048_2_0_01_n_n_n none
      (Host.divf (transpose S2048x2048x4 [2, 1, 0]
          (Host.dotGeneral (F := Ideal) (φ₁ := .f32) (φ₂ := .f32) dot_S2048x4x36_S2048x4x36_S4x2048x2048_2_2_0_0_1_1 none (shapeCast S2048x4x36 k shapeCasts_S2048x144_S2048x4x36)
            (shapeCast S2048x4x36 q shapeCasts_S2048x144_S2048x4x36)) transposes_S4x2048x2048_S2048x2048x4_2_1_0)
        (broadcastInDim S2048x2048x4 ![] bcast_S_S2048x2048x4 (Host.sqrt (constant (F := Ideal) S_ .f32 0x42100000#32))))
      (shapeCast S4 w shapeCasts_S1x4_S4) : FVec Ideal S2048x2048 .f32) (ix2 i j)
      = ∑ h, Ideal.div (∑ d, kr (Spec.col h d) * qr (Spec.col h d)) (Ideal.sqrt Spec.width) * wr h := by
  pointwise
  simp only [hq, hk, hw]
  rfl

variable (m : (ℓ : Loc nD τ sig) → Buf (Elt Ideal) ℓ) (c : Dev nD)

/-- The clipped step of a sequence. -/
theorem z_v7 (r : Fin 2048) : after post (W m c) (Proc.devRef .tc main_v7) (ix1 r) = IntOp.minsi 19#32 (IntOp.maxsi 0#32 (IntOp.subi ((P m c).len r) 1#32)) := by
  rw [post_v7, post_call2_v4, post_call2_v3, post_c_2, post_call2_v2, post_call2_v1, post_call2_v0, post_c_1, post_v6, post_v5, post_c_0, final_args m c main_arg2 (by decide)]
  pointwise
  rfl

/-- The index pair's first word -/
theorem z_v21_0 (r : Fin 2048) : after post (W m c) (Proc.devRef .tc main_v21) (ix2 r 0) = IntOp.minsi 19#32 (IntOp.maxsi 0#32 (IntOp.subi ((P m c).len r) 1#32)) := by
  refine Eq.trans ?_ (z_v7 m c r)
  have h := (congrArg BitVec.toNat (z_v7 m c r)).trans_lt (clip_lt _)
  rw [post_v21, post_v20, post_v19, post_v13, post_v12, post_v11, post_v10, post_v9, post_c_3, post_c_4]
  pointwise
  exact Routing.wrap_of_lt _ _ (h.trans (by decide))
/-- and its second. -/
theorem z_v21_1 (r : Fin 2048) : after post (W m c) (Proc.devRef .tc main_v21) (ix2 r 1) = BitVec.ofNat 32 r.val := by
  rw [post_v21, post_v20, post_v18, post_v17, post_v16, post_v15, post_v14, post_v8, post_c_5, post_c_6]
  pointwise
  have := r.isLt
  exact Routing.wrap_of_lt _ _ (by rw [BitVec.toNat_ofNat]; omega)

/-- The states the loop leaves. -/
theorem z_states (q : Fin 20) (r : Fin 2048) (j : Fin 128) : after post (W m c) (Proc.devRef .tc main_v4_7) (ix3 q r j) = Spec.hs (P m c) r (q.val + 1) j :=
  (congrFun ((post_keep main_v4_7 (by decide) _).trans (cond_keep main_v4_7 (by decide) _)) _).trans ((atK_state m c 20 le_rfl).2 q q.isLt r j)

/-- The selected state. -/
theorem z_v22 (r : Fin 2048) (j : Fin 128) : after post (W m c) (Proc.devRef .tc main_v22) (ix2 r j) = Spec.hs (P m c) r (Spec.pos (P m c) r + 1) j := by
  have hl : Spec.pos (P m c) r < 20 := clip_lt _
  have h0 : (after post (W m c) (Proc.devRef .tc main_v21) (ix2 r 0)).toInt = ((⟨Spec.pos (P m c) r, hl⟩ : Fin 20).val : ℤ) := by
    rw [z_v21_0]
    exact BitVec.toInt_eq_toNat_of_lt (by show 2 * Spec.pos (P m c) r < _; omega)
  have h1 : (after post (W m c) (Proc.devRef .tc main_v21) (ix2 r 1)).toInt = (r.val : ℤ) := by
    rw [z_v21_1]
    have := r.isLt
    have e : (BitVec.ofNat 32 r.val).toNat = r.val := by rw [BitVec.toNat_ofNat]; omega
    exact (BitVec.toInt_eq_toNat_of_lt (by rw [e]; omega)).trans (congrArg _ e)
  exact (congrFun (post_v22 (W m c)) _).trans ((gather_apply _ _ r j _ h0 h1).trans (z_states m c _ r j))

/-- The nodes. -/
theorem z_v23 (r : Fin 2048) (b : Fin 144) : after post (W m c) (Proc.devRef .tc main_v23) (ix2 r b) = Spec.z (P m c) r b := by
  unfold Spec.z
  rw [post_v23]
  pointwise
  split
  · exact z_v22 m c r _
  · exact congrFun (final_args m c main_arg1 (by decide)) _

/-- The queries -/
theorem z_v28 (r : Fin 2048) (a : Fin 144) : after post (W m c) (Proc.devRef .tc main_v28) (ix2 r a) = Spec.rq (P m c) r a := by
  rw [post_v28, post_v27, post_v26, post_v25, post_v24]
  exact lin_r _ _ _ r a _ _ _ (z_v23 m c r) (fun k => congrFun (final_args m c main_arg8 (by decide)) (ix2 a k)) (congrFun (final_args m c main_arg9 (by decide)) (ix1 a))
/-- and the keys. -/
theorem z_v34 (r : Fin 2048) (a : Fin 144) : after post (W m c) (Proc.devRef .tc main_v34) (ix2 r a) = Spec.kk (P m c) r a := by
  rw [post_v34, post_v33, post_v32, post_v31, post_v30]
  exact lin_r _ _ _ r a _ _ _ (z_v23 m c r) (fun k => congrFun (final_args m c main_arg10 (by decide)) (ix2 a k)) (congrFun (final_args m c main_arg11 (by decide)) (ix1 a))

/-- The scores. -/
theorem z_v45 (i j : Fin 2048) : after post (W m c) (Proc.devRef .tc main_v45) (ix2 i j) = Spec.rs (P m c) i j := by
  have h42 : after post (W m c) (Proc.devRef .tc main_v42) (ix2 i j)
      = ∑ h, Ideal.div (∑ d, Spec.kk (P m c) j (Spec.col h d) * Spec.rq (P m c) i (Spec.col h d)) (Ideal.sqrt Spec.width) * (P m c).wo h := by
    rw [post_v42, post_v41, post_v40, post_v39, post_v38, post_v37, post_v36, post_v35, post_v29, post_cst_7]
    exact mix_r _ _ _ i j _ _ _ (z_v28 m c i) (z_v34 m c j) (fun h => congrFun (final_args m c main_arg12 (by decide)) (ix2 0 h))
  have h44 : after post (W m c) (Proc.devRef .tc main_v44) (ix2 i j) = (P m c).wob := by
    rw [post_v44, post_v43, final_args m c main_arg13 (by decide)]
    pointwise
    rfl
  exact (congrFun (post_v45 (W m c)) _).trans (congrArg₂ (fun a b : EReal => a + b) h42 h44)

/-- A row's largest entry, from an initial value. -/
theorem fold_r (s : FVec Ideal S2048x2048 .f32) (b : FVec Ideal S_ .f32) (i : Fin 2048) (sr : Fin 2048 → EReal) (br : EReal) (h : ∀ j, s (ix2 i j) = sr j)
    (hb : ∀ y, b y = br) :
    (Host.reduce (FloatOps.maximumf (F := Ideal) (φ := .f32)) s b reducesTo_S2048x2048_S2048_d1 h_S_ : FVec Ideal S2048 .f32) (ix1 i)
      = Finset.fold max br sr Finset.univ := by
  pointwise
  simp only [h, hb]
/-- The same, once more compared with the initial value. -/
theorem max_r (s : FVec Ideal S2048x2048 .f32) (b b' : FVec Ideal S_ .f32) (i : Fin 2048) (sr : Fin 2048 → EReal) (br : EReal) (h : ∀ j, s (ix2 i j) = sr j)
    (hb : ∀ y, b y = br) (hb' : ∀ y, b' y = br) :
    (maximumf (broadcastInDim S2048 ![] bcast_S_S2048 b')
      (Host.reduce (FloatOps.maximumf (F := Ideal) (φ := .f32)) s b reducesTo_S2048x2048_S2048_d1 h_S_ : FVec Ideal S2048 .f32)
        : FVec Ideal S2048 .f32) (ix1 i)
      = max br (Finset.fold max br sr Finset.univ) :=
  congrArg₂ (fun x y : EReal => max x y) (hb' _) (fold_r s b i sr br h hb)
/-- A row's sum. -/
theorem sum_r (e : FVec Ideal S2048x2048 .f32) (i : Fin 2048) (er : Fin 2048 → EReal) (h : ∀ j, e (ix2 i j) = er j) :
    (Host.reduceAdd e (constant (F := Ideal) S_ .f32 0x00000000#32) reducesTo_S2048x2048_S2048_d1 h_S_ : FVec Ideal S2048 .f32) (ix1 i) = ∑ j, er j := by
  pointwise
  simp only [h]
/-- The aggregation and the two last layers. -/
theorem out_r (d : FVec Ideal S2048 .f32) (a : FVec Ideal S2048x2048 .f32) (x : FVec Ideal S2048x144 .f32) (g : FVec Ideal S128x144 .f32) (bg : FVec Ideal S128 .f32)
    (p : FVec Ideal S2x128 .f32) (bp : FVec Ideal S2 .f32) (i : Fin 2048) (c : Fin 2) (dr : Fin 2048 → EReal) (ar : Fin 2048 → EReal) (xr : Fin 2048 → Fin 144 → EReal)
    (gr : Fin 128 → Fin 144 → EReal) (bgr pr : Fin 128 → EReal) (bpr : EReal)
    (hd : ∀ j, d (ix1 j) = dr j) (ha : ∀ j, a (ix2 i j) = ar j) (hx : ∀ j b, x (ix2 j b) = xr j b) (hg : ∀ h b, g (ix2 h b) = gr h b) (hbg : ∀ h, bg (ix1 h) = bgr h)
    (hp : ∀ h, p (ix2 c h) = pr h) (hbp : bp (ix1 c) = bpr) :
    (addf (Host.dotGeneral (F := Ideal) (φ₁ := .f32) (φ₂ := .f32) dot_S2048x128_S128x2_S2048x2_1_0_0_1_n_n none
        (addf (Host.dotGeneral (F := Ideal) (φ₁ := .f32) (φ₂ := .f32) dot_S2048x2048_S2048x128_S2048x128_1_0_0_1_n_n none
            (mulf (mulf (broadcastInDim S2048x2048 ![0, 1] bcast_S2048x1_S2048x2048_0_1 (broadcastInDim S2048x1 ![0] bcast_S2048_S2048x1_0 d)) a)
              (broadcastInDim S2048x2048 ![0, 1] bcast_S1x2048_S2048x2048_0_1 (broadcastInDim S1x2048 ![1] bcast_S2048_S1x2048_1 d)))
            (Host.dotGeneral (F := Ideal) (φ₁ := .f32) (φ₂ := .f32) dot_S2048x144_S144x128_S2048x128_1_0_0_1_n_n none x (transpose S144x128 [1, 0] g transposes_S128x144_S144x128_1_0)))
          (broadcastInDim S2048x128 ![0, 1] bcast_S1x128_S2048x128_0_1 (broadcastInDim S1x128 ![1] bcast_S128_S1x128_1 bg)))
        (transpose S128x2 [1, 0] p transposes_S2x128_S128x2_1_0))
      (broadcastInDim S2048x2 ![0, 1] bcast_S1x2_S2048x2_0_1 (broadcastInDim S1x2 ![1] bcast_S2_S1x2_1 bp)) : FVec Ideal S2048x2 .f32) (ix2 i c)
      = ∑ h, (∑ j, dr i * ar j * dr j * (∑ b, xr j b * gr h b) + bgr h) * pr h + bpr := by
  pointwise
  simp only [hd, ha, hx, hg, hbg, hp, hbp]

/-- The largest score of a row, -/
theorem z_v48 (i : Fin 2048) : after post (W m c) (Proc.devRef .tc main_v48) (ix1 i) = Spec.rmx (Spec.rs (P m c)) i := by
  rw [post_v48, post_v47, post_v46, post_cst_8, post_cst_9]
  exact max_r _ _ _ i _ _ (z_v45 m c i) (fun _ => rfl) (fun _ => rfl)
/-- its exponentials -/
theorem z_v52 (i j : Fin 2048) : after post (W m c) (Proc.devRef .tc main_v52) (ix2 i j) = Spec.rex (Spec.rs (P m c)) i j := by
  unfold Spec.rex
  rw [← z_v45, ← z_v48, post_v52, post_v51, post_v50, post_v49]
  pointwise
/-- and their sum. -/
theorem z_v53 (i : Fin 2048) : after post (W m c) (Proc.devRef .tc main_v53) (ix1 i) = Spec.rden (Spec.rs (P m c)) i := by
  rw [post_v53, post_cst_10]
  exact sum_r _ i _ (z_v52 m c i)

/-- Two node numbers' words compared, as a number. -/
theorem eye_r (i j : Fin 2048) :
    (FloatOps.uitofp FTy.f32 (IntOp.cmpi CmpIPredicate.eq (IntOp.addi (BitVec.ofNat 32 i.val) 0#32) (BitVec.ofNat 32 j.val)) : Ideal .f32) = if i = j then 1 else 0 := by
  have e : IntOp.addi (BitVec.ofNat 32 i.val) 0#32 = BitVec.ofNat 32 i.val := BitVec.add_zero _
  have hi := i.isLt
  have hj := j.isLt
  have hd : (BitVec.ofNat 32 i.val = BitVec.ofNat 32 j.val) ↔ i = j := by
    rw [← BitVec.toNat_inj, BitVec.toNat_ofNat, BitVec.toNat_ofNat, Nat.mod_eq_of_lt (by omega), Nat.mod_eq_of_lt (by omega)]
    exact Fin.val_inj
  rw [e]
  show (((BitVec.ofBool (BitVec.ofNat 32 i.val == BitVec.ofNat 32 j.val)).toNat : ℝ) : EReal) = _
  by_cases h : i = j
  · subst h
    simp
  · rw [if_neg h, beq_false_of_ne (mt hd.mp h)]
    simp

/-- The adjacency. -/
theorem z_v67 (i j : Fin 2048) : after post (W m c) (Proc.devRef .tc main_v67) (ix2 i j) = Spec.radj (Spec.rs (P m c)) (P m c).phi i j := by
  have e : (P m c).phi = after post (W m c) (Proc.devRef .tc main_arg14) ix0 := (congrFun (final_args m c main_arg14 (by decide)) ix0).symm
  unfold Spec.radj
  rw [← eye_r, e, ← z_v52, ← z_v53, post_v67, post_v66, post_v65, post_v64, post_v63, post_v62, post_v61, post_v60, post_v59, post_v58, post_v57, post_v56, post_v55, post_v54, post_call3_v0, post_call3_v1, post_c_13, post_cst_11, post_cst_12]
  pointwise

/-- The reciprocal root of a degree. -/
theorem z_v72 (i : Fin 2048) : after post (W m c) (Proc.devRef .tc main_v72) (ix1 i) = Spec.rdv (Spec.rs (P m c)) (P m c).phi i := by
  unfold Spec.rdv
  rw [post_v72, post_v71, post_v70, post_v69, post_v68, post_cst_14, post_cst_16, post_call4_v1, post_call4_v0, post_cst_15]
  pointwise
  exact congrArg (fun t => Ideal.div 1 (Ideal.sqrt (max 1 t))) (Finset.sum_congr rfl fun j _ => z_v67 m c i j)

/-- The result. -/
theorem z_v89 (i : Fin 2048) (d : Fin 2) : after post (W m c) (Proc.devRef .tc main_v89) (ix2 i d) = Spec.rout (P m c) i d := by
  rw [post_v89, post_v88, post_v87, post_v86, post_v85, post_v84, post_v83, post_v82, post_v81, post_v80, post_v79, post_v78, post_v77, post_v76, post_v75, post_v74, post_v73]
  exact out_r _ _ _ _ _ _ _ i d _ _ _ _ _ _ _ (z_v72 m c) (z_v67 m c i) (z_v23 m c) (fun h b => congrFun (final_args m c main_arg15 (by decide)) (ix2 h b))
    (fun h => congrFun (final_args m c main_arg16 (by decide)) (ix1 h)) (fun h => congrFun (final_args m c main_arg17 (by decide)) (ix2 d h))
    (congrFun (final_args m c main_arg18 (by decide)) (ix1 d))

end Cert.ReferenceIdeal.Host

end
-- ==== Proof.KernelIdeal.Arrays.lean ====
/- What each call leaves in its output arrays, as a function of the arrays it finds, row by row. -/
module

public import proofs.«01_k».proof.Proof.KernelIdeal.Idx
public import Idealize.ShloMosaic.Lib.Pointwise

@[expose] public section

set_option maxRecDepth 16384

noncomputable section

namespace Cert.KernelIdeal.Regions

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F]
variable (V : (c : Dev nD) → (b : Ref sig .tc) → Buf (Elt F) ((c : Thread nD τ).loc b)) (c : Dev nD)

/-- Where an element of a rectangle of unit stride sits. -/
theorem unit_emb_val {s : Shape} (off size : Fin s.rank → Nat) (inb) (x : (Rect.unit (s := s) off size inb).shape.Idx) (a : Fin s.rank) :
    ((Rect.unit (s := s) off size inb).emb x a : ℕ) = off a + x a := by
  show off a + 1 * (x a : ℕ) = _
  rw [Nat.one_mul]

/-! Blocks that are whole arrays. -/

/-- Block 1 of call 0 is the whole array at each step. -/
theorem blk0_1_eq (t : Fin cfg0.N) : blk0 V c 1 t = V c main_arg1 :=
  funext fun y => congrArg (V c main_arg1) (Shape.idx_ext₂ (win0_1.rect_emb_val_of_index_zero t 0 rfl y) (win0_1.rect_emb_val_of_index_zero t 1 rfl y))
/-- Block 3 of call 0 is the whole array at each step. -/
theorem blk0_3_eq (t : Fin cfg0.N) : blk0 V c 3 t = V c main_v33 :=
  funext fun y => congrArg (V c main_v33) (Shape.idx_ext₂ (win0_3.rect_emb_val_of_index_zero t 0 rfl y) (win0_3.rect_emb_val_of_index_zero t 1 rfl y))
/-- Block 4 of call 0 is the whole array at each step. -/
theorem blk0_4_eq (t : Fin cfg0.N) : blk0 V c 4 t = V c main_v34 :=
  funext fun y => congrArg (V c main_v34) (Shape.idx_ext₂ (win0_4.rect_emb_val_of_index_zero t 0 rfl y) (win0_4.rect_emb_val_of_index_zero t 1 rfl y))
/-- Block 5 of call 0 is the whole array at each step. -/
theorem blk0_5_eq (t : Fin cfg0.N) : blk0 V c 5 t = V c main_v35 :=
  funext fun y => congrArg (V c main_v35) (Shape.idx_ext₂ (win0_5.rect_emb_val_of_index_zero t 0 rfl y) (win0_5.rect_emb_val_of_index_zero t 1 rfl y))
/-- Block 6 of call 0 is the whole array at each step. -/
theorem blk0_6_eq (t : Fin cfg0.N) : blk0 V c 6 t = V c main_v36 :=
  funext fun y => congrArg (V c main_v36) (Shape.idx_ext₂ (win0_6.rect_emb_val_of_index_zero t 0 rfl y) (win0_6.rect_emb_val_of_index_zero t 1 rfl y))
/-- Block 7 of call 0 is the whole array at each step. -/
theorem blk0_7_eq (t : Fin cfg0.N) : blk0 V c 7 t = V c main_v37 :=
  funext fun y => congrArg (V c main_v37) (Shape.idx_ext₂ (win0_7.rect_emb_val_of_index_zero t 0 rfl y) (win0_7.rect_emb_val_of_index_zero t 1 rfl y))
/-- Block 0 of call 1 is the whole array at each step. -/
theorem blk1_0_eq (t : Fin cfg1.N) : blk1 V c 0 t = V c main_v38 :=
  funext fun y => congrArg (V c main_v38) (Shape.idx_ext₂ (win1_0.rect_emb_val_of_index_zero t 0 rfl y) (win1_0.rect_emb_val_of_index_zero t 1 rfl y))
/-- Block 1 of call 1 is the whole array at each step. -/
theorem blk1_1_eq (t : Fin cfg1.N) : blk1 V c 1 t = V c main_v14 :=
  funext fun y => congrArg (V c main_v14) (Shape.idx_ext₂ (win1_1.rect_emb_val_of_index_zero t 0 rfl y) (win1_1.rect_emb_val_of_index_zero t 1 rfl y))
/-- Block 2 of call 1 is the whole array at each step. -/
theorem blk1_2_eq (t : Fin cfg1.N) : blk1 V c 2 t = V c main_v16 :=
  funext fun y => congrArg (V c main_v16) (Shape.idx_ext₂ (win1_2.rect_emb_val_of_index_zero t 0 rfl y) (win1_2.rect_emb_val_of_index_zero t 1 rfl y))
/-- Block 3 of call 1 is the whole array at each step. -/
theorem blk1_3_eq (t : Fin cfg1.N) : blk1 V c 3 t = V c main_v17 :=
  funext fun y => congrArg (V c main_v17) (Shape.idx_ext₂ (win1_3.rect_emb_val_of_index_zero t 0 rfl y) (win1_3.rect_emb_val_of_index_zero t 1 rfl y))
/-- Block 4 of call 1 is the whole array at each step. -/
theorem blk1_4_eq (t : Fin cfg1.N) : blk1 V c 4 t = V c main_v18 :=
  funext fun y => congrArg (V c main_v18) (Shape.idx_ext₂ (win1_4.rect_emb_val_of_index_zero t 0 rfl y) (win1_4.rect_emb_val_of_index_zero t 1 rfl y))
/-- Block 5 of call 1 is the whole array at each step. -/
theorem blk1_5_eq (t : Fin cfg1.N) : blk1 V c 5 t = V c main_v23 :=
  funext fun y => congrArg (V c main_v23) (Shape.idx_ext₂ (win1_5.rect_emb_val_of_index_zero t 0 rfl y) (win1_5.rect_emb_val_of_index_zero t 1 rfl y))
/-- Block 1 of call 2 is the whole array at each step. -/
theorem blk2_1_eq (t : Fin cfg2.N) : blk2 V c 1 t = V c main_v39_1 :=
  funext fun y => congrArg (V c main_v39_1) (Shape.idx_ext₂ (win2_1.rect_emb_val_of_index_zero t 0 rfl y) (win2_1.rect_emb_val_of_index_zero t 1 rfl y))
/-- Block 2 of call 2 is the whole array at each step. -/
theorem blk2_2_eq (t : Fin cfg2.N) : blk2 V c 2 t = V c main_v31 :=
  funext fun y => congrArg (V c main_v31) (Shape.idx_ext₂ (win2_2.rect_emb_val_of_index_zero t 0 rfl y) (win2_2.rect_emb_val_of_index_zero t 1 rfl y))
/-- Block 3 of call 2 is the whole array at each step. -/
theorem blk2_3_eq (t : Fin cfg2.N) : blk2 V c 3 t = V c main_v32 :=
  funext fun y => congrArg (V c main_v32) (Shape.idx_ext₂ (win2_3.rect_emb_val_of_index_zero t 0 rfl y) (win2_3.rect_emb_val_of_index_zero t 1 rfl y))
/-- Block 1 of call 3 is the whole array at each step. -/
theorem blk3_1_eq (t : Fin cfg3.N) : blk3 V c 1 t = V c main_v39_1 :=
  funext fun y => congrArg (V c main_v39_1) (Shape.idx_ext₂ (win3_1.rect_emb_val_of_index_zero t 0 rfl y) (win3_1.rect_emb_val_of_index_zero t 1 rfl y))
/-- Block 2 of call 3 is the whole array at each step. -/
theorem blk3_2_eq (t : Fin cfg3.N) : blk3 V c 2 t = V c main_v40 :=
  funext fun y => congrArg (V c main_v40) (Shape.idx_ext₂ (win3_2.rect_emb_val_of_index_zero t 0 rfl y) (win3_2.rect_emb_val_of_index_zero t 1 rfl y))
/-- Block 3 of call 3 is the whole array at each step. -/
theorem blk3_3_eq (t : Fin cfg3.N) : blk3 V c 3 t = V c main_v39_2 :=
  funext fun y => congrArg (V c main_v39_2) (Shape.idx_ext₂ (win3_3.rect_emb_val_of_index_zero t 0 rfl y) (win3_3.rect_emb_val_of_index_zero t 1 rfl y))
/-- Block 4 of call 3 is the whole array at each step. -/
theorem blk3_4_eq (t : Fin cfg3.N) : blk3 V c 4 t = V c main_v31 :=
  funext fun y => congrArg (V c main_v31) (Shape.idx_ext₂ (win3_4.rect_emb_val_of_index_zero t 0 rfl y) (win3_4.rect_emb_val_of_index_zero t 1 rfl y))
/-- Block 5 of call 3 is the whole array at each step. -/
theorem blk3_5_eq (t : Fin cfg3.N) : blk3 V c 5 t = V c main_v32 :=
  funext fun y => congrArg (V c main_v32) (Shape.idx_ext₂ (win3_5.rect_emb_val_of_index_zero t 0 rfl y) (win3_5.rect_emb_val_of_index_zero t 1 rfl y))
/-- Block 6 of call 3 is the whole array at each step. -/
theorem blk3_6_eq (t : Fin cfg3.N) : blk3 V c 6 t = V c main_v30 :=
  funext fun y => congrArg (V c main_v30) (Shape.idx_ext₂ (win3_6.rect_emb_val_of_index_zero t 0 rfl y) (win3_6.rect_emb_val_of_index_zero t 1 rfl y))

/-! Blocks that the grid moves. -/

/-- Block 0 of call 0 advances with the step. -/
theorem index0_0 (t : Fin cfg0.N) : win0_0.index t 1 = t.val := by revert t; decide +kernel
/-- Block 0 of call 2 advances with the step. -/
theorem index2_0 (t : Fin cfg2.N) : win2_0.index t 0 = t.val := by revert t; decide +kernel
/-- Block 4 of call 2 advances with the step. -/
theorem index2_4 (t : Fin cfg2.N) : win2_4.index t 0 = t.val := by revert t; decide +kernel
/-- Block 0 of call 3 advances with the step. -/
theorem index3_0 (t : Fin cfg3.N) : win3_0.index t 0 = t.val := by revert t; decide +kernel
/-- Block 7 of call 3 advances with the step. -/
theorem index3_7 (t : Fin cfg3.N) : win3_7.index t 0 = t.val := by revert t; decide +kernel

/-- Step `t` reads column block `t` of the time series. -/
theorem blk0_0_apply (t : Fin cfg0.N) (r : Fin 2048) (j : Fin 128) (h : t.val * 128 + j.val < 2560) :
    blk0 V c 0 t (ix2 r j) = V c main_v0 (ix2 r ⟨t.val * 128 + j.val, h⟩) :=
  congrArg (V c main_v0) (Shape.idx_ext₂ (win0_0.rect_emb_val_of_index_zero t 0 rfl (ix2 r j))
    ((win0_0.rect_emb_val t (ix2 r j) 1).trans (by rw [index0_0]; rfl)))
/-- Point `t` reads row block `t` of the queries, in the third call -/
theorem blk2_0_apply (t : Fin cfg2.N) (r : Fin 256) (j : Fin 144) (h : t.val * 256 + r.val < 2048) :
    blk2 V c 0 t (ix2 r j) = V c main_v39_0 (ix2 ⟨t.val * 256 + r.val, h⟩ j) :=
  congrArg (V c main_v39_0) (Shape.idx_ext₂ ((win2_0.rect_emb_val t (ix2 r j) 0).trans (by rw [index2_0]; rfl))
    (win2_0.rect_emb_val_of_index_zero t 1 rfl (ix2 r j)))
/-- and in the fourth. -/
theorem blk3_0_apply (t : Fin cfg3.N) (r : Fin 256) (j : Fin 144) (h : t.val * 256 + r.val < 2048) :
    blk3 V c 0 t (ix2 r j) = V c main_v39_0 (ix2 ⟨t.val * 256 + r.val, h⟩ j) :=
  congrArg (V c main_v39_0) (Shape.idx_ext₂ ((win3_0.rect_emb_val t (ix2 r j) 0).trans (by rw [index3_0]; rfl))
    (win3_0.rect_emb_val_of_index_zero t 1 rfl (ix2 r j)))

/-! The output arrays. -/

/-- The first call leaves the selected states beside the demographics. -/
theorem final0 : (dat0 V c).arrAt 8 cfg0.N = zOut (lAt V c (hAt V c 0) 20) (V c main_arg1) := by
  refine (dat0 V c).arrAt_eq_of_cover 8 _ (fun t _ => ?_) (fun i => ?_)
  · rw [show (dat0 V c).flushed 8 t = (dat0 V c).after 8 t from rfl, after0_8, blk0_1_eq]
    generalize zOut (lAt V c (hAt V c 0) 20) (V c main_arg1) = G
    funext y
    have e : ((cfg0.win 8).blk t).view.emb y = y :=
      Shape.idx_ext₂ (win0_8.rect_emb_val_of_index_zero t 0 rfl y) (win0_8.rect_emb_val_of_index_zero t 1 rfl y)
    exact (congrArg G e).symm
  · have hN : 19 < cfg0.N := by rw [show cfg0.N = 20 from N_0]; omega
    refine ⟨⟨19, hN⟩, (flush0_8 _).mpr rfl, ?_⟩
    have e : ((cfg0.win 8).blk ⟨19, hN⟩).view.emb i = i :=
      Shape.idx_ext₂ (win0_8.rect_emb_val_of_index_zero _ 0 rfl i) (win0_8.rect_emb_val_of_index_zero _ 1 rfl i)
    exact e ▸ ((cfg0.win 8).blk ⟨19, hN⟩).view.emb_mem_set i

/-- The second call leaves the queries, -/
theorem final1_6 : (dat1 V c).arrAt 6 cfg1.N = k1_pay2 (V c main_v38) (V c main_v14) (V c main_v16) := by
  refine (dat1 V c).arrAt_eq_of_cover 6 _ (fun t _ => ?_) (fun i => ?_)
  · rw [show (dat1 V c).flushed 6 t = (dat1 V c).after 6 t from rfl, after1_6, out1_6_eq]
    simp only [blk1_0_eq, blk1_1_eq, blk1_2_eq, blk1_3_eq, blk1_4_eq, blk1_5_eq]
    generalize k1_pay2 (V c main_v38) (V c main_v14) (V c main_v16) = G
    funext y
    have e : ((cfg1.win 6).blk t).view.emb y = y :=
      Shape.idx_ext₂ (win1_6.rect_emb_val_of_index_zero t 0 rfl y) (win1_6.rect_emb_val_of_index_zero t 1 rfl y)
    exact (congrArg G e).symm
  · have hN : 0 < cfg1.N := by decide +kernel
    refine ⟨⟨0, hN⟩, flush1_6 _, ?_⟩
    have e : ((cfg1.win 6).blk ⟨0, hN⟩).view.emb i = i :=
      Shape.idx_ext₂ (win1_6.rect_emb_val_of_index_zero _ 0 rfl i) (win1_6.rect_emb_val_of_index_zero _ 1 rfl i)
    exact e ▸ ((cfg1.win 6).blk ⟨0, hN⟩).view.emb_mem_set i

/-- the keys -/
theorem final1_7 : (dat1 V c).arrAt 7 cfg1.N = k1_pay3 (V c main_v38) (V c main_v17) (V c main_v18) := by
  refine (dat1 V c).arrAt_eq_of_cover 7 _ (fun t _ => ?_) (fun i => ?_)
  · rw [show (dat1 V c).flushed 7 t = (dat1 V c).after 7 t from rfl, after1_7, out1_7_eq]
    simp only [blk1_0_eq, blk1_1_eq, blk1_2_eq, blk1_3_eq, blk1_4_eq, blk1_5_eq]
    generalize k1_pay3 (V c main_v38) (V c main_v17) (V c main_v18) = G
    funext y
    have e : ((cfg1.win 7).blk t).view.emb y = y :=
      Shape.idx_ext₂ (win1_7.rect_emb_val_of_index_zero t 0 rfl y) (win1_7.rect_emb_val_of_index_zero t 1 rfl y)
    exact (congrArg G e).symm
  · have hN : 0 < cfg1.N := by decide +kernel
    refine ⟨⟨0, hN⟩, flush1_7 _, ?_⟩
    have e : ((cfg1.win 7).blk ⟨0, hN⟩).view.emb i = i :=
      Shape.idx_ext₂ (win1_7.rect_emb_val_of_index_zero _ 0 rfl i) (win1_7.rect_emb_val_of_index_zero _ 1 rfl i)
    exact e ▸ ((cfg1.win 7).blk ⟨0, hN⟩).view.emb_mem_set i

/-- and the projected nodes. -/
theorem final1_8 : (dat1 V c).arrAt 8 cfg1.N = k1_pay4 (V c main_v38) (V c main_v23) := by
  refine (dat1 V c).arrAt_eq_of_cover 8 _ (fun t _ => ?_) (fun i => ?_)
  · rw [show (dat1 V c).flushed 8 t = (dat1 V c).after 8 t from rfl, after1_8, out1_8_eq]
    simp only [blk1_0_eq, blk1_1_eq, blk1_2_eq, blk1_3_eq, blk1_4_eq, blk1_5_eq]
    generalize k1_pay4 (V c main_v38) (V c main_v23) = G
    funext y
    have e : ((cfg1.win 8).blk t).view.emb y = y :=
      Shape.idx_ext₂ (win1_8.rect_emb_val_of_index_zero t 0 rfl y) (win1_8.rect_emb_val_of_index_zero t 1 rfl y)
    exact (congrArg G e).symm
  · have hN : 0 < cfg1.N := by decide +kernel
    refine ⟨⟨0, hN⟩, flush1_8 _, ?_⟩
    have e : ((cfg1.win 8).blk ⟨0, hN⟩).view.emb i = i :=
      Shape.idx_ext₂ (win1_8.rect_emb_val_of_index_zero _ 0 rfl i) (win1_8.rect_emb_val_of_index_zero _ 1 rfl i)
    exact e ▸ ((cfg1.win 8).blk ⟨0, hN⟩).view.emb_mem_set i

/-- The columns of the block that the third call writes: the row's largest score, -/
theorem out2_4_0 (i : grid2.Coords) (x0 : Vec F S256x144 .f32) (x1 : Vec F S2048x144 .f32) (x2 : Vec F S1x1 .f32) (x3 : Vec F S1x1 .f32) (r : Fin 256) :
    out2_4 i x0 x1 x2 x3 (ix2 r 0) = k2_pay2 x0 x1 x2 (ix2 r 0) := by
  rw [out2_4_eq, View.canon_cons_of_not_mem _ _ (by rw [Rect.mem_set_unit]; intro h; exact Nat.not_succ_le_zero _ (h 1).1),
    View.canon_cons_of_not_mem _ _ (by rw [Rect.mem_set_unit]; intro h; exact Nat.not_succ_le_zero _ (h 1).1)]
  have e : (Rect.unit (s := S256x8) ![0, 0] S256x1.size inb_S256x8_S256x1_0_0).emb (ix2 r 0) = ix2 r 0 :=
    Shape.idx_ext₂ ((unit_emb_val _ _ _ _ 0).trans (by simp)) ((unit_emb_val _ _ _ _ 1).trans (by simp))
  exact e ▸ View.canon_cons_emb _ _ _ _
/-- its sum of exponentials, -/
theorem out2_4_1 (i : grid2.Coords) (x0 : Vec F S256x144 .f32) (x1 : Vec F S2048x144 .f32) (x2 : Vec F S1x1 .f32) (x3 : Vec F S1x1 .f32) (r : Fin 256) :
    out2_4 i x0 x1 x2 x3 (ix2 r 1) = k2_pay4 x0 x1 x2 (ix2 r 0) := by
  rw [out2_4_eq, View.canon_cons_of_not_mem _ _ (by rw [Rect.mem_set_unit]; intro h; exact (by decide : ¬ (2 ≤ 1)) (h 1).1)]
  have e : (Rect.unit (s := S256x8) ![0, 1] S256x1.size inb_S256x8_S256x1_0_1).emb (ix2 r 0) = ix2 r 1 :=
    Shape.idx_ext₂ ((unit_emb_val _ _ _ _ 0).trans (by simp)) ((unit_emb_val _ _ _ _ 1).trans (by simp))
  exact e ▸ View.canon_cons_emb _ _ _ _
/-- and the reciprocal root of its degree. -/
theorem out2_4_2 (i : grid2.Coords) (x0 : Vec F S256x144 .f32) (x1 : Vec F S2048x144 .f32) (x2 : Vec F S1x1 .f32) (x3 : Vec F S1x1 .f32) (r : Fin 256) :
    out2_4 i x0 x1 x2 x3 (ix2 r 2) = k2_pay5 x0 x1 x2 x3 (ix2 r 0) := by
  rw [out2_4_eq]
  have e : (Rect.unit (s := S256x8) ![0, 2] S256x1.size inb_S256x8_S256x1_0_2).emb (ix2 r 0) = ix2 r 2 :=
    Shape.idx_ext₂ ((unit_emb_val _ _ _ _ 0).trans (by simp)) ((unit_emb_val _ _ _ _ 1).trans (by simp))
  exact e ▸ View.canon_cons_emb _ _ _ _

/-- Row blocks of the third call's output do not meet. -/
theorem disj2_4 (t t' : Fin cfg2.N) (h : t ≠ t') :
    Disjoint ((cfg2.win 4).blk t).view.set ((cfg2.win 4).blk t').view.set := by
  refine Finset.disjoint_left.mpr (fun i hi hi' => ?_)
  obtain ⟨y, hy⟩ := View.exists_emb_of_mem_set _ hi
  obtain ⟨y', hy'⟩ := View.exists_emb_of_mem_set _ hi'
  have e0 := congrArg (fun z : S2048x8.Idx => (z 0 : ℕ)) (hy'.trans hy.symm)
  have h1 := (win2_4.rect_emb_val t y 0).symm.trans (e0.symm.trans (win2_4.rect_emb_val t' y' 0))
  rw [index2_4, index2_4, show win2_4.size 0 = 256 from rfl] at h1
  have hy : (y 0 : ℕ) < 256 := (y 0).isLt
  have hy' : (y' 0 : ℕ) < 256 := (y' 0).isLt
  exact h (Fin.ext (by omega))
/-- Row blocks of the fourth call's output do not meet. -/
theorem disj3_7 (t t' : Fin cfg3.N) (h : t ≠ t') :
    Disjoint ((cfg3.win 7).blk t).view.set ((cfg3.win 7).blk t').view.set := by
  refine Finset.disjoint_left.mpr (fun i hi hi' => ?_)
  obtain ⟨y, hy⟩ := View.exists_emb_of_mem_set _ hi
  obtain ⟨y', hy'⟩ := View.exists_emb_of_mem_set _ hi'
  have e0 := congrArg (fun z : S2048x8.Idx => (z 0 : ℕ)) (hy'.trans hy.symm)
  have h1 := (win3_7.rect_emb_val t y 0).symm.trans (e0.symm.trans (win3_7.rect_emb_val t' y' 0))
  rw [index3_7, index3_7, show win3_7.size 0 = 256 from rfl] at h1
  have hy : (y 0 : ℕ) < 256 := (y 0).isLt
  have hy' : (y' 0 : ℕ) < 256 := (y' 0).isLt
  exact h (Fin.ext (by omega))

/-- A row of the third call's output is that row of its point's block. -/
theorem final2_apply (t : Fin cfg2.N) (r : Fin 256) (j : Fin 8) (h : t.val * 256 + r.val < 2048) :
    (dat2 V c).arrAt 4 cfg2.N (ix2 ⟨t.val * 256 + r.val, h⟩ j) =
      out2_4 (grid2.coords t) (blk2 V c 0 t) (V c main_v39_1) (V c main_v31) (V c main_v32) (ix2 r j) := by
  have e : ((cfg2.win 4).blk t).view.emb (ix2 r j) = (ix2 ⟨t.val * 256 + r.val, h⟩ j : S2048x8.Idx) :=
    Shape.idx_ext₂ ((win2_4.rect_emb_val t (ix2 r j) 0).trans (by rw [index2_4]; rfl))
      (win2_4.rect_emb_val_of_index_zero t 1 rfl (ix2 r j))
  have hf := flush2_4 t
  have k := (dat2 V c).arrAt_emb_eq_flushed 4 (fun t t' _ _ h => disj2_4 t t' h) t hf (ix2 r j)
  rw [show (dat2 V c).flushed 4 t = (dat2 V c).after 4 t from rfl, after2_4, blk2_1_eq, blk2_2_eq, blk2_3_eq] at k
  rw [← e]; exact k
/-- A row of the fourth call's output is that row of its point's block. -/
theorem final3_apply (t : Fin cfg3.N) (r : Fin 256) (j : Fin 8) (h : t.val * 256 + r.val < 2048) :
    (dat3 V c).arrAt 7 cfg3.N (ix2 ⟨t.val * 256 + r.val, h⟩ j) =
      out3_7 (grid3.coords t) (blk3 V c 0 t) (V c main_v39_1) (V c main_v40) (V c main_v39_2) (V c main_v31) (V c main_v32) (V c main_v30) (ix2 r j) := by
  have e : ((cfg3.win 7).blk t).view.emb (ix2 r j) = (ix2 ⟨t.val * 256 + r.val, h⟩ j : S2048x8.Idx) :=
    Shape.idx_ext₂ ((win3_7.rect_emb_val t (ix2 r j) 0).trans (by rw [index3_7]; rfl))
      (win3_7.rect_emb_val_of_index_zero t 1 rfl (ix2 r j))
  have hf := flush3_7 t
  have k := (dat3 V c).arrAt_emb_eq_flushed 7 (fun t t' _ _ h => disj3_7 t t' h) t hf (ix2 r j)
  rw [show (dat3 V c).flushed 7 t = (dat3 V c).after 7 t from rfl, after3_7, blk3_1_eq, blk3_2_eq, blk3_3_eq, blk3_4_eq, blk3_5_eq, blk3_6_eq] at k
  rw [← e]; exact k

/-- The row offset of point `t` in the fourth call, as computed there. -/
theorem off3 (t : Fin cfg3.N) : k3_off1 (grid3.coords t) 0 = t.val * 256 := by revert t; decide +kernel
/-- The row offset within call 3 is along the first axis only. -/
theorem off3' (t : Fin cfg3.N) : k3_off1 (grid3.coords t) 1 = 0 := by revert t; decide +kernel

/-- Loading a point's rows out of a whole array. -/
theorem ld_rows3 (X : Vec F S2048x8 .f32) (t : Fin cfg3.N) (r : Fin 256) (j : Fin 8) (h : t.val * 256 + r.val < 2048) :
    View.ld X (rows3 (grid3.coords t)) (ix2 r j) = X (ix2 ⟨t.val * 256 + r.val, h⟩ j) := by
  refine congrArg X (Shape.idx_ext₂ ?_ ?_)
  · exact (unit_emb_val _ _ _ _ 0).trans (by rw [off3]; rfl)
  · exact (unit_emb_val _ _ _ _ 1).trans (by rw [off3']; simp)
/-- Loading the third column. -/
theorem ld_col3 (X : Vec F S2048x8 .f32) (r : Fin 2048) :
    View.ld X col3 (ix2 r 0) = X (ix2 r 2) := by
  refine congrArg X (Shape.idx_ext₂ ?_ ?_)
  · exact (unit_emb_val _ _ _ _ 0).trans (by simp)
  · exact (unit_emb_val _ _ _ _ 1).trans (by simp)

/-- The selected state sits in the first 128 columns -/
theorem zOut_left (l : Vec F S2048x128 .f32) (xd : Vec F S2048x16 .f32) (r : Fin 2048) (j : Fin 128) (h : j.val < 144) :
    zOut l xd (ix2 r ⟨j.val, h⟩) = l (ix2 r j) := by
  unfold zOut
  rw [View.canon_cons_of_not_mem _ _ (by rw [Rect.mem_set_unit]; intro h; have := (h 1).1; have := j.isLt; simp at *; omega)]
  have e : (Rect.unit (s := S2048x144) ![0, 0] S2048x128.size inb_S2048x144_S2048x128_0_0).emb (ix2 r j) = ix2 r ⟨j.val, h⟩ :=
    Shape.idx_ext₂ ((unit_emb_val _ _ _ _ 0).trans (by simp)) ((unit_emb_val _ _ _ _ 1).trans (by simp))
  exact e ▸ View.canon_cons_emb _ _ _ _
/-- and the demographics in the last 16. -/
theorem zOut_right (l : Vec F S2048x128 .f32) (xd : Vec F S2048x16 .f32) (r : Fin 2048) (j : Fin 16) (h : 128 + j.val < 144) :
    zOut l xd (ix2 r ⟨128 + j.val, h⟩) = xd (ix2 r j) := by
  unfold zOut
  have e : (Rect.unit (s := S2048x144) ![0, 128] S2048x16.size inb_S2048x144_S2048x16_0_128).emb (ix2 r j) = ix2 r ⟨128 + j.val, h⟩ :=
    Shape.idx_ext₂ ((unit_emb_val _ _ _ _ 0).trans (by simp)) ((unit_emb_val _ _ _ _ 1).trans (by simp))
  exact e ▸ View.canon_cons_emb _ _ _ _

end Cert.KernelIdeal.Regions

end
-- ==== Proof.KernelIdeal.HostVals.lean ====
/- What the host prepares for the calls, entry by entry. -/
module

public import proofs.«01_k».proof.Proof.KernelIdeal.Pre
public import proofs.«01_k».proof.Proof.Spec
public import Idealize.ShloMosaic.Lib.Pointwise
public import Idealize.ShloMosaic.Lib.Routing.OpsPair

@[expose] public section

set_option maxRecDepth 16384

noncomputable section

namespace Cert.KernelIdeal.Regions

open Cert.KernelIdeal Cert.KernelIdeal.Gen
open Idealize.ShloMosaic Idealize.ShloMosaic.TcCoe Idealize.ShloMosaic.StableHlo

/-- A fold that keeps the last value landing at an element, where exactly one can. -/
theorem foldl_land {α β : Type} (L : List β) (P : β → Prop) [DecidablePred P] (v : β → α) (n0 : β) (a : α) (h : ∀ n, P n ↔ n = n0) :
    L.foldl (fun a n => if P n then v n else a) a = v n0 ∨ (n0 ∉ L ∧ L.foldl (fun a n => if P n then v n else a) a = a) := by
  induction L generalizing a with
  | nil => exact Or.inr ⟨by simp, rfl⟩
  | cons n L ih =>
    rw [List.foldl_cons]
    by_cases hn : P n
    · rw [if_pos hn, (h n).mp hn]
      rcases ih (v n0) with e | ⟨-, e⟩
      · exact Or.inl e
      · exact Or.inl e
    · rw [if_neg hn]
      rcases ih a with e | ⟨k, e⟩
      · exact Or.inl e
      · exact Or.inr ⟨by rw [List.mem_cons]; rintro (q | q); exacts [hn ((h n).mpr q.symm), k q], e⟩

/-- A scatter that overwrites, at an element on which exactly one update lands. -/
theorem scatter_set_apply {α : Type} {s si u : Shape} {w : Nat} (d : ScatterDims s si u) (x0 : s.Idx → α) (idx : IVec si w) (upd : u.Idx → α)
    (ι : s.Idx) (k0 : u.Idx) (h : ∀ k, d.resultIdx? k idx = some ι ↔ k = k0) :
    Host.scatter d (fun _ b => b) x0 idx upd ι = upd k0 := by
  rw [Routing.scatter_at]
  rcases foldl_land (List.finRange u.numel) (fun n => d.resultIdx? (u.rowMajor.symm n) idx = some ι) (fun n => upd (u.rowMajor.symm n))
    (u.rowMajor k0) (x0 ι) (fun n => (h _).trans (Equiv.symm_apply_eq _)) with e | ⟨k, -⟩
  · exact e.trans (by rw [Equiv.symm_apply_apply])
  · exact absurd (List.mem_finRange _) k

variable {F : FTy → Type} [FloatOps F] (V : Valuation τ sig (Elt F))

/-- The time series as rows: step `n`'s features are columns `128 n …`. -/
theorem v0_apply (r : Fin 2048) (n : Fin 20) (j : Fin 128) (h : n.val * 128 + j.val < 2560) :
    after pre V (Proc.devRef .tc main_v0) (ix2 r ⟨n.val * 128 + j.val, h⟩) = after pre V (Proc.devRef .tc main_arg0) (ix3 r n j) := by
  rw [pre_v0]; pointwise
/-- The transposed input weights. -/
theorem v33_apply (k : Fin 128) (a : Fin 384) :
    after pre V (Proc.devRef .tc main_v33) (ix2 k a) = after pre V (Proc.devRef .tc main_arg3) (ix2 a k) := by
  rw [pre_v33]; pointwise
/-- The transposed state weights. -/
theorem v34_apply (k : Fin 128) (a : Fin 384) :
    after pre V (Proc.devRef .tc main_v34) (ix2 k a) = after pre V (Proc.devRef .tc main_arg4) (ix2 a k) := by
  rw [pre_v34]; pointwise
/-- The input bias as a row. -/
theorem v35_apply (a : Fin 384) :
    after pre V (Proc.devRef .tc main_v35) (ix2 0 a) = after pre V (Proc.devRef .tc main_arg5) (ix1 a) := by
  rw [pre_v35]; pointwise
/-- The state bias as a row. -/
theorem v36_apply (a : Fin 384) :
    after pre V (Proc.devRef .tc main_v36) (ix2 0 a) = after pre V (Proc.devRef .tc main_arg6) (ix1 a) := by
  rw [pre_v36]; pointwise
/-- The start state as a row. -/
theorem v37_apply (a : Fin 128) :
    after pre V (Proc.devRef .tc main_v37) (ix2 0 a) = after pre V (Proc.devRef .tc main_arg7) (ix1 a) := by
  rw [pre_v37]; pointwise
/-- The transposed key weights. -/
theorem v17_apply (b a : Fin 144) :
    after pre V (Proc.devRef .tc main_v17) (ix2 b a) = after pre V (Proc.devRef .tc main_arg10) (ix2 a b) := by
  rw [pre_v17]; pointwise
/-- The keys' bias as a row. -/
theorem v18_apply (a : Fin 144) :
    after pre V (Proc.devRef .tc main_v18) (ix2 0 a) = after pre V (Proc.devRef .tc main_arg11) (ix1 a) := by
  rw [pre_v18]; pointwise
/-- The mixing's bias as a one by one array. -/
theorem v31_apply : after pre V (Proc.devRef .tc main_v31) (ix2 0 0) = after pre V (Proc.devRef .tc main_arg13) (ix1 0) := by
  rw [pre_v31]; pointwise
/-- The threshold as a one by one array. -/
theorem v32_apply : after pre V (Proc.devRef .tc main_v32) (ix2 0 0) = after pre V (Proc.devRef .tc main_arg14) ix0 := by
  rw [pre_v32]; pointwise

variable (U : Valuation τ sig (Elt Ideal))

/-- The arguments as the host finds them. -/
def pars : Spec.Params :=
  Spec.Params.of (after pre U (Proc.devRef .tc main_arg0)) (after pre U (Proc.devRef .tc main_arg1)) (after pre U (Proc.devRef .tc main_arg2))
    (after pre U (Proc.devRef .tc main_arg3)) (after pre U (Proc.devRef .tc main_arg4)) (after pre U (Proc.devRef .tc main_arg5)) (after pre U (Proc.devRef .tc main_arg6))
    (after pre U (Proc.devRef .tc main_arg7)) (after pre U (Proc.devRef .tc main_arg8)) (after pre U (Proc.devRef .tc main_arg9)) (after pre U (Proc.devRef .tc main_arg10))
    (after pre U (Proc.devRef .tc main_arg11)) (after pre U (Proc.devRef .tc main_arg12)) (after pre U (Proc.devRef .tc main_arg13)) (after pre U (Proc.devRef .tc main_arg14))
    (after pre U (Proc.devRef .tc main_arg15)) (after pre U (Proc.devRef .tc main_arg16)) (after pre U (Proc.devRef .tc main_arg17)) (after pre U (Proc.devRef .tc main_arg18))

/-- The scale of a query column: its head's weight over the root of the head width. -/
theorem v10_apply (a : Fin 144) : after pre U (Proc.devRef .tc main_v10) (ix1 a) = Spec.scale (pars U) a := by
  rw [pre_v10, pre_v9, pre_v8, pre_v7, pre_v6, pre_cst, pre_v5]; pointwise; rfl
/-- The query layer, transposed and scaled, -/
theorem v14_apply (b a : Fin 144) :
    after pre U (Proc.devRef .tc main_v14) (ix2 b a) = (pars U).wq a b * Spec.scale (pars U) a := by
  rw [pre_v14, pre_v13, pre_v12, pre_v11]; pointwise; rw [v10_apply]; rfl
/-- and its bias. -/
theorem v16_apply (a : Fin 144) :
    after pre U (Proc.devRef .tc main_v16) (ix2 0 a) = (pars U).bq a * Spec.scale (pars U) a := by
  rw [pre_v16, pre_v15]; pointwise; rw [v10_apply]; rfl
/-- The two linear layers after the aggregation, folded into one. -/
theorem v21_apply (b : Fin 144) (c : Fin 2) :
    after pre U (Proc.devRef .tc main_v21) (ix2 b c) = ∑ h, (pars U).wp c h * (pars U).wg h b := by
  rw [pre_v21, pre_v19]; pointwise; rfl
/-- Their biases, folded. -/
theorem v26_apply (c : Fin 2) : after pre U (Proc.devRef .tc main_v26) (ix1 c) = Spec.kb (pars U) c := by
  rw [pre_v26, pre_v25]; pointwise; rfl

/-- The folded layer fills the first two columns -/
theorem v23_apply (b : Fin 144) (c : Fin 2) (h : c.val < 8) :
    after pre U (Proc.devRef .tc main_v23) (ix2 b ⟨c.val, h⟩) = after pre U (Proc.devRef .tc main_v21) (ix2 b c) := by
  rw [pre_v23]
  refine scatter_set_apply _ _ _ _ _ (ix2 b c) (fun k => ?_)
  refine (Routing.resultIdx?_ix2 _ k _ _ _).trans ?_
  have hz : ∀ i, after pre U (Proc.devRef .tc main_v22) i = 0#32 := fun i => by rw [pre_v22, pre_c_3]; rfl
  have hs : ∀ a, scatter_S144x8_S1_S144x2_01_n_1_0.start k (after pre U (Proc.devRef .tc main_v22)) a = 0 := fun a => by
    unfold ScatterDims.start; split
    · rw [hz]; rfl
    · rfl
  rw [hs, hs, show scatter_S144x8_S1_S144x2_01_n_1_0.window k 0 = (k 0 : ℕ) from rfl, show scatter_S144x8_S1_S144x2_01_n_1_0.window k 1 = (k 1 : ℕ) from rfl]
  constructor
  · rintro ⟨h0, h1⟩
    exact Shape.idx_ext₂ (by have : ((k 0 : ℕ) : Int) = (b : ℕ) := by omega
                             exact_mod_cast this) (by have : ((k 1 : ℕ) : Int) = (c : ℕ) := by simpa using h1
                                                      exact_mod_cast this)
  · rintro rfl
    exact ⟨by simp, by simp⟩
/-- and the folded bias the first two entries. -/
theorem v30_apply (c : Fin 2) (h : c.val < 8) :
    after pre U (Proc.devRef .tc main_v30) (ix2 0 ⟨c.val, h⟩) = after pre U (Proc.devRef .tc main_v26) (ix1 c) := by
  rw [pre_v30]
  refine scatter_set_apply _ _ _ _ _ (ix1 c) (fun k => ?_)
  refine (Routing.resultIdx?_ix2 _ k _ _ _).trans ?_
  have hz' : ∀ i : Fin 2, after pre U (Proc.devRef .tc main_v29) (ix1 i) = 0#32 := fun i => by
    rw [pre_v29, pre_v28, pre_v27, pre_c_5, pre_c_6]; revert i; decide +kernel
  have hz : ∀ i : S2.Idx, after pre U (Proc.devRef .tc main_v29) i = 0#32 := fun i => (congrArg _ (eq_ix1 i)).trans (hz' (i 0))
  have hs : ∀ a, scatter_S1x8_S2_S2_0_0_01_0.start k (after pre U (Proc.devRef .tc main_v29)) a = 0 := fun a => by
    unfold ScatterDims.start; split
    · exact (congrArg BitVec.toInt (hz _)).trans rfl
    · rfl
  rw [hs, hs, show scatter_S1x8_S2_S2_0_0_01_0.window k 0 = 0 from rfl, show scatter_S1x8_S2_S2_0_0_01_0.window k 1 = (k 0 : ℕ) from rfl]
  constructor
  · rintro ⟨h0, h1⟩
    have : ((k 0 : ℕ) : Int) = (c : ℕ) := by simpa using h1
    rw [eq_ix1 k]; exact congrArg ix1 (Fin.ext (by exact_mod_cast this))
  · rintro rfl
    exact ⟨by simp, by simp⟩

end Cert.KernelIdeal.Regions

end
-- ==== Proof.KernelIdeal.Value.lean ====
/- The result of the kernel program, entry by entry. -/
module

public import proofs.«01_k».proof.Proof.KernelIdeal.Arrays
public import proofs.«01_k».proof.Proof.KernelIdeal.HostVals
public import proofs.«01_k».proof.Proof.KernelIdeal.Run

@[expose] public section

set_option maxRecDepth 16384

noncomputable section

namespace Cert.KernelIdeal.Regions

open Cert.KernelIdeal Cert.KernelIdeal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ) (c : Dev nD)

/-- The arguments in memory. -/
def P : Spec.Params :=
  Spec.Params.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))

/-- The buffers at the first call, as the host's preparation leaves them. -/
theorem Y0_eq (b : Ref sig .tc) : Y0 m c b = after pre (V0 m c) (Proc.devRef .tc b) := congrFun (pre_after (V0 m c)) _

/-- The host finds the arguments as they lie in memory. -/
theorem pars_eq : pars (V0 m c) = P m c := by
  have h : ∀ a ∈ argRefs, after pre (V0 m c) (Proc.devRef .tc a) = m ((c : Thread nD τ).loc a) := fun a ha =>
    (Y0_eq m c a).symm.trans (X0_args m c a ha)
  unfold pars P
  rw [h main_arg0 (by decide), h main_arg1 (by decide), h main_arg2 (by decide), h main_arg3 (by decide), h main_arg4 (by decide),
    h main_arg5 (by decide), h main_arg6 (by decide), h main_arg7 (by decide), h main_arg8 (by decide), h main_arg9 (by decide),
    h main_arg10 (by decide), h main_arg11 (by decide), h main_arg12 (by decide), h main_arg13 (by decide), h main_arg14 (by decide),
    h main_arg15 (by decide), h main_arg16 (by decide), h main_arg17 (by decide), h main_arg18 (by decide)]

/-! What the host prepared, over the arguments in memory. -/

/-- The flattened time series at the first call. -/
theorem yv0 (r : Fin 2048) (n : Fin 20) (j : Fin 128) (h : n.val * 128 + j.val < 2560) : Y0 m c main_v0 (ix2 r ⟨n.val * 128 + j.val, h⟩) = (P m c).x r n j := by
  rw [Y0_eq, ← pars_eq]; exact v0_apply (V0 m c) r n j h
/-- The input weights there. -/
theorem yv33 (k : Fin 128) (a : Fin 384) : Y0 m c main_v33 (ix2 k a) = (P m c).wih a k := by
  rw [Y0_eq, ← pars_eq]; exact v33_apply (V0 m c) k a
/-- The state weights there. -/
theorem yv34 (k : Fin 128) (a : Fin 384) : Y0 m c main_v34 (ix2 k a) = (P m c).whh a k := by
  rw [Y0_eq, ← pars_eq]; exact v34_apply (V0 m c) k a
/-- The input bias there. -/
theorem yv35 (a : Fin 384) : Y0 m c main_v35 (ix2 0 a) = (P m c).bih a := by
  rw [Y0_eq, ← pars_eq]; exact v35_apply (V0 m c) a
/-- The state bias there. -/
theorem yv36 (a : Fin 384) : Y0 m c main_v36 (ix2 0 a) = (P m c).bhh a := by
  rw [Y0_eq, ← pars_eq]; exact v36_apply (V0 m c) a
/-- The start state there. -/
theorem yv37 (a : Fin 128) : Y0 m c main_v37 (ix2 0 a) = (P m c).h0 a := by
  rw [Y0_eq, ← pars_eq]; exact v37_apply (V0 m c) a
/-- The key weights there. -/
theorem yv17 (b a : Fin 144) : Y0 m c main_v17 (ix2 b a) = (P m c).wk a b := by
  rw [Y0_eq, ← pars_eq]; exact v17_apply (V0 m c) b a
/-- The keys' bias there. -/
theorem yv18 (a : Fin 144) : Y0 m c main_v18 (ix2 0 a) = (P m c).bk a := by
  rw [Y0_eq, ← pars_eq]; exact v18_apply (V0 m c) a
/-- The mixing's bias there. -/
theorem yv31  : Y0 m c main_v31 (ix2 0 0) = (P m c).wob := by
  rw [Y0_eq, ← pars_eq]; exact v31_apply (V0 m c)
/-- The threshold there. -/
theorem yv32  : Y0 m c main_v32 (ix2 0 0) = (P m c).phi := by
  rw [Y0_eq, ← pars_eq]; exact v32_apply (V0 m c)
/-- The scaled query weights there. -/
theorem yv14 (b a : Fin 144) : Y0 m c main_v14 (ix2 b a) = (P m c).wq a b * Spec.scale (P m c) a := by
  rw [Y0_eq, ← pars_eq]; exact v14_apply (V0 m c) b a
/-- The queries' scaled bias there. -/
theorem yv16 (a : Fin 144) : Y0 m c main_v16 (ix2 0 a) = (P m c).bq a * Spec.scale (P m c) a := by
  rw [Y0_eq, ← pars_eq]; exact v16_apply (V0 m c) a
/-- The product of the two last layers there. -/
theorem yv23 (b : Fin 144) (d : Fin 2) (h : d.val < 8) : Y0 m c main_v23 (ix2 b ⟨d.val, h⟩) = ∑ h, (P m c).wp d h * (P m c).wg h b := by
  rw [Y0_eq, ← pars_eq]; exact (v23_apply (V0 m c) b d h).trans (v21_apply (V0 m c) b d)
/-- The two last layers' bias there. -/
theorem yv30 (d : Fin 2) (h : d.val < 8) : Y0 m c main_v30 (ix2 0 ⟨d.val, h⟩) = Spec.kb (P m c) d := by
  rw [Y0_eq, ← pars_eq]; exact (v30_apply (V0 m c) d h).trans (v26_apply (V0 m c) d)

/-! The first call. -/

/-- One step of the kernel's recurrence, entry by entry. -/
theorem hNext_apply (Q : Spec.Params) (x h : Vec Ideal S2048x128 .f32) (wih whh : Vec Ideal S128x384 .f32) (bih bhh : Vec Ideal S1x384 .f32)
    (h1 : ∀ k a, wih (ix2 k a) = Q.wih a k) (h2 : ∀ k a, whh (ix2 k a) = Q.whh a k) (h3 : ∀ a, bih (ix2 0 a) = Q.bih a) (h4 : ∀ a, bhh (ix2 0 a) = Q.bhh a)
    (r : Fin 2048) (j : Fin 128) (xr hr : Fin 128 → EReal) (hx : ∀ k, x (ix2 r k) = xr k) (hh : ∀ k, h (ix2 r k) = hr k) :
    hNext x h wih whh bih bhh (ix2 r j) = Spec.step Q xr hr j := by
  unfold hNext; pointwise [k0_pay4]
  simp only [h1, h2, h3, h4, hx, hh]
  rfl

/-- The state after `n` steps. -/
theorem hAt_apply (n : ℕ) (hn : n ≤ 20) (r : Fin 2048) (j : Fin 128) :
    hAt (Y0 m) c n (ix2 r j) = Spec.hs (P m c) r n j := by
  induction n generalizing j with
  | zero =>
    unfold hAt; rw [blk0_7_eq]; pointwise [k0_pay3]; exact yv37 m c j
  | succ n ih =>
    have hN : n < cfg0.N := Nat.lt_of_lt_of_eq hn (N_0 : cfg0.N = 20).symm
    have e := hAt_succ (Y0 m) c ⟨n, hN⟩
    refine (congrFun e (ix2 r j)).trans ?_
    rw [blk0_3_eq, blk0_4_eq, blk0_5_eq, blk0_6_eq]
    refine hNext_apply (P m c) _ _ _ _ _ _ (yv33 m c) (yv34 m c) (yv35 m c) (yv36 m c) r j _ _ (fun k => ?_) (fun k => ih (Nat.le_of_succ_le hn) k)
    have hk : n * 128 + k.val < 2560 := by clear e ih; have := k.isLt; omega
    have hm : (⟨n % 20, Nat.mod_lt _ (by decide)⟩ : Fin 20) = ⟨n, hn⟩ := Fin.ext (Nat.mod_eq_of_lt hn)
    rw [hm]
    exact (blk0_0_apply (Y0 m) c ⟨n, hN⟩ r k hk).trans (yv0 m c r ⟨n, hn⟩ k hk)

/-- A word is the word of its number. -/
theorem ofNat_toNat32 (w : BitVec 32) : BitVec.ofNat 32 w.toNat = w := by simp

/-- A node, as the first call leaves it. -/
theorem z_apply (r : Fin 2048) (b : Fin 144) : Y1 m c main_v38 (ix2 r b) = Spec.z (P m c) r b := by
  have e : Y1 m c main_v38 = zOut (lAt (Y0 m) c (hAt (Y0 m) c 0) 20) (Y0 m c main_arg1) := (X1_arr m c 8).trans (final0 (Y0 m) c)
  rw [e]
  unfold Spec.z
  by_cases hb : b.val < 128
  · rw [dif_pos hb]
    refine (zOut_left _ _ r ⟨b.val, hb⟩ b.isLt).trans ?_
    have hlt : Spec.pos (P m c) r < 20 := clip_lt _
    have hp : IntOp.minsi 19#32 (IntOp.maxsi 0#32 (IntOp.subi (after pre (V0 m c) main_arg2 (ix1 r)) 1#32)) = Y0 m c main_v4 (ix2 r 0) :=
      ((congrFun (Y0_eq m c main_v4) _).trans (idx_apply (V0 m c) r)).symm
    have hq : Y0 m c main_v4 (ix2 r 0) = BitVec.ofNat 32 (Spec.pos (P m c) r) := by
      rw [← hp, ← pars_eq]
      exact (ofNat_toNat32 _).symm
    exact (lAt_apply (Y0 m) c (hAt (Y0 m) c 0) r ⟨b.val, hb⟩ (Spec.pos (P m c) r) hlt hq 20 le_rfl).trans
      ((if_pos hlt).trans (hAt_apply m c _ hlt r _))
  · rw [dif_neg hb]
    have hb2 : 128 + (b.val - 128) = b.val := by omega
    have hb3 : b.val - 128 < 16 := by have := b.isLt; omega
    have := zOut_right (lAt (Y0 m) c (hAt (Y0 m) c 0) 20) (Y0 m c main_arg1) r ⟨b.val - 128, hb3⟩ (by dsimp only; omega)
    rw [show (⟨128 + (b.val - 128), by omega⟩ : Fin 144) = b from Fin.ext hb2] at this
    rw [this, show Y0 m c main_arg1 = m ((c : Thread nD τ).loc main_arg1) from X0_args m c main_arg1 (by decide)]; rfl

/-! The second call. -/

/-- What the first three calls only read is as the host left it. -/
theorem Y1_keep (b : Ref sig .tc) (h : b ∈ [main_v14, main_v16, main_v17, main_v18, main_v23, main_v30, main_v31, main_v32]) : Y1 m c b = Y0 m c b :=
  X1_keep m c b ((ListAll.forall_mem_of_all_decide (by decide +kernel) : ∀ b ∈ [main_v14, main_v16, main_v17, main_v18, main_v23, main_v30, main_v31, main_v32],
    ∀ w : Fin cfg0.W, Pipeline.arrRef spec0 w = b → (cfg0.win w).isOut = false) b h)
/-- The first two calls leave these arrays as they are. -/
theorem Y2_keep (b : Ref sig .tc) (h : b ∈ [main_v30, main_v31, main_v32]) : Y2 m c b = Y0 m c b :=
  (X2_keep m c b ((ListAll.forall_mem_of_all_decide (by decide +kernel) : ∀ b ∈ [main_v30, main_v31, main_v32],
    ∀ w : Fin cfg1.W, Pipeline.arrRef spec1 w = b → (cfg1.win w).isOut = false) b h)).trans
    (Y1_keep m c b ((ListAll.forall_mem_of_all_decide (by decide +kernel) : ∀ b ∈ [main_v30, main_v31, main_v32],
      b ∈ [main_v14, main_v16, main_v17, main_v18, main_v23, main_v30, main_v31, main_v32]) b h))
/-- So do the first three. -/
theorem Y3_keep (b : Ref sig .tc) (h : b ∈ [main_v30, main_v31, main_v32]) : Y3 m c b = Y0 m c b :=
  (X3_keep m c b ((ListAll.forall_mem_of_all_decide (by decide +kernel) : ∀ b ∈ [main_v30, main_v31, main_v32],
    ∀ w : Fin cfg2.W, Pipeline.arrRef spec2 w = b → (cfg2.win w).isOut = false) b h)).trans (Y2_keep m c b h)
/-- The third call only reads the second's results. -/
theorem Y3_keep' (b : Ref sig .tc) (h : b ∈ [main_v39_0, main_v39_1, main_v39_2]) : Y3 m c b = Y2 m c b :=
  X3_keep m c b ((ListAll.forall_mem_of_all_decide (by decide +kernel) : ∀ b ∈ [main_v39_0, main_v39_1, main_v39_2],
    ∀ w : Fin cfg2.W, Pipeline.arrRef spec2 w = b → (cfg2.win w).isOut = false) b h)

/-- A linear layer, entry by entry: the query call's, -/
theorem lin_q (x : Vec Ideal S2048x144 .f32) (w : Vec Ideal S144x144 .f32) (b : Vec Ideal S1x144 .f32) (i : Fin 2048) (a : Fin 144)
    (xr wr : Fin 144 → EReal) (br : EReal) (hx : ∀ k, x (ix2 i k) = xr k) (hw : ∀ k, w (ix2 k a) = wr k) (hb : b (ix2 0 a) = br) :
    k1_pay2 x w b (ix2 i a) = ∑ k, xr k * wr k + br := by
  pointwise [k1_pay2, k1_pay1]
  simp only [hx, hw, hb]
/-- the key call's -/
theorem lin_k (x : Vec Ideal S2048x144 .f32) (w : Vec Ideal S144x144 .f32) (b : Vec Ideal S1x144 .f32) (i : Fin 2048) (a : Fin 144)
    (xr wr : Fin 144 → EReal) (br : EReal) (hx : ∀ k, x (ix2 i k) = xr k) (hw : ∀ k, w (ix2 k a) = wr k) (hb : b (ix2 0 a) = br) :
    k1_pay3 x w b (ix2 i a) = ∑ k, xr k * wr k + br := by
  pointwise [k1_pay3, k1_pay1]
  simp only [hx, hw, hb]
/-- and the folded one. -/
theorem lin_y (x : Vec Ideal S2048x144 .f32) (w : Vec Ideal S144x8 .f32) (i : Fin 2048) (a : Fin 8)
    (xr wr : Fin 144 → EReal) (hx : ∀ k, x (ix2 i k) = xr k) (hw : ∀ k, w (ix2 k a) = wr k) :
    k1_pay4 x w (ix2 i a) = ∑ k, xr k * wr k := by
  pointwise [k1_pay4, k1_pay1]
  simp only [hx, hw]
/-- The scores of a block against all keys. -/
theorem lin_s (x : Vec Ideal S256x144 .f32) (w : Vec Ideal S2048x144 .f32) (b : Vec Ideal S1x1 .f32) (i : Fin 256) (j : Fin 2048)
    (xr wr : Fin 144 → EReal) (br : EReal) (hx : ∀ k, x (ix2 i k) = xr k) (hw : ∀ k, w (ix2 j k) = wr k) (hb : b (ix2 0 0) = br) :
    k2_pay1 x w b (ix2 i j) = ∑ k, xr k * wr k + br := by
  pointwise [k2_pay1]
  simp only [hx, hw, hb]

/-- The queries, entry by entry. -/
theorem q_apply (i : Fin 2048) (a : Fin 144) : Y2 m c main_v39_0 (ix2 i a) = Spec.kq (P m c) i a := by
  have e : Y2 m c main_v39_0 = k1_pay2 (Y1 m c main_v38) (Y1 m c main_v14) (Y1 m c main_v16) := (X2_arr m c 6).trans (final1_6 (Y1 m) c)
  rw [e, Y1_keep m c main_v14 (by decide), Y1_keep m c main_v16 (by decide)]
  exact lin_q _ _ _ i a _ _ _ (z_apply m c i) (fun b => yv14 m c b a) (yv16 m c a)
/-- The keys. -/
theorem k_apply (i : Fin 2048) (a : Fin 144) : Y2 m c main_v39_1 (ix2 i a) = Spec.kk (P m c) i a := by
  have e : Y2 m c main_v39_1 = k1_pay3 (Y1 m c main_v38) (Y1 m c main_v17) (Y1 m c main_v18) := (X2_arr m c 7).trans (final1_7 (Y1 m) c)
  rw [e, Y1_keep m c main_v17 (by decide), Y1_keep m c main_v18 (by decide)]
  exact lin_k _ _ _ i a _ _ _ (z_apply m c i) (fun b => yv17 m c b a) (yv18 m c a)
/-- The projected nodes. -/
theorem y_apply (i : Fin 2048) (d : Fin 2) (h : d.val < 8) : Y2 m c main_v39_2 (ix2 i ⟨d.val, h⟩) = Spec.ky (P m c) i d := by
  have e : Y2 m c main_v39_2 = k1_pay4 (Y1 m c main_v38) (Y1 m c main_v23) := (X2_arr m c 8).trans (final1_8 (Y1 m) c)
  rw [e, Y1_keep m c main_v23 (by decide)]
  exact lin_y _ _ i ⟨d.val, h⟩ _ _ (z_apply m c i) (fun b => yv23 m c b d h)

/-! The third call. -/

/-- A row's point and place in its block. -/
theorem row_split (i : Fin 2048) : ∃ (t : Fin 8) (r : Fin 256) (h : t.val * 256 + r.val < 2048), i = ⟨t.val * 256 + r.val, h⟩ := by
  have := i.isLt
  exact ⟨⟨i.val / 256, by omega⟩, ⟨i.val % 256, by omega⟩, by dsimp only; omega, Fin.ext (by dsimp only; omega)⟩

/-- The scores of a block of rows. -/
theorem pay2_scores (t : Fin cfg2.N) (r : Fin 256) (h : t.val * 256 + r.val < 2048) (j : Fin 2048) :
    k2_pay1 (blk2 (Y2 m) c 0 t) (Y2 m c main_v39_1) (Y2 m c main_v31) (ix2 r j) = Spec.ks (P m c) ⟨t.val * 256 + r.val, h⟩ j := by
  rw [Y2_keep m c main_v31 (by decide)]
  exact lin_s _ _ _ r j _ _ _ (fun a => (blk2_0_apply (Y2 m) c t r a h).trans (q_apply m c _ a)) (k_apply m c j) (yv31 m c)
/-- The largest score of a row, -/
theorem pay2_max (t : Fin cfg2.N) (r : Fin 256) (h : t.val * 256 + r.val < 2048) :
    k2_pay2 (blk2 (Y2 m) c 0 t) (Y2 m c main_v39_1) (Y2 m c main_v31) (ix2 r 0) = Spec.rmax (Spec.ks (P m c)) ⟨t.val * 256 + r.val, h⟩ := by
  pointwise [k2_pay2]
  simp only [pay2_scores m c t r h]
  rfl
/-- its exponentials, -/
theorem pay2_exp (t : Fin cfg2.N) (r : Fin 256) (h : t.val * 256 + r.val < 2048) (j : Fin 2048) :
    k2_pay3 (blk2 (Y2 m) c 0 t) (Y2 m c main_v39_1) (Y2 m c main_v31) (ix2 r j) = Spec.ex (Spec.ks (P m c)) ⟨t.val * 256 + r.val, h⟩ j := by
  pointwise [k2_pay3]
  rw [pay2_scores m c t r h, pay2_max m c t r h]
  rfl
/-- their sum, -/
theorem pay2_sum (t : Fin cfg2.N) (r : Fin 256) (h : t.val * 256 + r.val < 2048) :
    k2_pay4 (blk2 (Y2 m) c 0 t) (Y2 m c main_v39_1) (Y2 m c main_v31) (ix2 r 0) = Spec.den (Spec.ks (P m c)) ⟨t.val * 256 + r.val, h⟩ := by
  pointwise [k2_pay4]
  simp only [pay2_exp m c t r h]
  rfl
/-- and the reciprocal root of the degree. -/
theorem pay2_dinv (t : Fin cfg2.N) (r : Fin 256) (h : t.val * 256 + r.val < 2048) :
    k2_pay5 (blk2 (Y2 m) c 0 t) (Y2 m c main_v39_1) (Y2 m c main_v31) (Y2 m c main_v32) (ix2 r 0)
      = Spec.dinv (Spec.ks (P m c)) (P m c).phi ⟨t.val * 256 + r.val, h⟩ := by
  rw [Y2_keep m c main_v32 (by decide)]
  pointwise [k2_pay5]
  simp only [pay2_exp m c t r h, pay2_sum m c t r h, yv32]
  rfl

/-- The statistics the third call leaves: the largest score, -/
theorem st0 (i : Fin 2048) : Y3 m c main_v40 (ix2 i 0) = Spec.rmax (Spec.ks (P m c)) i := by
  obtain ⟨t, r, h, rfl⟩ := row_split i
  exact (congrFun (X3_arr m c 4) _).trans ((final2_apply (Y2 m) c t r 0 h).trans ((out2_4_0 _ _ _ _ _ r).trans (pay2_max m c t r h)))
/-- the sum of exponentials -/
theorem st1 (i : Fin 2048) : Y3 m c main_v40 (ix2 i 1) = Spec.den (Spec.ks (P m c)) i := by
  obtain ⟨t, r, h, rfl⟩ := row_split i
  exact (congrFun (X3_arr m c 4) _).trans ((final2_apply (Y2 m) c t r 1 h).trans ((out2_4_1 _ _ _ _ _ r).trans (pay2_sum m c t r h)))
/-- and the reciprocal root of the degree. -/
theorem st2 (i : Fin 2048) : Y3 m c main_v40 (ix2 i 2) = Spec.dinv (Spec.ks (P m c)) (P m c).phi i := by
  obtain ⟨t, r, h, rfl⟩ := row_split i
  exact (congrFun (X3_arr m c 4) _).trans ((final2_apply (Y2 m) c t r 2 h).trans ((out2_4_2 _ _ _ _ _ r).trans (pay2_dinv m c t r h)))

/-! The fourth call. -/

/-- The aggregation of a block of rows, given its parts entry by entry. -/
theorem pay3_apply (Q : Spec.Params) (i : Fin 2048) (r : Fin 256) (d : Fin 2) (hd : d.val < 8)
    (x0 : Vec Ideal S256x144 .f32) (x1 : Vec Ideal S2048x144 .f32) (st : Vec Ideal S256x8 .f32) (dv : Vec Ideal S2048x1 .f32) (y : Vec Ideal S2048x8 .f32)
    (yr : Vec Ideal S256x8 .f32) (wob phi : Vec Ideal S1x1 .f32) (b2 : Vec Ideal S1x8 .f32)
    (h0 : ∀ a, x0 (ix2 r a) = Spec.kq Q i a) (h1 : ∀ j a, x1 (ix2 j a) = Spec.kk Q j a)
    (hs0 : st (ix2 r 0) = Spec.rmax (Spec.ks Q) i) (hs1 : st (ix2 r 1) = Spec.den (Spec.ks Q) i) (hs2 : st (ix2 r 2) = Spec.dinv (Spec.ks Q) Q.phi i)
    (hdv : ∀ j, dv (ix2 j 0) = Spec.dinv (Spec.ks Q) Q.phi j) (hy : ∀ j, y (ix2 j ⟨d.val, hd⟩) = Spec.ky Q j d)
    (hyr : yr (ix2 r ⟨d.val, hd⟩) = Spec.ky Q i d)
    (hwob : wob (ix2 0 0) = Q.wob) (hphi : phi (ix2 0 0) = Q.phi) (hb2 : b2 (ix2 0 ⟨d.val, hd⟩) = Spec.kb Q d) :
    k3_pay1 (k3_pay4 yr) (k3_pay5 x0 x1 wob st phi dv y) (k3_pay6 st) b2 (ix2 r ⟨d.val, hd⟩) = Spec.kout Q i d := by
  pointwise [k3_pay1, k3_pay2, k3_pay3, k3_pay4, k3_pay5, k3_pay6]
  simp only [h0, h1, hs0, hs1, hs2, hdv, hy, hyr, hwob, hphi, hb2]
  rfl

/-- The result, entry by entry. -/
theorem out_apply (i : Fin 2048) (d : Fin 2) : X5 m c (Proc.devRef .tc main_v42) (ix2 i d) = Spec.kout (P m c) i d := by
  have hd : d.val < 8 := Nat.lt_of_lt_of_le d.isLt (by decide)
  have e : X5 m c (Proc.devRef .tc main_v42) (ix2 i d) = Y4 m c main_v41 (ix2 i ⟨d.val, hd⟩) := by
    have k : X5 m c (Proc.devRef .tc main_v42) = extractStridedSlice S2048x2 ![0, 0] (X4 m c (Proc.devRef .tc main_v41)) slices_S2048x8_S2048x2_0_0 := by
      unfold X5; rw [after_cons, after_nil, unary_result]
    rw [k]; pointwise
  refine e.trans ?_
  obtain ⟨t, r, h, rfl⟩ := row_split i
  refine (congrFun (X4_arr m c 7) _).trans ((final3_apply (Y3 m) c t r ⟨d.val, hd⟩ h).trans ?_)
  rw [out3_7_eq, Y3_keep m c main_v31 (by decide), Y3_keep m c main_v32 (by decide), Y3_keep m c main_v30 (by decide),
    Y3_keep' m c main_v39_1 (by decide), Y3_keep' m c main_v39_2 (by decide)]
  exact pay3_apply (P m c) ⟨t.val * 256 + r.val, h⟩ r d hd _ _ _ _ _ _ _ _ _
    (fun a => (blk3_0_apply (Y3 m) c t r a h).trans ((congrFun (Y3_keep' m c main_v39_0 (by decide)) _).trans (q_apply m c _ a)))
    (k_apply m c)
    ((ld_rows3 _ t r 0 h).trans (st0 m c _)) ((ld_rows3 _ t r 1 h).trans (st1 m c _)) ((ld_rows3 _ t r 2 h).trans (st2 m c _))
    (fun j => (ld_col3 _ j).trans (st2 m c j)) (fun j => y_apply m c j d hd) ((ld_rows3 _ t r _ h).trans (y_apply m c _ d hd))
    (yv31 m c) (yv32 m c) (yv30 m c d hd)

end Cert.KernelIdeal.Regions

end
-- ==== Proof.Algebraic.lean ====
/- The two results are equal: the kernel's and the reference's, from equal arguments that meet the precondition. -/
module

public import proofs.«01_k».proof.Defs
public import proofs.«01_k».proof.Proof.Finite
public import proofs.«01_k».proof.Proof.RefValue
public import proofs.«01_k».proof.Proof.KernelIdeal.Value

@[expose] public section

set_option maxRecDepth 16384

noncomputable section

namespace Cert.Equal

open Idealize.ShloMosaic Idealize.ShloMosaic.TcCoe Idealize.ShloMosaic.StableHlo

/-- The precondition makes the kernel's arguments real. -/
theorem reals [Cert.Pre_finite_weights.Facts] (m : (ℓ : Loc Cert.KernelIdeal.nD Cert.KernelIdeal.τ Cert.KernelIdeal.sig) → Buf (Elt Ideal) ℓ)
    (h : Pre_KernelIdeal_finite_weights m) (c : Dev Cert.KernelIdeal.nD) : (Cert.KernelIdeal.Regions.P m c).Reals :=
  Cert.Finite.reals _ _ _ _ _ _ _ _ _ _ _ _ _ _ _ _ _ _ _ (h c)

/-- Equal arguments are equal parameters. -/
theorem params_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Host.P m' c = Cert.KernelIdeal.Regions.P m c := by
  obtain ⟨h0, h1, h2, h3, h4, h5, h6, h7, h8, h9, h10, h11, h12, h13, h14, h15, h16, h17, h18⟩ := h
  unfold Cert.ReferenceIdeal.Host.P Cert.KernelIdeal.Regions.P
  congr 1

/-- From equal parameters, real where the precondition asks it, the reference leaves what the kernel leaves. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.ReferenceIdeal.Host.P m' c = Cert.KernelIdeal.Regions.P m c) (hr : (Cert.KernelIdeal.Regions.P m c).Reals)
    (i : Fin 2048) (d : Fin 2) :
    (after Cert.ReferenceIdeal.Host.post (Cert.ReferenceIdeal.Host.W m' c) (Proc.devRef .tc Cert.ReferenceIdeal.main_v89) (ix2 i d) : EReal)
      = Cert.KernelIdeal.Regions.X5 m c (Proc.devRef .tc Cert.KernelIdeal.main_v42) (ix2 i d) :=
  (Cert.ReferenceIdeal.Host.z_v89 m' c i d).trans ((congrArg (fun p => Spec.rout p i d) hp).trans
    ((Spec.kout_eq_rout _ hr i d).symm.trans (Cert.KernelIdeal.Regions.out_apply m c i d).symm))

end Cert.Equal

end
-- ==== Proof.lean ====
/- The proof of the claim: the three frames, that the ideal program is the kernel's over the extended reals, and the equation of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Idx
public import proofs.«01_k».proof.Proof.KernelIdeal.Idx
public import proofs.«01_k».proof.Proof.RefRun
public import proofs.«01_k».proof.Proof.Algebraic

@[expose] public section

set_option maxRecDepth 16384

noncomputable section

namespace Cert.Proof

open Idealize.ShloMosaic Idealize.ShloMosaic.TcCoe Idealize.ShloMosaic.StableHlo Idealize.SL.Sem

/-- The kernel's run leaves its arguments unchanged and every semaphore counter at zero. -/
theorem frame_Kernel : quiescent_Kernel (hKernel := Cert.Kernel.Gen.facts) := fun m g _ =>
  (θ_run Cert.Kernel.defs _ _).mono (fun r h => ⟨fun c => by
    have k := fun (a : Ref Cert.Kernel.sig .tc) (ha : a ∈ Cert.Kernel.Regions.argRefs) (hs : (Proc.devRef .tc a : DevRef Cert.Kernel.τ Cert.Kernel.sig).isScoped = false) => (h.1 c _ (Cert.Kernel.Regions.mem_uc a (by rw [hs]; decide))).trans (Cert.Kernel.Regions.X5_args m c a ha)
    exact ⟨k Cert.Kernel.main_arg0 (by decide) rfl, k Cert.Kernel.main_arg1 (by decide) rfl, k Cert.Kernel.main_arg2 (by decide) rfl, k Cert.Kernel.main_arg3 (by decide) rfl, k Cert.Kernel.main_arg4 (by decide) rfl, k Cert.Kernel.main_arg5 (by decide) rfl, k Cert.Kernel.main_arg6 (by decide) rfl, k Cert.Kernel.main_arg7 (by decide) rfl, k Cert.Kernel.main_arg8 (by decide) rfl, k Cert.Kernel.main_arg9 (by decide) rfl, k Cert.Kernel.main_arg10 (by decide) rfl, k Cert.Kernel.main_arg11 (by decide) rfl, k Cert.Kernel.main_arg12 (by decide) rfl, k Cert.Kernel.main_arg13 (by decide) rfl, k Cert.Kernel.main_arg14 (by decide) rfl, k Cert.Kernel.main_arg15 (by decide) rfl, k Cert.Kernel.main_arg16 (by decide) rfl, k Cert.Kernel.main_arg17 (by decide) rfl, k Cert.Kernel.main_arg18 (by decide) rfl⟩, h.2⟩) (Cert.Kernel.Regions.run m g (Cert.Kernel.Regions.settles m))

/-- The ideal kernel's run leaves its arguments unchanged and every semaphore counter at zero. -/
theorem frame_KernelIdeal : quiescent_KernelIdeal (hKernelIdeal := Cert.KernelIdeal.Gen.facts) := fun m g _ =>
  (θ_run Cert.KernelIdeal.defs _ _).mono (fun r h => ⟨fun c => by
    have k := fun (a : Ref Cert.KernelIdeal.sig .tc) (ha : a ∈ Cert.KernelIdeal.Regions.argRefs) (hs : (Proc.devRef .tc a : DevRef Cert.KernelIdeal.τ Cert.KernelIdeal.sig).isScoped = false) => (h.1 c _ (Cert.KernelIdeal.Regions.mem_uc a (by rw [hs]; decide))).trans (Cert.KernelIdeal.Regions.X5_args m c a ha)
    exact ⟨k Cert.KernelIdeal.main_arg0 (by decide) rfl, k Cert.KernelIdeal.main_arg1 (by decide) rfl, k Cert.KernelIdeal.main_arg2 (by decide) rfl, k Cert.KernelIdeal.main_arg3 (by decide) rfl, k Cert.KernelIdeal.main_arg4 (by decide) rfl, k Cert.KernelIdeal.main_arg5 (by decide) rfl, k Cert.KernelIdeal.main_arg6 (by decide) rfl, k Cert.KernelIdeal.main_arg7 (by decide) rfl, k Cert.KernelIdeal.main_arg8 (by decide) rfl, k Cert.KernelIdeal.main_arg9 (by decide) rfl, k Cert.KernelIdeal.main_arg10 (by decide) rfl, k Cert.KernelIdeal.main_arg11 (by decide) rfl, k Cert.KernelIdeal.main_arg12 (by decide) rfl, k Cert.KernelIdeal.main_arg13 (by decide) rfl, k Cert.KernelIdeal.main_arg14 (by decide) rfl, k Cert.KernelIdeal.main_arg15 (by decide) rfl, k Cert.KernelIdeal.main_arg16 (by decide) rfl, k Cert.KernelIdeal.main_arg17 (by decide) rfl, k Cert.KernelIdeal.main_arg18 (by decide) rfl⟩, h.2⟩) (Cert.KernelIdeal.Regions.run m g (Cert.KernelIdeal.Regions.settles m))

/-- The reference's run leaves its arguments unchanged and every semaphore counter at zero. -/
theorem frame_ReferenceIdeal : quiescent_ReferenceIdeal (hReferenceIdeal := Cert.ReferenceIdeal.Gen.facts) := fun m g _ =>
  (θ_run Cert.ReferenceIdeal.defs _ _).mono (fun r h => ⟨fun c => by
    have k := fun (a : Ref Cert.ReferenceIdeal.sig .tc) (ha : a ∈ Cert.ReferenceIdeal.Host.argRefs) (hs : (Proc.devRef .tc a : DevRef Cert.ReferenceIdeal.τ Cert.ReferenceIdeal.sig).isScoped = false) => (h.1 c a hs).trans (Cert.ReferenceIdeal.Host.final_args m c a ha)
    exact ⟨k Cert.ReferenceIdeal.main_arg0 (by decide) rfl, k Cert.ReferenceIdeal.main_arg1 (by decide) rfl, k Cert.ReferenceIdeal.main_arg2 (by decide) rfl, k Cert.ReferenceIdeal.main_arg3 (by decide) rfl, k Cert.ReferenceIdeal.main_arg4 (by decide) rfl, k Cert.ReferenceIdeal.main_arg5 (by decide) rfl, k Cert.ReferenceIdeal.main_arg6 (by decide) rfl, k Cert.ReferenceIdeal.main_arg7 (by decide) rfl, k Cert.ReferenceIdeal.main_arg8 (by decide) rfl, k Cert.ReferenceIdeal.main_arg9 (by decide) rfl, k Cert.ReferenceIdeal.main_arg10 (by decide) rfl, k Cert.ReferenceIdeal.main_arg11 (by decide) rfl, k Cert.ReferenceIdeal.main_arg12 (by decide) rfl, k Cert.ReferenceIdeal.main_arg13 (by decide) rfl, k Cert.ReferenceIdeal.main_arg14 (by decide) rfl, k Cert.ReferenceIdeal.main_arg15 (by decide) rfl, k Cert.ReferenceIdeal.main_arg16 (by decide) rfl, k Cert.ReferenceIdeal.main_arg17 (by decide) rfl, k Cert.ReferenceIdeal.main_arg18 (by decide) rfl⟩, h.2⟩) (Cert.ReferenceIdeal.Host.run m g)

/-- From equal arguments that meet the precondition, the ideal kernel and the reference end with the same result. -/
theorem algebraic : algebraic_KernelIdeal_ReferenceIdeal_pre_finite_weights (hKernelIdeal := Cert.KernelIdeal.Gen.facts)
    (hReferenceIdeal := Cert.ReferenceIdeal.Gen.facts) (hPre_finite_weights := Cert.Finite.facts) := fun m g m' g' hpre hargs =>
  ⟨fun c => Cert.KernelIdeal.Regions.X5 m c (Proc.devRef .tc Cert.KernelIdeal.main_v42),
  (θ_run Cert.KernelIdeal.defs _ _).mono (fun r h c => by
    have k := fun (a : Ref Cert.KernelIdeal.sig .tc) (ha : a ∈ Cert.KernelIdeal.Regions.argRefs) (hs : (Proc.devRef .tc a : DevRef Cert.KernelIdeal.τ Cert.KernelIdeal.sig).isScoped = false) => (h.1 c _ (Cert.KernelIdeal.Regions.mem_uc a (by rw [hs]; decide))).trans (Cert.KernelIdeal.Regions.X5_args m c a ha)
    exact ⟨h.1 c _ (Cert.KernelIdeal.Regions.mem_uc Cert.KernelIdeal.main_v42 (by decide)), k Cert.KernelIdeal.main_arg0 (by decide) rfl, k Cert.KernelIdeal.main_arg1 (by decide) rfl, k Cert.KernelIdeal.main_arg2 (by decide) rfl, k Cert.KernelIdeal.main_arg3 (by decide) rfl, k Cert.KernelIdeal.main_arg4 (by decide) rfl, k Cert.KernelIdeal.main_arg5 (by decide) rfl, k Cert.KernelIdeal.main_arg6 (by decide) rfl, k Cert.KernelIdeal.main_arg7 (by decide) rfl, k Cert.KernelIdeal.main_arg8 (by decide) rfl, k Cert.KernelIdeal.main_arg9 (by decide) rfl, k Cert.KernelIdeal.main_arg10 (by decide) rfl, k Cert.KernelIdeal.main_arg11 (by decide) rfl, k Cert.KernelIdeal.main_arg12 (by decide) rfl, k Cert.KernelIdeal.main_arg13 (by decide) rfl, k Cert.KernelIdeal.main_arg14 (by decide) rfl, k Cert.KernelIdeal.main_arg15 (by decide) rfl, k Cert.KernelIdeal.main_arg16 (by decide) rfl, k Cert.KernelIdeal.main_arg17 (by decide) rfl, k Cert.KernelIdeal.main_arg18 (by decide) rfl⟩) (Cert.KernelIdeal.Regions.run m g (Cert.KernelIdeal.Regions.settles m)),
  (θ_run Cert.ReferenceIdeal.defs _ _).mono (fun r h c => by
    have k := fun (a : Ref Cert.ReferenceIdeal.sig .tc) (ha : a ∈ Cert.ReferenceIdeal.Host.argRefs) (hs : (Proc.devRef .tc a : DevRef Cert.ReferenceIdeal.τ Cert.ReferenceIdeal.sig).isScoped = false) => (h.1 c a hs).trans (Cert.ReferenceIdeal.Host.final_args m' c a ha)
    have e : after Cert.ReferenceIdeal.Host.post (Cert.ReferenceIdeal.Host.W m' c) (Proc.devRef .tc Cert.ReferenceIdeal.main_v89)
        = Cert.KernelIdeal.Regions.X5 m c (Proc.devRef .tc Cert.KernelIdeal.main_v42) := by
      have hp := Cert.Equal.params_eq m m' c (hargs c)
      have hr := @Cert.Equal.reals Cert.Finite.facts m hpre c
      refine funext fun y => ?_
      obtain ⟨i, d, rfl⟩ : ∃ (i : Fin 2048) (d : Fin 2), y = ix2 i d := ⟨_, _, eq_ix2 y⟩
      exact Cert.Equal.out_eq m m' c hp hr i d
    exact ⟨(h.1 c Cert.ReferenceIdeal.main_v89 rfl).trans e, k Cert.ReferenceIdeal.main_arg0 (by decide) rfl, k Cert.ReferenceIdeal.main_arg1 (by decide) rfl, k Cert.ReferenceIdeal.main_arg2 (by decide) rfl, k Cert.ReferenceIdeal.main_arg3 (by decide) rfl, k Cert.ReferenceIdeal.main_arg4 (by decide) rfl, k Cert.ReferenceIdeal.main_arg5 (by decide) rfl, k Cert.ReferenceIdeal.main_arg6 (by decide) rfl, k Cert.ReferenceIdeal.main_arg7 (by decide) rfl, k Cert.ReferenceIdeal.main_arg8 (by decide) rfl, k Cert.ReferenceIdeal.main_arg9 (by decide) rfl, k Cert.ReferenceIdeal.main_arg10 (by decide) rfl, k Cert.ReferenceIdeal.main_arg11 (by decide) rfl, k Cert.ReferenceIdeal.main_arg12 (by decide) rfl, k Cert.ReferenceIdeal.main_arg13 (by decide) rfl, k Cert.ReferenceIdeal.main_arg14 (by decide) rfl, k Cert.ReferenceIdeal.main_arg15 (by decide) rfl, k Cert.ReferenceIdeal.main_arg16 (by decide) rfl, k Cert.ReferenceIdeal.main_arg17 (by decide) rfl, k Cert.ReferenceIdeal.main_arg18 (by decide) rfl⟩) (Cert.ReferenceIdeal.Host.run m' g')⟩

/-- The claim. -/
theorem claim : Cert.Claim := ⟨Cert.Kernel.Gen.facts, Cert.KernelIdeal.Gen.facts, Cert.ReferenceIdeal.Gen.facts, Cert.Finite.facts,
  frame_Kernel, frame_KernelIdeal, fun m g _ => frame_KernelIdeal m g True.intro, frame_ReferenceIdeal, fun m g _ => frame_ReferenceIdeal m g True.intro,
  trivial, algebraic⟩

end Cert.Proof

end
